-- ==== Defs.lean ====
def Pre_HgrnP (m : (ℓ : Loc Cert.HgrnP.nD Cert.HgrnP.τ Cert.HgrnP.sig) → Buf (Elt Bits) ℓ) : Prop :=
  True

def Pre_HgrnPIdeal (m : (ℓ : Loc Cert.HgrnPIdeal.nD Cert.HgrnPIdeal.τ Cert.HgrnPIdeal.sig) → Buf (Elt Ideal) ℓ) : Prop :=
  True

def Pre_HgrnPIdeal_decay_bounded [hPre_decay_bounded : Cert.Pre_decay_bounded.Facts] (m : (ℓ : Loc Cert.HgrnPIdeal.nD Cert.HgrnPIdeal.τ Cert.HgrnPIdeal.sig) → Buf (Elt Ideal) ℓ) : Prop :=
  ∀ c : Dev Cert.HgrnPIdeal.nD,
    (Cert.Pre_decay_bounded.fn (F := Ideal) (m ((c.tc : Thread Cert.HgrnPIdeal.nD Cert.HgrnPIdeal.τ).loc Cert.HgrnPIdeal.main_arg0)) (m ((c.tc : Thread Cert.HgrnPIdeal.nD Cert.HgrnPIdeal.τ).loc Cert.HgrnPIdeal.main_arg1)) (m ((c.tc : Thread Cert.HgrnPIdeal.nD Cert.HgrnPIdeal.τ).loc Cert.HgrnPIdeal.main_arg2))) = (fun _ => 1#1)

def Pre_RefPIdeal (m : (ℓ : Loc Cert.RefPIdeal.nD Cert.RefPIdeal.τ Cert.RefPIdeal.sig) → Buf (Elt Ideal) ℓ) : Prop :=
  True

def Pre_RefPIdeal_decay_bounded [hPre_decay_bounded : Cert.Pre_decay_bounded.Facts] (m : (ℓ : Loc Cert.RefPIdeal.nD Cert.RefPIdeal.τ Cert.RefPIdeal.sig) → Buf (Elt Ideal) ℓ) : Prop :=
  ∀ c : Dev Cert.RefPIdeal.nD,
    (Cert.Pre_decay_bounded.fn (F := Ideal) (m ((c.tc : Thread Cert.RefPIdeal.nD Cert.RefPIdeal.τ).loc Cert.RefPIdeal.main_arg0)) (m ((c.tc : Thread Cert.RefPIdeal.nD Cert.RefPIdeal.τ).loc Cert.RefPIdeal.main_arg1)) (m ((c.tc : Thread Cert.RefPIdeal.nD Cert.RefPIdeal.τ).loc Cert.RefPIdeal.main_arg2))) = (fun _ => 1#1)

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_RefMemKvIdeal (m : (ℓ : Loc Cert.RefMemKvIdeal.nD Cert.RefMemKvIdeal.τ Cert.RefMemKvIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_RefProjInIdeal (m : (ℓ : Loc Cert.RefProjInIdeal.nD Cert.RefProjInIdeal.τ Cert.RefProjInIdeal.sig) → Buf (Elt Ideal) ℓ) : Prop :=
  True

def Pre_PeerQuery (m : (ℓ : Loc Cert.PeerQuery.nD Cert.PeerQuery.τ Cert.PeerQuery.sig) → Buf (Elt Bits) ℓ) : Prop :=
  True

def Pre_PeerQueryIdeal (m : (ℓ : Loc Cert.PeerQueryIdeal.nD Cert.PeerQueryIdeal.τ Cert.PeerQueryIdeal.sig) → Buf (Elt Ideal) ℓ) : Prop :=
  True

def Pre_RefPeerQueryIdeal (m : (ℓ : Loc Cert.RefPeerQueryIdeal.nD Cert.RefPeerQueryIdeal.τ Cert.RefPeerQueryIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_RefMergeIdeal (m : (ℓ : Loc Cert.RefMergeIdeal.nD Cert.RefMergeIdeal.τ Cert.RefMergeIdeal.sig) → Buf (Elt Ideal) ℓ) : Prop :=
  True

def Pre_Resid (m : (ℓ : Loc Cert.Resid.nD Cert.Resid.τ Cert.Resid.sig) → Buf (Elt Bits) ℓ) : Prop :=
  True

def Pre_ResidIdeal (m : (ℓ : Loc Cert.ResidIdeal.nD Cert.ResidIdeal.τ Cert.ResidIdeal.sig) → Buf (Elt Ideal) ℓ) : Prop :=
  True

def Pre_RefResidIdeal (m : (ℓ : Loc Cert.RefResidIdeal.nD Cert.RefResidIdeal.τ Cert.RefResidIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_RefNormIdeal (m : (ℓ : Loc Cert.RefNormIdeal.nD Cert.RefNormIdeal.τ Cert.RefNormIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_RefMemAttnIdeal (m : (ℓ : Loc Cert.RefMemAttnIdeal.nD Cert.RefMemAttnIdeal.τ Cert.RefMemAttnIdeal.sig) → Buf (Elt Ideal) ℓ) : Prop :=
  True

def quiescent_HgrnP [hHgrnP : Cert.HgrnP.Facts] : Prop :=
  ∀ (m : (ℓ : Loc Cert.HgrnP.nD Cert.HgrnP.τ Cert.HgrnP.sig) → Buf (Elt Bits) ℓ) (g : Dev Cert.HgrnP.nD → PrngReg), Pre_HgrnP m →
    θ_run (Cert.HgrnP.defs (F := Bits)) (onTc (τ := Cert.HgrnP.τ) (Cert.HgrnP.main (F := Bits))) ⟨m, fun _ => 0, g⟩ (fun r => (∀ c : Dev Cert.HgrnP.nD,
      r.2.mem ((c.tc : Thread Cert.HgrnP.nD Cert.HgrnP.τ).loc Cert.HgrnP.main_arg0) = m ((c.tc : Thread Cert.HgrnP.nD Cert.HgrnP.τ).loc Cert.HgrnP.main_arg0)
      ∧ r.2.mem ((c.tc : Thread Cert.HgrnP.nD Cert.HgrnP.τ).loc Cert.HgrnP.main_arg1) = m ((c.tc : Thread Cert.HgrnP.nD Cert.HgrnP.τ).loc Cert.HgrnP.main_arg1)
      ∧ r.2.mem ((c.tc : Thread Cert.HgrnP.nD Cert.HgrnP.τ).loc Cert.HgrnP.main_arg2) = m ((c.tc : Thread Cert.HgrnP.nD Cert.HgrnP.τ).loc Cert.HgrnP.main_arg2))
      ∧ r.2.sem = fun _ => 0)

def quiescent_HgrnPIdeal [hHgrnPIdeal : Cert.HgrnPIdeal.Facts] : Prop :=
  ∀ (m : (ℓ : Loc Cert.HgrnPIdeal.nD Cert.HgrnPIdeal.τ Cert.HgrnPIdeal.sig) → Buf (Elt Ideal) ℓ) (g : Dev Cert.HgrnPIdeal.nD → PrngReg), Pre_HgrnPIdeal m →
    θ_run (Cert.HgrnPIdeal.defs (F := Ideal)) (onTc (τ := Cert.HgrnPIdeal.τ) (Cert.HgrnPIdeal.main (F := Ideal))) ⟨m, fun _ => 0, g⟩ (fun r => (∀ c : Dev Cert.HgrnPIdeal.nD,
      r.2.mem ((c.tc : Thread Cert.HgrnPIdeal.nD Cert.HgrnPIdeal.τ).loc Cert.HgrnPIdeal.main_arg0) = m ((c.tc : Thread Cert.HgrnPIdeal.nD Cert.HgrnPIdeal.τ).loc Cert.HgrnPIdeal.main_arg0)
      ∧ r.2.mem ((c.tc : Thread Cert.HgrnPIdeal.nD Cert.HgrnPIdeal.τ).loc Cert.HgrnPIdeal.main_arg1) = m ((c.tc : Thread Cert.HgrnPIdeal.nD Cert.HgrnPIdeal.τ).loc Cert.HgrnPIdeal.main_arg1)
      ∧ r.2.mem ((c.tc : Thread Cert.HgrnPIdeal.nD Cert.HgrnPIdeal.τ).loc Cert.HgrnPIdeal.main_arg2) = m ((c.tc : Thread Cert.HgrnPIdeal.nD Cert.HgrnPIdeal.τ).loc Cert.HgrnPIdeal.main_arg2))
      ∧ r.2.sem = fun _ => 0)

def quiescent_HgrnPIdeal_pre_decay_bounded [hHgrnPIdeal : Cert.HgrnPIdeal.Facts] [hPre_decay_bounded : Cert.Pre_decay_bounded.Facts] : Prop :=
  ∀ (m : (ℓ : Loc Cert.HgrnPIdeal.nD Cert.HgrnPIdeal.τ Cert.HgrnPIdeal.sig) → Buf (Elt Ideal) ℓ) (g : Dev Cert.HgrnPIdeal.nD → PrngReg), Pre_HgrnPIdeal_decay_bounded m →
    θ_run (Cert.HgrnPIdeal.defs (F := Ideal)) (onTc (τ := Cert.HgrnPIdeal.τ) (Cert.HgrnPIdeal.main (F := Ideal))) ⟨m, fun _ => 0, g⟩ (fun r => (∀ c : Dev Cert.HgrnPIdeal.nD,
      r.2.mem ((c.tc : Thread Cert.HgrnPIdeal.nD Cert.HgrnPIdeal.τ).loc Cert.HgrnPIdeal.main_arg0) = m ((c.tc : Thread Cert.HgrnPIdeal.nD Cert.HgrnPIdeal.τ).loc Cert.HgrnPIdeal.main_arg0)
      ∧ r.2.mem ((c.tc : Thread Cert.HgrnPIdeal.nD Cert.HgrnPIdeal.τ).loc Cert.HgrnPIdeal.main_arg1) = m ((c.tc : Thread Cert.HgrnPIdeal.nD Cert.HgrnPIdeal.τ).loc Cert.HgrnPIdeal.main_arg1)
      ∧ r.2.mem ((c.tc : Thread Cert.HgrnPIdeal.nD Cert.HgrnPIdeal.τ).loc Cert.HgrnPIdeal.main_arg2) = m ((c.tc : Thread Cert.HgrnPIdeal.nD Cert.HgrnPIdeal.τ).loc Cert.HgrnPIdeal.main_arg2))
      ∧ r.2.sem = fun _ => 0)

def quiescent_RefPIdeal [hRefPIdeal : Cert.RefPIdeal.Facts] : Prop :=
  ∀ (m : (ℓ : Loc Cert.RefPIdeal.nD Cert.RefPIdeal.τ Cert.RefPIdeal.sig) → Buf (Elt Ideal) ℓ) (g : Dev Cert.RefPIdeal.nD → PrngReg), Pre_RefPIdeal m →
    θ_run (Cert.RefPIdeal.defs (F := Ideal)) (onTc (τ := Cert.RefPIdeal.τ) (Cert.RefPIdeal.main (F := Ideal))) ⟨m, fun _ => 0, g⟩ (fun r => (∀ c : Dev Cert.RefPIdeal.nD,
      r.2.mem ((c.tc : Thread Cert.RefPIdeal.nD Cert.RefPIdeal.τ).loc Cert.RefPIdeal.main_arg0) = m ((c.tc : Thread Cert.RefPIdeal.nD Cert.RefPIdeal.τ).loc Cert.RefPIdeal.main_arg0)
      ∧ r.2.mem ((c.tc : Thread Cert.RefPIdeal.nD Cert.RefPIdeal.τ).loc Cert.RefPIdeal.main_arg1) = m ((c.tc : Thread Cert.RefPIdeal.nD Cert.RefPIdeal.τ).loc Cert.RefPIdeal.main_arg1)
      ∧ r.2.mem ((c.tc : Thread Cert.RefPIdeal.nD Cert.RefPIdeal.τ).loc Cert.RefPIdeal.main_arg2) = m ((c.tc : Thread Cert.RefPIdeal.nD Cert.RefPIdeal.τ).loc Cert.RefPIdeal.main_arg2))
      ∧ r.2.sem = fun _ => 0)

def quiescent_RefPIdeal_pre_decay_bounded [hRefPIdeal : Cert.RefPIdeal.Facts] [hPre_decay_bounded : Cert.Pre_decay_bounded.Facts] : Prop :=
  ∀ (m : (ℓ : Loc Cert.RefPIdeal.nD Cert.RefPIdeal.τ Cert.RefPIdeal.sig) → Buf (Elt Ideal) ℓ) (g : Dev Cert.RefPIdeal.nD → PrngReg), Pre_RefPIdeal_decay_bounded m →
    θ_run (Cert.RefPIdeal.defs (F := Ideal)) (onTc (τ := Cert.RefPIdeal.τ) (Cert.RefPIdeal.main (F := Ideal))) ⟨m, fun _ => 0, g⟩ (fun r => (∀ c : Dev Cert.RefPIdeal.nD,
      r.2.mem ((c.tc : Thread Cert.RefPIdeal.nD Cert.RefPIdeal.τ).loc Cert.RefPIdeal.main_arg0) = m ((c.tc : Thread Cert.RefPIdeal.nD Cert.RefPIdeal.τ).loc Cert.RefPIdeal.main_arg0)
      ∧ r.2.mem ((c.tc : Thread Cert.RefPIdeal.nD Cert.RefPIdeal.τ).loc Cert.RefPIdeal.main_arg1) = m ((c.tc : Thread Cert.RefPIdeal.nD Cert.RefPIdeal.τ).loc Cert.RefPIdeal.main_arg1)
      ∧ r.2.mem ((c.tc : Thread Cert.RefPIdeal.nD Cert.RefPIdeal.τ).loc Cert.RefPIdeal.main_arg2) = m ((c.tc : Thread Cert.RefPIdeal.nD Cert.RefPIdeal.τ).loc Cert.RefPIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_RefMemKvIdeal [hRefMemKvIdeal : Cert.RefMemKvIdeal.Facts] : Prop :=
  ∀ (m : (ℓ : Loc Cert.RefMemKvIdeal.nD Cert.RefMemKvIdeal.τ Cert.RefMemKvIdeal.sig) → Buf (Elt Ideal) ℓ) (g : Dev Cert.RefMemKvIdeal.nD → PrngReg), Pre_RefMemKvIdeal m →
    θ_run (Cert.RefMemKvIdeal.defs (F := Ideal)) (onTc (τ := Cert.RefMemKvIdeal.τ) (Cert.RefMemKvIdeal.main (F := Ideal))) ⟨m, fun _ => 0, g⟩ (fun r => (∀ c : Dev Cert.RefMemKvIdeal.nD,
      r.2.mem ((c.tc : Thread Cert.RefMemKvIdeal.nD Cert.RefMemKvIdeal.τ).loc Cert.RefMemKvIdeal.main_arg0) = m ((c.tc : Thread Cert.RefMemKvIdeal.nD Cert.RefMemKvIdeal.τ).loc Cert.RefMemKvIdeal.main_arg0)
      ∧ r.2.mem ((c.tc : Thread Cert.RefMemKvIdeal.nD Cert.RefMemKvIdeal.τ).loc Cert.RefMemKvIdeal.main_arg1) = m ((c.tc : Thread Cert.RefMemKvIdeal.nD Cert.RefMemKvIdeal.τ).loc Cert.RefMemKvIdeal.main_arg1))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1)
      ∧ r.2.mem ((c.tc : Thread Cert.ProjIn.nD Cert.ProjIn.τ).loc Cert.ProjIn.main_arg2) = m ((c.tc : Thread Cert.ProjIn.nD Cert.ProjIn.τ).loc Cert.ProjIn.main_arg2)
      ∧ r.2.mem ((c.tc : Thread Cert.ProjIn.nD Cert.ProjIn.τ).loc Cert.ProjIn.main_arg3) = m ((c.tc : Thread Cert.ProjIn.nD Cert.ProjIn.τ).loc Cert.ProjIn.main_arg3)
      ∧ r.2.mem ((c.tc : Thread Cert.ProjIn.nD Cert.ProjIn.τ).loc Cert.ProjIn.main_arg4) = m ((c.tc : Thread Cert.ProjIn.nD Cert.ProjIn.τ).loc Cert.ProjIn.main_arg4))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
      ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
      ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3)
      ∧ r.2.mem ((c.tc : Thread Cert.ProjInIdeal.nD Cert.ProjInIdeal.τ).loc Cert.ProjInIdeal.main_arg4) = m ((c.tc : Thread Cert.ProjInIdeal.nD Cert.ProjInIdeal.τ).loc Cert.ProjInIdeal.main_arg4))
      ∧ r.2.sem = fun _ => 0)

def quiescent_RefProjInIdeal [hRefProjInIdeal : Cert.RefProjInIdeal.Facts] : Prop :=
  ∀ (m : (ℓ : Loc Cert.RefProjInIdeal.nD Cert.RefProjInIdeal.τ Cert.RefProjInIdeal.sig) → Buf (Elt Ideal) ℓ) (g : Dev Cert.RefProjInIdeal.nD → PrngReg), Pre_RefProjInIdeal m →
    θ_run (Cert.RefProjInIdeal.defs (F := Ideal)) (onTc (τ := Cert.RefProjInIdeal.τ) (Cert.RefProjInIdeal.main (F := Ideal))) ⟨m, fun _ => 0, g⟩ (fun r => (∀ c : Dev Cert.RefProjInIdeal.nD,
      r.2.mem ((c.tc : Thread Cert.RefProjInIdeal.nD Cert.RefProjInIdeal.τ).loc Cert.RefProjInIdeal.main_arg0) = m ((c.tc : Thread Cert.RefProjInIdeal.nD Cert.RefProjInIdeal.τ).loc Cert.RefProjInIdeal.main_arg0)
      ∧ r.2.mem ((c.tc : Thread Cert.RefProjInIdeal.nD Cert.RefProjInIdeal.τ).loc Cert.RefProjInIdeal.main_arg1) = m ((c.tc : Thread Cert.RefProjInIdeal.nD Cert.RefProjInIdeal.τ).loc Cert.RefProjInIdeal.main_arg1)
      ∧ r.2.mem ((c.tc : Thread Cert.RefProjInIdeal.nD Cert.RefProjInIdeal.τ).loc Cert.RefProjInIdeal.main_arg2) = m ((c.tc : Thread Cert.RefProjInIdeal.nD Cert.RefProjInIdeal.τ).loc Cert.RefProjInIdeal.main_arg2)
      ∧ r.2.mem ((c.tc : Thread Cert.RefProjInIdeal.nD Cert.RefProjInIdeal.τ).loc Cert.RefProjInIdeal.main_arg3) = m ((c.tc : Thread Cert.RefProjInIdeal.nD Cert.RefProjInIdeal.τ).loc Cert.RefProjInIdeal.main_arg3)
      ∧ r.2.mem ((c.tc : Thread Cert.RefProjInIdeal.nD Cert.RefProjInIdeal.τ).loc Cert.RefProjInIdeal.main_arg4) = m ((c.tc : Thread Cert.RefProjInIdeal.nD Cert.RefProjInIdeal.τ).loc Cert.RefProjInIdeal.main_arg4))
      ∧ r.2.sem = fun _ => 0)

def quiescent_PeerQuery [hPeerQuery : Cert.PeerQuery.Facts] : Prop :=
  ∀ (m : (ℓ : Loc Cert.PeerQuery.nD Cert.PeerQuery.τ Cert.PeerQuery.sig) → Buf (Elt Bits) ℓ) (g : Dev Cert.PeerQuery.nD → PrngReg), Pre_PeerQuery m →
    θ_run (Cert.PeerQuery.defs (F := Bits)) (onTc (τ := Cert.PeerQuery.τ) (Cert.PeerQuery.main (F := Bits))) ⟨m, fun _ => 0, g⟩ (fun r => (∀ c : Dev Cert.PeerQuery.nD,
      r.2.mem ((c.tc : Thread Cert.PeerQuery.nD Cert.PeerQuery.τ).loc Cert.PeerQuery.main_arg0) = m ((c.tc : Thread Cert.PeerQuery.nD Cert.PeerQuery.τ).loc Cert.PeerQuery.main_arg0)
      ∧ r.2.mem ((c.tc : Thread Cert.PeerQuery.nD Cert.PeerQuery.τ).loc Cert.PeerQuery.main_arg1) = m ((c.tc : Thread Cert.PeerQuery.nD Cert.PeerQuery.τ).loc Cert.PeerQuery.main_arg1))
      ∧ r.2.sem = fun _ => 0)

def quiescent_PeerQueryIdeal [hPeerQueryIdeal : Cert.PeerQueryIdeal.Facts] : Prop :=
  ∀ (m : (ℓ : Loc Cert.PeerQueryIdeal.nD Cert.PeerQueryIdeal.τ Cert.PeerQueryIdeal.sig) → Buf (Elt Ideal) ℓ) (g : Dev Cert.PeerQueryIdeal.nD → PrngReg), Pre_PeerQueryIdeal m →
    θ_run (Cert.PeerQueryIdeal.defs (F := Ideal)) (onTc (τ := Cert.PeerQueryIdeal.τ) (Cert.PeerQueryIdeal.main (F := Ideal))) ⟨m, fun _ => 0, g⟩ (fun r => (∀ c : Dev Cert.PeerQueryIdeal.nD,
      r.2.mem ((c.tc : Thread Cert.PeerQueryIdeal.nD Cert.PeerQueryIdeal.τ).loc Cert.PeerQueryIdeal.main_arg0) = m ((c.tc : Thread Cert.PeerQueryIdeal.nD Cert.PeerQueryIdeal.τ).loc Cert.PeerQueryIdeal.main_arg0)
      ∧ r.2.mem ((c.tc : Thread Cert.PeerQueryIdeal.nD Cert.PeerQueryIdeal.τ).loc Cert.PeerQueryIdeal.main_arg1) = m ((c.tc : Thread Cert.PeerQueryIdeal.nD Cert.PeerQueryIdeal.τ).loc Cert.PeerQueryIdeal.main_arg1))
      ∧ r.2.sem = fun _ => 0)

def quiescent_RefPeerQueryIdeal [hRefPeerQueryIdeal : Cert.RefPeerQueryIdeal.Facts] : Prop :=
  ∀ (m : (ℓ : Loc Cert.RefPeerQueryIdeal.nD Cert.RefPeerQueryIdeal.τ Cert.RefPeerQueryIdeal.sig) → Buf (Elt Ideal) ℓ) (g : Dev Cert.RefPeerQueryIdeal.nD → PrngReg), Pre_RefPeerQueryIdeal m →
    θ_run (Cert.RefPeerQueryIdeal.defs (F := Ideal)) (onTc (τ := Cert.RefPeerQueryIdeal.τ) (Cert.RefPeerQueryIdeal.main (F := Ideal))) ⟨m, fun _ => 0, g⟩ (fun r => (∀ c : Dev Cert.RefPeerQueryIdeal.nD,
      r.2.mem ((c.tc : Thread Cert.RefPeerQueryIdeal.nD Cert.RefPeerQueryIdeal.τ).loc Cert.RefPeerQueryIdeal.main_arg0) = m ((c.tc : Thread Cert.RefPeerQueryIdeal.nD Cert.RefPeerQueryIdeal.τ).loc Cert.RefPeerQueryIdeal.main_arg0)
      ∧ r.2.mem ((c.tc : Thread Cert.RefPeerQueryIdeal.nD Cert.RefPeerQueryIdeal.τ).loc Cert.RefPeerQueryIdeal.main_arg1) = m ((c.tc : Thread Cert.RefPeerQueryIdeal.nD Cert.RefPeerQueryIdeal.τ).loc Cert.RefPeerQueryIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_RefMergeIdeal [hRefMergeIdeal : Cert.RefMergeIdeal.Facts] : Prop :=
  ∀ (m : (ℓ : Loc Cert.RefMergeIdeal.nD Cert.RefMergeIdeal.τ Cert.RefMergeIdeal.sig) → Buf (Elt Ideal) ℓ) (g : Dev Cert.RefMergeIdeal.nD → PrngReg), Pre_RefMergeIdeal m →
    θ_run (Cert.RefMergeIdeal.defs (F := Ideal)) (onTc (τ := Cert.RefMergeIdeal.τ) (Cert.RefMergeIdeal.main (F := Ideal))) ⟨m, fun _ => 0, g⟩ (fun r => (∀ c : Dev Cert.RefMergeIdeal.nD,
      r.2.mem ((c.tc : Thread Cert.RefMergeIdeal.nD Cert.RefMergeIdeal.τ).loc Cert.RefMergeIdeal.main_arg0) = m ((c.tc : Thread Cert.RefMergeIdeal.nD Cert.RefMergeIdeal.τ).loc Cert.RefMergeIdeal.main_arg0)
      ∧ r.2.mem ((c.tc : Thread Cert.RefMergeIdeal.nD Cert.RefMergeIdeal.τ).loc Cert.RefMergeIdeal.main_arg1) = m ((c.tc : Thread Cert.RefMergeIdeal.nD Cert.RefMergeIdeal.τ).loc Cert.RefMergeIdeal.main_arg1)
      ∧ r.2.mem ((c.tc : Thread Cert.RefMergeIdeal.nD Cert.RefMergeIdeal.τ).loc Cert.RefMergeIdeal.main_arg2) = m ((c.tc : Thread Cert.RefMergeIdeal.nD Cert.RefMergeIdeal.τ).loc Cert.RefMergeIdeal.main_arg2)
      ∧ r.2.mem ((c.tc : Thread Cert.RefMergeIdeal.nD Cert.RefMergeIdeal.τ).loc Cert.RefMergeIdeal.main_arg3) = m ((c.tc : Thread Cert.RefMergeIdeal.nD Cert.RefMergeIdeal.τ).loc Cert.RefMergeIdeal.main_arg3)
      ∧ r.2.mem ((c.tc : Thread Cert.RefMergeIdeal.nD Cert.RefMergeIdeal.τ).loc Cert.RefMergeIdeal.main_arg4) = m ((c.tc : Thread Cert.RefMergeIdeal.nD Cert.RefMergeIdeal.τ).loc Cert.RefMergeIdeal.main_arg4)
      ∧ r.2.mem ((c.tc : Thread Cert.RefMergeIdeal.nD Cert.RefMergeIdeal.τ).loc Cert.RefMergeIdeal.main_arg5) = m ((c.tc : Thread Cert.RefMergeIdeal.nD Cert.RefMergeIdeal.τ).loc Cert.RefMergeIdeal.main_arg5)
      ∧ r.2.mem ((c.tc : Thread Cert.RefMergeIdeal.nD Cert.RefMergeIdeal.τ).loc Cert.RefMergeIdeal.main_arg6) = m ((c.tc : Thread Cert.RefMergeIdeal.nD Cert.RefMergeIdeal.τ).loc Cert.RefMergeIdeal.main_arg6))
      ∧ r.2.sem = fun _ => 0)

def quiescent_Resid [hResid : Cert.Resid.Facts] : Prop :=
  ∀ (m : (ℓ : Loc Cert.Resid.nD Cert.Resid.τ Cert.Resid.sig) → Buf (Elt Bits) ℓ) (g : Dev Cert.Resid.nD → PrngReg), Pre_Resid m →
    θ_run (Cert.Resid.defs (F := Bits)) (onTc (τ := Cert.Resid.τ) (Cert.Resid.main (F := Bits))) ⟨m, fun _ => 0, g⟩ (fun r => (∀ c : Dev Cert.Resid.nD,
      r.2.mem ((c.tc : Thread Cert.Resid.nD Cert.Resid.τ).loc Cert.Resid.main_arg0) = m ((c.tc : Thread Cert.Resid.nD Cert.Resid.τ).loc Cert.Resid.main_arg0)
      ∧ r.2.mem ((c.tc : Thread Cert.Resid.nD Cert.Resid.τ).loc Cert.Resid.main_arg1) = m ((c.tc : Thread Cert.Resid.nD Cert.Resid.τ).loc Cert.Resid.main_arg1)
      ∧ r.2.mem ((c.tc : Thread Cert.Resid.nD Cert.Resid.τ).loc Cert.Resid.main_arg2) = m ((c.tc : Thread Cert.Resid.nD Cert.Resid.τ).loc Cert.Resid.main_arg2)
      ∧ r.2.mem ((c.tc : Thread Cert.Resid.nD Cert.Resid.τ).loc Cert.Resid.main_arg3) = m ((c.tc : Thread Cert.Resid.nD Cert.Resid.τ).loc Cert.Resid.main_arg3))
      ∧ r.2.sem = fun _ => 0)

def quiescent_ResidIdeal [hResidIdeal : Cert.ResidIdeal.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
      ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3))
      ∧ r.2.sem = fun _ => 0)

def quiescent_RefResidIdeal [hRefResidIdeal : Cert.RefResidIdeal.Facts] : Prop :=
  ∀ (m : (ℓ : Loc Cert.RefResidIdeal.nD Cert.RefResidIdeal.τ Cert.RefResidIdeal.sig) → Buf (Elt Ideal) ℓ) (g : Dev Cert.RefResidIdeal.nD → PrngReg), Pre_RefResidIdeal m →
    θ_run (Cert.RefResidIdeal.defs (F := Ideal)) (onTc (τ := Cert.RefResidIdeal.τ) (Cert.RefResidIdeal.main (F := Ideal))) ⟨m, fun _ => 0, g⟩ (fun r => (∀ c : Dev Cert.RefResidIdeal.nD,
      r.2.mem ((c.tc : Thread Cert.RefResidIdeal.nD Cert.RefResidIdeal.τ).loc Cert.RefResidIdeal.main_arg0) = m ((c.tc : Thread Cert.RefResidIdeal.nD Cert.RefResidIdeal.τ).loc Cert.RefResidIdeal.main_arg0)
      ∧ r.2.mem ((c.tc : Thread Cert.RefResidIdeal.nD Cert.RefResidIdeal.τ).loc Cert.RefResidIdeal.main_arg1) = m ((c.tc : Thread Cert.RefResidIdeal.nD Cert.RefResidIdeal.τ).loc Cert.RefResidIdeal.main_arg1)
      ∧ r.2.mem ((c.tc : Thread Cert.RefResidIdeal.nD Cert.RefResidIdeal.τ).loc Cert.RefResidIdeal.main_arg2) = m ((c.tc : Thread Cert.RefResidIdeal.nD Cert.RefResidIdeal.τ).loc Cert.RefResidIdeal.main_arg2)
      ∧ r.2.mem ((c.tc : Thread Cert.RefResidIdeal.nD Cert.RefResidIdeal.τ).loc Cert.RefResidIdeal.main_arg3) = m ((c.tc : Thread Cert.RefResidIdeal.nD Cert.RefResidIdeal.τ).loc Cert.RefResidIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_RefNormIdeal [hRefNormIdeal : Cert.RefNormIdeal.Facts] : Prop :=
  ∀ (m : (ℓ : Loc Cert.RefNormIdeal.nD Cert.RefNormIdeal.τ Cert.RefNormIdeal.sig) → Buf (Elt Ideal) ℓ) (g : Dev Cert.RefNormIdeal.nD → PrngReg), Pre_RefNormIdeal m →
    θ_run (Cert.RefNormIdeal.defs (F := Ideal)) (onTc (τ := Cert.RefNormIdeal.τ) (Cert.RefNormIdeal.main (F := Ideal))) ⟨m, fun _ => 0, g⟩ (fun r => (∀ c : Dev Cert.RefNormIdeal.nD,
      r.2.mem ((c.tc : Thread Cert.RefNormIdeal.nD Cert.RefNormIdeal.τ).loc Cert.RefNormIdeal.main_arg0) = m ((c.tc : Thread Cert.RefNormIdeal.nD Cert.RefNormIdeal.τ).loc Cert.RefNormIdeal.main_arg0)
      ∧ r.2.mem ((c.tc : Thread Cert.RefNormIdeal.nD Cert.RefNormIdeal.τ).loc Cert.RefNormIdeal.main_arg1) = m ((c.tc : Thread Cert.RefNormIdeal.nD Cert.RefNormIdeal.τ).loc Cert.RefNormIdeal.main_arg1)
      ∧ r.2.mem ((c.tc : Thread Cert.RefNormIdeal.nD Cert.RefNormIdeal.τ).loc Cert.RefNormIdeal.main_arg2) = m ((c.tc : Thread Cert.RefNormIdeal.nD Cert.RefNormIdeal.τ).loc Cert.RefNormIdeal.main_arg2))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ r.2.sem = fun _ => 0)

def quiescent_RefMemAttnIdeal [hRefMemAttnIdeal : Cert.RefMemAttnIdeal.Facts] : Prop :=
  ∀ (m : (ℓ : Loc Cert.RefMemAttnIdeal.nD Cert.RefMemAttnIdeal.τ Cert.RefMemAttnIdeal.sig) → Buf (Elt Ideal) ℓ) (g : Dev Cert.RefMemAttnIdeal.nD → PrngReg), Pre_RefMemAttnIdeal m →
    θ_run (Cert.RefMemAttnIdeal.defs (F := Ideal)) (onTc (τ := Cert.RefMemAttnIdeal.τ) (Cert.RefMemAttnIdeal.main (F := Ideal))) ⟨m, fun _ => 0, g⟩ (fun r => (∀ c : Dev Cert.RefMemAttnIdeal.nD,
      r.2.mem ((c.tc : Thread Cert.RefMemAttnIdeal.nD Cert.RefMemAttnIdeal.τ).loc Cert.RefMemAttnIdeal.main_arg0) = m ((c.tc : Thread Cert.RefMemAttnIdeal.nD Cert.RefMemAttnIdeal.τ).loc Cert.RefMemAttnIdeal.main_arg0)
      ∧ r.2.mem ((c.tc : Thread Cert.RefMemAttnIdeal.nD Cert.RefMemAttnIdeal.τ).loc Cert.RefMemAttnIdeal.main_arg1) = m ((c.tc : Thread Cert.RefMemAttnIdeal.nD Cert.RefMemAttnIdeal.τ).loc Cert.RefMemAttnIdeal.main_arg1))
      ∧ r.2.sem = fun _ => 0)

def preserves_HgrnP_HgrnPIdeal : Prop :=
  True

def algebraic_HgrnPIdeal_RefPIdeal_pre_decay_bounded [hHgrnPIdeal : Cert.HgrnPIdeal.Facts] [hRefPIdeal : Cert.RefPIdeal.Facts] [hPre_decay_bounded : Cert.Pre_decay_bounded.Facts] : Prop :=
  ∀ (m : (ℓ : Loc Cert.HgrnPIdeal.nD Cert.HgrnPIdeal.τ Cert.HgrnPIdeal.sig) → Buf (Elt Ideal) ℓ) (g : Dev Cert.HgrnPIdeal.nD → PrngReg)
    (m' : (ℓ : Loc Cert.RefPIdeal.nD Cert.RefPIdeal.τ Cert.RefPIdeal.sig) → Buf (Elt Ideal) ℓ) (g' : Dev Cert.RefPIdeal.nD → PrngReg), Pre_HgrnPIdeal_decay_bounded m →
    (∀ c : Dev Cert.HgrnPIdeal.nD,
      m' ((c.tc : Thread Cert.RefPIdeal.nD Cert.RefPIdeal.τ).loc Cert.RefPIdeal.main_arg0) = m ((c.tc : Thread Cert.HgrnPIdeal.nD Cert.HgrnPIdeal.τ).loc Cert.HgrnPIdeal.main_arg0)
      ∧ m' ((c.tc : Thread Cert.RefPIdeal.nD Cert.RefPIdeal.τ).loc Cert.RefPIdeal.main_arg1) = m ((c.tc : Thread Cert.HgrnPIdeal.nD Cert.HgrnPIdeal.τ).loc Cert.HgrnPIdeal.main_arg1)
      ∧ m' ((c.tc : Thread Cert.RefPIdeal.nD Cert.RefPIdeal.τ).loc Cert.RefPIdeal.main_arg2) = m ((c.tc : Thread Cert.HgrnPIdeal.nD Cert.HgrnPIdeal.τ).loc Cert.HgrnPIdeal.main_arg2)) →
    ∃ (v0 : (c : Dev Cert.HgrnPIdeal.nD) → Buf (Elt Ideal) ((c.tc : Thread Cert.HgrnPIdeal.nD Cert.HgrnPIdeal.τ).loc Cert.HgrnPIdeal.main_v3_0)) (v1 : (c : Dev Cert.HgrnPIdeal.nD) → Buf (Elt Ideal) ((c.tc : Thread Cert.HgrnPIdeal.nD Cert.HgrnPIdeal.τ).loc Cert.HgrnPIdeal.main_v3_1)),
      θ_run (Cert.HgrnPIdeal.defs (F := Ideal)) (onTc (τ := Cert.HgrnPIdeal.τ) (Cert.HgrnPIdeal.main (F := Ideal))) ⟨m, fun _ => 0, g⟩ (fun r => ∀ c : Dev Cert.HgrnPIdeal.nD,
          r.2.mem ((c.tc : Thread Cert.HgrnPIdeal.nD Cert.HgrnPIdeal.τ).loc Cert.HgrnPIdeal.main_v3_0) = v0 c
          ∧ r.2.mem ((c.tc : Thread Cert.HgrnPIdeal.nD Cert.HgrnPIdeal.τ).loc Cert.HgrnPIdeal.main_v3_1) = v1 c
          ∧ r.2.mem ((c.tc : Thread Cert.HgrnPIdeal.nD Cert.HgrnPIdeal.τ).loc Cert.HgrnPIdeal.main_arg0) = m ((c.tc : Thread Cert.HgrnPIdeal.nD Cert.HgrnPIdeal.τ).loc Cert.HgrnPIdeal.main_arg0)
          ∧ r.2.mem ((c.tc : Thread Cert.HgrnPIdeal.nD Cert.HgrnPIdeal.τ).loc Cert.HgrnPIdeal.main_arg1) = m ((c.tc : Thread Cert.HgrnPIdeal.nD Cert.HgrnPIdeal.τ).loc Cert.HgrnPIdeal.main_arg1)
          ∧ r.2.mem ((c.tc : Thread Cert.HgrnPIdeal.nD Cert.HgrnPIdeal.τ).loc Cert.HgrnPIdeal.main_arg2) = m ((c.tc : Thread Cert.HgrnPIdeal.nD Cert.HgrnPIdeal.τ).loc Cert.HgrnPIdeal.main_arg2))
      ∧ θ_run (Cert.RefPIdeal.defs (F := Ideal)) (onTc (τ := Cert.RefPIdeal.τ) (Cert.RefPIdeal.main (F := Ideal))) ⟨m', fun _ => 0, g'⟩ (fun r => ∀ c : Dev Cert.RefPIdeal.nD,
          r.2.mem ((c.tc : Thread Cert.RefPIdeal.nD Cert.RefPIdeal.τ).loc Cert.RefPIdeal.main_v77) = v0 c
          ∧ r.2.mem ((c.tc : Thread Cert.RefPIdeal.nD Cert.RefPIdeal.τ).loc Cert.RefPIdeal.main_v54_6) = v1 c
          ∧ r.2.mem ((c.tc : Thread Cert.RefPIdeal.nD Cert.RefPIdeal.τ).loc Cert.RefPIdeal.main_arg0) = m' ((c.tc : Thread Cert.RefPIdeal.nD Cert.RefPIdeal.τ).loc Cert.RefPIdeal.main_arg0)
          ∧ r.2.mem ((c.tc : Thread Cert.RefPIdeal.nD Cert.RefPIdeal.τ).loc Cert.RefPIdeal.main_arg1) = m' ((c.tc : Thread Cert.RefPIdeal.nD Cert.RefPIdeal.τ).loc Cert.RefPIdeal.main_arg1)
          ∧ r.2.mem ((c.tc : Thread Cert.RefPIdeal.nD Cert.RefPIdeal.τ).loc Cert.RefPIdeal.main_arg2) = m' ((c.tc : Thread Cert.RefPIdeal.nD Cert.RefPIdeal.τ).loc Cert.RefPIdeal.main_arg2))

def preserves_MemKv_MemKvIdeal : Prop :=
  True

def algebraic_MemKvIdeal_RefMemKvIdeal [hMemKvIdeal : Cert.MemKvIdeal.Facts] [hRefMemKvIdeal : Cert.RefMemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.RefMemKvIdeal.nD Cert.RefMemKvIdeal.τ Cert.RefMemKvIdeal.sig) → Buf (Elt Ideal) ℓ) (g' : Dev Cert.RefMemKvIdeal.nD → PrngReg), Pre_MemKvIdeal m →
    (∀ c : Dev Cert.MemKvIdeal.nD,
      m' ((c.tc : Thread Cert.RefMemKvIdeal.nD Cert.RefMemKvIdeal.τ).loc Cert.RefMemKvIdeal.main_arg0) = m ((c.tc : Thread Cert.MemKvIdeal.nD Cert.MemKvIdeal.τ).loc Cert.MemKvIdeal.main_arg0)
      ∧ m' ((c.tc : Thread Cert.RefMemKvIdeal.nD Cert.RefMemKvIdeal.τ).loc Cert.RefMemKvIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v4)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v4) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.RefMemKvIdeal.defs (F := Ideal)) (onTc (τ := Cert.RefMemKvIdeal.τ) (Cert.RefMemKvIdeal.main (F := Ideal))) ⟨m', fun _ => 0, g'⟩ (fun r => ∀ c : Dev Cert.RefMemKvIdeal.nD,
          r.2.mem ((c.tc : Thread Cert.RefMemKvIdeal.nD Cert.RefMemKvIdeal.τ).loc Cert.RefMemKvIdeal.main_v2) = v0 c
          ∧ r.2.mem ((c.tc : Thread Cert.RefMemKvIdeal.nD Cert.RefMemKvIdeal.τ).loc Cert.RefMemKvIdeal.main_arg0) = m' ((c.tc : Thread Cert.RefMemKvIdeal.nD Cert.RefMemKvIdeal.τ).loc Cert.RefMemKvIdeal.main_arg0)
          ∧ r.2.mem ((c.tc : Thread Cert.RefMemKvIdeal.nD Cert.RefMemKvIdeal.τ).loc Cert.RefMemKvIdeal.main_arg1) = m' ((c.tc : Thread Cert.RefMemKvIdeal.nD Cert.RefMemKvIdeal.τ).loc Cert.RefMemKvIdeal.main_arg1))

def preserves_ProjIn_ProjInIdeal : Prop :=
  True

def algebraic_ProjInIdeal_RefProjInIdeal [hProjInIdeal : Cert.ProjInIdeal.Facts] [hRefProjInIdeal : Cert.RefProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.RefProjInIdeal.nD Cert.RefProjInIdeal.τ Cert.RefProjInIdeal.sig) → Buf (Elt Ideal) ℓ) (g' : Dev Cert.RefProjInIdeal.nD → PrngReg), Pre_ProjInIdeal m →
    (∀ c : Dev Cert.ProjInIdeal.nD,
      m' ((c.tc : Thread Cert.RefProjInIdeal.nD Cert.RefProjInIdeal.τ).loc Cert.RefProjInIdeal.main_arg0) = m ((c.tc : Thread Cert.ProjInIdeal.nD Cert.ProjInIdeal.τ).loc Cert.ProjInIdeal.main_arg0)
      ∧ m' ((c.tc : Thread Cert.RefProjInIdeal.nD Cert.RefProjInIdeal.τ).loc Cert.RefProjInIdeal.main_arg1) = m ((c.tc : Thread Cert.ProjInIdeal.nD Cert.ProjInIdeal.τ).loc Cert.ProjInIdeal.main_arg1)
      ∧ m' ((c.tc : Thread Cert.RefProjInIdeal.nD Cert.RefProjInIdeal.τ).loc Cert.RefProjInIdeal.main_arg2) = m ((c.tc : Thread Cert.ProjInIdeal.nD Cert.ProjInIdeal.τ).loc Cert.ProjInIdeal.main_arg2)
      ∧ m' ((c.tc : Thread Cert.RefProjInIdeal.nD Cert.RefProjInIdeal.τ).loc Cert.RefProjInIdeal.main_arg3) = m ((c.tc : Thread Cert.ProjInIdeal.nD Cert.ProjInIdeal.τ).loc Cert.ProjInIdeal.main_arg3)
      ∧ m' ((c.tc : Thread Cert.RefProjInIdeal.nD Cert.RefProjInIdeal.τ).loc Cert.RefProjInIdeal.main_arg4) = m ((c.tc : Thread Cert.ProjInIdeal.nD Cert.ProjInIdeal.τ).loc Cert.ProjInIdeal.main_arg4)) →
    ∃ (v0 : (c : Dev Cert.ProjInIdeal.nD) → Buf (Elt Ideal) ((c.tc : Thread Cert.ProjInIdeal.nD Cert.ProjInIdeal.τ).loc Cert.ProjInIdeal.main_v8_0)) (v1 : (c : Dev Cert.ProjInIdeal.nD) → Buf (Elt Ideal) ((c.tc : Thread Cert.ProjInIdeal.nD Cert.ProjInIdeal.τ).loc Cert.ProjInIdeal.main_v8_1)) (v2 : (c : Dev Cert.ProjInIdeal.nD) → Buf (Elt Ideal) ((c.tc : Thread Cert.ProjInIdeal.nD Cert.ProjInIdeal.τ).loc Cert.ProjInIdeal.main_v8_2)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v8_0) = v0 c
          ∧ r.2.mem ((c.tc : Thread Cert.ProjInIdeal.nD Cert.ProjInIdeal.τ).loc Cert.ProjInIdeal.main_v8_1) = v1 c
          ∧ r.2.mem ((c.tc : Thread Cert.ProjInIdeal.nD Cert.ProjInIdeal.τ).loc Cert.ProjInIdeal.main_v8_2) = v2 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
          ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
          ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3)
          ∧ r.2.mem ((c.tc : Thread Cert.ProjInIdeal.nD Cert.ProjInIdeal.τ).loc Cert.ProjInIdeal.main_arg4) = m ((c.tc : Thread Cert.ProjInIdeal.nD Cert.ProjInIdeal.τ).loc Cert.ProjInIdeal.main_arg4))
      ∧ θ_run (Cert.RefProjInIdeal.defs (F := Ideal)) (onTc (τ := Cert.RefProjInIdeal.τ) (Cert.RefProjInIdeal.main (F := Ideal))) ⟨m', fun _ => 0, g'⟩ (fun r => ∀ c : Dev Cert.RefProjInIdeal.nD,
          r.2.mem ((c.tc : Thread Cert.RefProjInIdeal.nD Cert.RefProjInIdeal.τ).loc Cert.RefProjInIdeal.main_v7) = v0 c
          ∧ r.2.mem ((c.tc : Thread Cert.RefProjInIdeal.nD Cert.RefProjInIdeal.τ).loc Cert.RefProjInIdeal.main_v9) = v1 c
          ∧ r.2.mem ((c.tc : Thread Cert.RefProjInIdeal.nD Cert.RefProjInIdeal.τ).loc Cert.RefProjInIdeal.main_v11) = v2 c
          ∧ r.2.mem ((c.tc : Thread Cert.RefProjInIdeal.nD Cert.RefProjInIdeal.τ).loc Cert.RefProjInIdeal.main_arg0) = m' ((c.tc : Thread Cert.RefProjInIdeal.nD Cert.RefProjInIdeal.τ).loc Cert.RefProjInIdeal.main_arg0)
          ∧ r.2.mem ((c.tc : Thread Cert.RefProjInIdeal.nD Cert.RefProjInIdeal.τ).loc Cert.RefProjInIdeal.main_arg1) = m' ((c.tc : Thread Cert.RefProjInIdeal.nD Cert.RefProjInIdeal.τ).loc Cert.RefProjInIdeal.main_arg1)
          ∧ r.2.mem ((c.tc : Thread Cert.RefProjInIdeal.nD Cert.RefProjInIdeal.τ).loc Cert.RefProjInIdeal.main_arg2) = m' ((c.tc : Thread Cert.RefProjInIdeal.nD Cert.RefProjInIdeal.τ).loc Cert.RefProjInIdeal.main_arg2)
          ∧ r.2.mem ((c.tc : Thread Cert.RefProjInIdeal.nD Cert.RefProjInIdeal.τ).loc Cert.RefProjInIdeal.main_arg3) = m' ((c.tc : Thread Cert.RefProjInIdeal.nD Cert.RefProjInIdeal.τ).loc Cert.RefProjInIdeal.main_arg3)
          ∧ r.2.mem ((c.tc : Thread Cert.RefProjInIdeal.nD Cert.RefProjInIdeal.τ).loc Cert.RefProjInIdeal.main_arg4) = m' ((c.tc : Thread Cert.RefProjInIdeal.nD Cert.RefProjInIdeal.τ).loc Cert.RefProjInIdeal.main_arg4))

def preserves_PeerQuery_PeerQueryIdeal : Prop :=
  True

def algebraic_PeerQueryIdeal_RefPeerQueryIdeal [hPeerQueryIdeal : Cert.PeerQueryIdeal.Facts] [hRefPeerQueryIdeal : Cert.RefPeerQueryIdeal.Facts] : Prop :=
  ∀ (m : (ℓ : Loc Cert.PeerQueryIdeal.nD Cert.PeerQueryIdeal.τ Cert.PeerQueryIdeal.sig) → Buf (Elt Ideal) ℓ) (g : Dev Cert.PeerQueryIdeal.nD → PrngReg)
    (m' : (ℓ : Loc Cert.RefPeerQueryIdeal.nD Cert.RefPeerQueryIdeal.τ Cert.RefPeerQueryIdeal.sig) → Buf (Elt Ideal) ℓ) (g' : Dev Cert.RefPeerQueryIdeal.nD → PrngReg), Pre_PeerQueryIdeal m →
    (∀ c : Dev Cert.PeerQueryIdeal.nD,
      m' ((c.tc : Thread Cert.RefPeerQueryIdeal.nD Cert.RefPeerQueryIdeal.τ).loc Cert.RefPeerQueryIdeal.main_arg0) = m ((c.tc : Thread Cert.PeerQueryIdeal.nD Cert.PeerQueryIdeal.τ).loc Cert.PeerQueryIdeal.main_arg0)
      ∧ m' ((c.tc : Thread Cert.RefPeerQueryIdeal.nD Cert.RefPeerQueryIdeal.τ).loc Cert.RefPeerQueryIdeal.main_arg1) = m ((c.tc : Thread Cert.PeerQueryIdeal.nD Cert.PeerQueryIdeal.τ).loc Cert.PeerQueryIdeal.main_arg1)) →
    ∃ (v0 : (c : Dev Cert.PeerQueryIdeal.nD) → Buf (Elt Ideal) ((c.tc : Thread Cert.PeerQueryIdeal.nD Cert.PeerQueryIdeal.τ).loc Cert.PeerQueryIdeal.main_v2)),
      θ_run (Cert.PeerQueryIdeal.defs (F := Ideal)) (onTc (τ := Cert.PeerQueryIdeal.τ) (Cert.PeerQueryIdeal.main (F := Ideal))) ⟨m, fun _ => 0, g⟩ (fun r => ∀ c : Dev Cert.PeerQueryIdeal.nD,
          r.2.mem ((c.tc : Thread Cert.PeerQueryIdeal.nD Cert.PeerQueryIdeal.τ).loc Cert.PeerQueryIdeal.main_v2) = v0 c
          ∧ r.2.mem ((c.tc : Thread Cert.PeerQueryIdeal.nD Cert.PeerQueryIdeal.τ).loc Cert.PeerQueryIdeal.main_arg0) = m ((c.tc : Thread Cert.PeerQueryIdeal.nD Cert.PeerQueryIdeal.τ).loc Cert.PeerQueryIdeal.main_arg0)
          ∧ r.2.mem ((c.tc : Thread Cert.PeerQueryIdeal.nD Cert.PeerQueryIdeal.τ).loc Cert.PeerQueryIdeal.main_arg1) = m ((c.tc : Thread Cert.PeerQueryIdeal.nD Cert.PeerQueryIdeal.τ).loc Cert.PeerQueryIdeal.main_arg1))
      ∧ θ_run (Cert.RefPeerQueryIdeal.defs (F := Ideal)) (onTc (τ := Cert.RefPeerQueryIdeal.τ) (Cert.RefPeerQueryIdeal.main (F := Ideal))) ⟨m', fun _ => 0, g'⟩ (fun r => ∀ c : Dev Cert.RefPeerQueryIdeal.nD,
          r.2.mem ((c.tc : Thread Cert.RefPeerQueryIdeal.nD Cert.RefPeerQueryIdeal.τ).loc Cert.RefPeerQueryIdeal.main_v2) = v0 c
          ∧ r.2.mem ((c.tc : Thread Cert.RefPeerQueryIdeal.nD Cert.RefPeerQueryIdeal.τ).loc Cert.RefPeerQueryIdeal.main_arg0) = m' ((c.tc : Thread Cert.RefPeerQueryIdeal.nD Cert.RefPeerQueryIdeal.τ).loc Cert.RefPeerQueryIdeal.main_arg0)
          ∧ r.2.mem ((c.tc : Thread Cert.RefPeerQueryIdeal.nD Cert.RefPeerQueryIdeal.τ).loc Cert.RefPeerQueryIdeal.main_arg1) = m' ((c.tc : Thread Cert.RefPeerQueryIdeal.nD Cert.RefPeerQueryIdeal.τ).loc Cert.RefPeerQueryIdeal.main_arg1))

def preserves_Merge_MergeIdeal : Prop :=
  True

def algebraic_MergeIdeal_RefMergeIdeal [hMergeIdeal : Cert.MergeIdeal.Facts] [hRefMergeIdeal : Cert.RefMergeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.RefMergeIdeal.nD Cert.RefMergeIdeal.τ Cert.RefMergeIdeal.sig) → Buf (Elt Ideal) ℓ) (g' : Dev Cert.RefMergeIdeal.nD → PrngReg), Pre_MergeIdeal m →
    (∀ c : Dev Cert.MergeIdeal.nD,
      m' ((c.tc : Thread Cert.RefMergeIdeal.nD Cert.RefMergeIdeal.τ).loc Cert.RefMergeIdeal.main_arg0) = m ((c.tc : Thread Cert.MergeIdeal.nD Cert.MergeIdeal.τ).loc Cert.MergeIdeal.main_arg0)
      ∧ m' ((c.tc : Thread Cert.RefMergeIdeal.nD Cert.RefMergeIdeal.τ).loc Cert.RefMergeIdeal.main_arg1) = m ((c.tc : Thread Cert.MergeIdeal.nD Cert.MergeIdeal.τ).loc Cert.MergeIdeal.main_arg1)
      ∧ m' ((c.tc : Thread Cert.RefMergeIdeal.nD Cert.RefMergeIdeal.τ).loc Cert.RefMergeIdeal.main_arg2) = m ((c.tc : Thread Cert.MergeIdeal.nD Cert.MergeIdeal.τ).loc Cert.MergeIdeal.main_arg2)
      ∧ m' ((c.tc : Thread Cert.RefMergeIdeal.nD Cert.RefMergeIdeal.τ).loc Cert.RefMergeIdeal.main_arg3) = m ((c.tc : Thread Cert.MergeIdeal.nD Cert.MergeIdeal.τ).loc Cert.MergeIdeal.main_arg3)
      ∧ m' ((c.tc : Thread Cert.RefMergeIdeal.nD Cert.RefMergeIdeal.τ).loc Cert.RefMergeIdeal.main_arg4) = m ((c.tc : Thread Cert.MergeIdeal.nD Cert.MergeIdeal.τ).loc Cert.MergeIdeal.main_arg4)
      ∧ m' ((c.tc : Thread Cert.RefMergeIdeal.nD Cert.RefMergeIdeal.τ).loc Cert.RefMergeIdeal.main_arg5) = m ((c.tc : Thread Cert.MergeIdeal.nD Cert.MergeIdeal.τ).loc Cert.MergeIdeal.main_arg5)
      ∧ m' ((c.tc : Thread Cert.RefMergeIdeal.nD Cert.RefMergeIdeal.τ).loc Cert.RefMergeIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.RefMergeIdeal.defs (F := Ideal)) (onTc (τ := Cert.RefMergeIdeal.τ) (Cert.RefMergeIdeal.main (F := Ideal))) ⟨m', fun _ => 0, g'⟩ (fun r => ∀ c : Dev Cert.RefMergeIdeal.nD,
          r.2.mem ((c.tc : Thread Cert.RefMergeIdeal.nD Cert.RefMergeIdeal.τ).loc Cert.RefMergeIdeal.main_v35) = v0 c
          ∧ r.2.mem ((c.tc : Thread Cert.RefMergeIdeal.nD Cert.RefMergeIdeal.τ).loc Cert.RefMergeIdeal.main_arg0) = m' ((c.tc : Thread Cert.RefMergeIdeal.nD Cert.RefMergeIdeal.τ).loc Cert.RefMergeIdeal.main_arg0)
          ∧ r.2.mem ((c.tc : Thread Cert.RefMergeIdeal.nD Cert.RefMergeIdeal.τ).loc Cert.RefMergeIdeal.main_arg1) = m' ((c.tc : Thread Cert.RefMergeIdeal.nD Cert.RefMergeIdeal.τ).loc Cert.RefMergeIdeal.main_arg1)
          ∧ r.2.mem ((c.tc : Thread Cert.RefMergeIdeal.nD Cert.RefMergeIdeal.τ).loc Cert.RefMergeIdeal.main_arg2) = m' ((c.tc : Thread Cert.RefMergeIdeal.nD Cert.RefMergeIdeal.τ).loc Cert.RefMergeIdeal.main_arg2)
          ∧ r.2.mem ((c.tc : Thread Cert.RefMergeIdeal.nD Cert.RefMergeIdeal.τ).loc Cert.RefMergeIdeal.main_arg3) = m' ((c.tc : Thread Cert.RefMergeIdeal.nD Cert.RefMergeIdeal.τ).loc Cert.RefMergeIdeal.main_arg3)
          ∧ r.2.mem ((c.tc : Thread Cert.RefMergeIdeal.nD Cert.RefMergeIdeal.τ).loc Cert.RefMergeIdeal.main_arg4) = m' ((c.tc : Thread Cert.RefMergeIdeal.nD Cert.RefMergeIdeal.τ).loc Cert.RefMergeIdeal.main_arg4)
          ∧ r.2.mem ((c.tc : Thread Cert.RefMergeIdeal.nD Cert.RefMergeIdeal.τ).loc Cert.RefMergeIdeal.main_arg5) = m' ((c.tc : Thread Cert.RefMergeIdeal.nD Cert.RefMergeIdeal.τ).loc Cert.RefMergeIdeal.main_arg5)
          ∧ r.2.mem ((c.tc : Thread Cert.RefMergeIdeal.nD Cert.RefMergeIdeal.τ).loc Cert.RefMergeIdeal.main_arg6) = m' ((c.tc : Thread Cert.RefMergeIdeal.nD Cert.RefMergeIdeal.τ).loc Cert.RefMergeIdeal.main_arg6))

def preserves_Resid_ResidIdeal : Prop :=
  True

def algebraic_ResidIdeal_RefResidIdeal [hResidIdeal : Cert.ResidIdeal.Facts] [hRefResidIdeal : Cert.RefResidIdeal.Facts] : Prop :=
  ∀ (m : (ℓ : Loc Cert.ResidIdeal.nD Cert.ResidIdeal.τ Cert.ResidIdeal.sig) → Buf (Elt Ideal) ℓ) (g : Dev Cert.ResidIdeal.nD → PrngReg)
    (m' : (ℓ : Loc Cert.RefResidIdeal.nD Cert.RefResidIdeal.τ Cert.RefResidIdeal.sig) → Buf (Elt Ideal) ℓ) (g' : Dev Cert.RefResidIdeal.nD → PrngReg), Pre_ResidIdeal m →
    (∀ c : Dev Cert.ResidIdeal.nD,
      m' ((c.tc : Thread Cert.RefResidIdeal.nD Cert.RefResidIdeal.τ).loc Cert.RefResidIdeal.main_arg0) = m ((c.tc : Thread Cert.ResidIdeal.nD Cert.ResidIdeal.τ).loc Cert.ResidIdeal.main_arg0)
      ∧ m' ((c.tc : Thread Cert.RefResidIdeal.nD Cert.RefResidIdeal.τ).loc Cert.RefResidIdeal.main_arg1) = m ((c.tc : Thread Cert.ResidIdeal.nD Cert.ResidIdeal.τ).loc Cert.ResidIdeal.main_arg1)
      ∧ m' ((c.tc : Thread Cert.RefResidIdeal.nD Cert.RefResidIdeal.τ).loc Cert.RefResidIdeal.main_arg2) = m ((c.tc : Thread Cert.ResidIdeal.nD Cert.ResidIdeal.τ).loc Cert.ResidIdeal.main_arg2)
      ∧ m' ((c.tc : Thread Cert.RefResidIdeal.nD Cert.RefResidIdeal.τ).loc Cert.RefResidIdeal.main_arg3) = m ((c.tc : Thread Cert.ResidIdeal.nD Cert.ResidIdeal.τ).loc Cert.ResidIdeal.main_arg3)) →
    ∃ (v0 : (c : Dev Cert.ResidIdeal.nD) → Buf (Elt Ideal) ((c.tc : Thread Cert.ResidIdeal.nD Cert.ResidIdeal.τ).loc Cert.ResidIdeal.main_v5)),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v5) = v0 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
          ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3))
      ∧ θ_run (Cert.RefResidIdeal.defs (F := Ideal)) (onTc (τ := Cert.RefResidIdeal.τ) (Cert.RefResidIdeal.main (F := Ideal))) ⟨m', fun _ => 0, g'⟩ (fun r => ∀ c : Dev Cert.RefResidIdeal.nD,
          r.2.mem ((c.tc : Thread Cert.RefResidIdeal.nD Cert.RefResidIdeal.τ).loc Cert.RefResidIdeal.main_v9) = v0 c
          ∧ r.2.mem ((c.tc : Thread Cert.RefResidIdeal.nD Cert.RefResidIdeal.τ).loc Cert.RefResidIdeal.main_arg0) = m' ((c.tc : Thread Cert.RefResidIdeal.nD Cert.RefResidIdeal.τ).loc Cert.RefResidIdeal.main_arg0)
          ∧ r.2.mem ((c.tc : Thread Cert.RefResidIdeal.nD Cert.RefResidIdeal.τ).loc Cert.RefResidIdeal.main_arg1) = m' ((c.tc : Thread Cert.RefResidIdeal.nD Cert.RefResidIdeal.τ).loc Cert.RefResidIdeal.main_arg1)
          ∧ r.2.mem ((c.tc : Thread Cert.RefResidIdeal.nD Cert.RefResidIdeal.τ).loc Cert.RefResidIdeal.main_arg2) = m' ((c.tc : Thread Cert.RefResidIdeal.nD Cert.RefResidIdeal.τ).loc Cert.RefResidIdeal.main_arg2)
          ∧ r.2.mem ((c.tc : Thread Cert.RefResidIdeal.nD Cert.RefResidIdeal.τ).loc Cert.RefResidIdeal.main_arg3) = m' ((c.tc : Thread Cert.RefResidIdeal.nD Cert.RefResidIdeal.τ).loc Cert.RefResidIdeal.main_arg3))

def preserves_Norm_NormIdeal : Prop :=
  True

def algebraic_NormIdeal_RefNormIdeal [hNormIdeal : Cert.NormIdeal.Facts] [hRefNormIdeal : Cert.RefNormIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.RefNormIdeal.nD Cert.RefNormIdeal.τ Cert.RefNormIdeal.sig) → Buf (Elt Ideal) ℓ) (g' : Dev Cert.RefNormIdeal.nD → PrngReg), Pre_NormIdeal m →
    (∀ c : Dev Cert.NormIdeal.nD,
      m' ((c.tc : Thread Cert.RefNormIdeal.nD Cert.RefNormIdeal.τ).loc Cert.RefNormIdeal.main_arg0) = m ((c.tc : Thread Cert.NormIdeal.nD Cert.NormIdeal.τ).loc Cert.NormIdeal.main_arg0)
      ∧ m' ((c.tc : Thread Cert.RefNormIdeal.nD Cert.RefNormIdeal.τ).loc Cert.RefNormIdeal.main_arg1) = m ((c.tc : Thread Cert.NormIdeal.nD Cert.NormIdeal.τ).loc Cert.NormIdeal.main_arg1)
      ∧ m' ((c.tc : Thread Cert.RefNormIdeal.nD Cert.RefNormIdeal.τ).loc Cert.RefNormIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v4_0)) (v1 : (c : Dev Cert.NormIdeal.nD) → Buf (Elt Ideal) ((c.tc : Thread Cert.NormIdeal.nD Cert.NormIdeal.τ).loc Cert.NormIdeal.main_v4_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v4_0) = v0 c
          ∧ r.2.mem ((c.tc : Thread Cert.NormIdeal.nD Cert.NormIdeal.τ).loc Cert.NormIdeal.main_v4_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.RefNormIdeal.defs (F := Ideal)) (onTc (τ := Cert.RefNormIdeal.τ) (Cert.RefNormIdeal.main (F := Ideal))) ⟨m', fun _ => 0, g'⟩ (fun r => ∀ c : Dev Cert.RefNormIdeal.nD,
          r.2.mem ((c.tc : Thread Cert.RefNormIdeal.nD Cert.RefNormIdeal.τ).loc Cert.RefNormIdeal.main_v25) = v0 c
          ∧ r.2.mem ((c.tc : Thread Cert.RefNormIdeal.nD Cert.RefNormIdeal.τ).loc Cert.RefNormIdeal.main_v26) = v1 c
          ∧ r.2.mem ((c.tc : Thread Cert.RefNormIdeal.nD Cert.RefNormIdeal.τ).loc Cert.RefNormIdeal.main_arg0) = m' ((c.tc : Thread Cert.RefNormIdeal.nD Cert.RefNormIdeal.τ).loc Cert.RefNormIdeal.main_arg0)
          ∧ r.2.mem ((c.tc : Thread Cert.RefNormIdeal.nD Cert.RefNormIdeal.τ).loc Cert.RefNormIdeal.main_arg1) = m' ((c.tc : Thread Cert.RefNormIdeal.nD Cert.RefNormIdeal.τ).loc Cert.RefNormIdeal.main_arg1)
          ∧ r.2.mem ((c.tc : Thread Cert.RefNormIdeal.nD Cert.RefNormIdeal.τ).loc Cert.RefNormIdeal.main_arg2) = m' ((c.tc : Thread Cert.RefNormIdeal.nD Cert.RefNormIdeal.τ).loc Cert.RefNormIdeal.main_arg2))

def preserves_MemAttn_MemAttnIdeal : Prop :=
  True

def algebraic_MemAttnIdeal_RefMemAttnIdeal [hMemAttnIdeal : Cert.MemAttnIdeal.Facts] [hRefMemAttnIdeal : Cert.RefMemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.RefMemAttnIdeal.nD Cert.RefMemAttnIdeal.τ Cert.RefMemAttnIdeal.sig) → Buf (Elt Ideal) ℓ) (g' : Dev Cert.RefMemAttnIdeal.nD → PrngReg), Pre_MemAttnIdeal m →
    (∀ c : Dev Cert.MemAttnIdeal.nD,
      m' ((c.tc : Thread Cert.RefMemAttnIdeal.nD Cert.RefMemAttnIdeal.τ).loc Cert.RefMemAttnIdeal.main_arg0) = m ((c.tc : Thread Cert.MemAttnIdeal.nD Cert.MemAttnIdeal.τ).loc Cert.MemAttnIdeal.main_arg0)
      ∧ m' ((c.tc : Thread Cert.RefMemAttnIdeal.nD Cert.RefMemAttnIdeal.τ).loc Cert.RefMemAttnIdeal.main_arg1) = m ((c.tc : Thread Cert.MemAttnIdeal.nD Cert.MemAttnIdeal.τ).loc Cert.MemAttnIdeal.main_arg1)) →
    ∃ (v0 : (c : Dev Cert.MemAttnIdeal.nD) → Buf (Elt Ideal) ((c.tc : Thread Cert.MemAttnIdeal.nD Cert.MemAttnIdeal.τ).loc Cert.MemAttnIdeal.main_v3)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v3) = v0 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ θ_run (Cert.RefMemAttnIdeal.defs (F := Ideal)) (onTc (τ := Cert.RefMemAttnIdeal.τ) (Cert.RefMemAttnIdeal.main (F := Ideal))) ⟨m', fun _ => 0, g'⟩ (fun r => ∀ c : Dev Cert.RefMemAttnIdeal.nD,
          r.2.mem ((c.tc : Thread Cert.RefMemAttnIdeal.nD Cert.RefMemAttnIdeal.τ).loc Cert.RefMemAttnIdeal.main_v26) = v0 c
          ∧ r.2.mem ((c.tc : Thread Cert.RefMemAttnIdeal.nD Cert.RefMemAttnIdeal.τ).loc Cert.RefMemAttnIdeal.main_arg0) = m' ((c.tc : Thread Cert.RefMemAttnIdeal.nD Cert.RefMemAttnIdeal.τ).loc Cert.RefMemAttnIdeal.main_arg0)
          ∧ r.2.mem ((c.tc : Thread Cert.RefMemAttnIdeal.nD Cert.RefMemAttnIdeal.τ).loc Cert.RefMemAttnIdeal.main_arg1) = m' ((c.tc : Thread Cert.RefMemAttnIdeal.nD Cert.RefMemAttnIdeal.τ).loc Cert.RefMemAttnIdeal.main_arg1))

def Claim : Prop :=
  ∃ (hHgrnP : Cert.HgrnP.Facts) (hHgrnPIdeal : Cert.HgrnPIdeal.Facts) (hRefPIdeal : Cert.RefPIdeal.Facts) (hMemKv : Cert.MemKv.Facts) (hMemKvIdeal : Cert.MemKvIdeal.Facts) (hRefMemKvIdeal : Cert.RefMemKvIdeal.Facts) (hProjIn : Cert.ProjIn.Facts) (hProjInIdeal : Cert.ProjInIdeal.Facts) (hRefProjInIdeal : Cert.RefProjInIdeal.Facts) (hPeerQuery : Cert.PeerQuery.Facts) (hPeerQueryIdeal : Cert.PeerQueryIdeal.Facts) (hRefPeerQueryIdeal : Cert.RefPeerQueryIdeal.Facts) (hMerge : Cert.Merge.Facts) (hMergeIdeal : Cert.MergeIdeal.Facts) (hRefMergeIdeal : Cert.RefMergeIdeal.Facts) (hResid : Cert.Resid.Facts) (hResidIdeal : Cert.ResidIdeal.Facts) (hRefResidIdeal : Cert.RefResidIdeal.Facts) (hNorm : Cert.Norm.Facts) (hNormIdeal : Cert.NormIdeal.Facts) (hRefNormIdeal : Cert.RefNormIdeal.Facts) (hMemAttn : Cert.MemAttn.Facts) (hMemAttnIdeal : Cert.MemAttnIdeal.Facts) (hRefMemAttnIdeal : Cert.RefMemAttnIdeal.Facts) (hPre_decay_bounded : Cert.Pre_decay_bounded.Facts),
    quiescent_HgrnP (hHgrnP := hHgrnP)
    ∧ quiescent_HgrnPIdeal (hHgrnPIdeal := hHgrnPIdeal)
    ∧ quiescent_HgrnPIdeal_pre_decay_bounded (hHgrnPIdeal := hHgrnPIdeal) (hPre_decay_bounded := hPre_decay_bounded)
    ∧ quiescent_RefPIdeal (hRefPIdeal := hRefPIdeal)
    ∧ quiescent_RefPIdeal_pre_decay_bounded (hRefPIdeal := hRefPIdeal) (hPre_decay_bounded := hPre_decay_bounded)
    ∧ quiescent_MemKv (hMemKv := hMemKv)
    ∧ quiescent_MemKvIdeal (hMemKvIdeal := hMemKvIdeal)
    ∧ quiescent_RefMemKvIdeal (hRefMemKvIdeal := hRefMemKvIdeal)
    ∧ quiescent_ProjIn (hProjIn := hProjIn)
    ∧ quiescent_ProjInIdeal (hProjInIdeal := hProjInIdeal)
    ∧ quiescent_RefProjInIdeal (hRefProjInIdeal := hRefProjInIdeal)
    ∧ quiescent_PeerQuery (hPeerQuery := hPeerQuery)
    ∧ quiescent_PeerQueryIdeal (hPeerQueryIdeal := hPeerQueryIdeal)
    ∧ quiescent_RefPeerQueryIdeal (hRefPeerQueryIdeal := hRefPeerQueryIdeal)
    ∧ quiescent_Merge (hMerge := hMerge)
    ∧ quiescent_MergeIdeal (hMergeIdeal := hMergeIdeal)
    ∧ quiescent_RefMergeIdeal (hRefMergeIdeal := hRefMergeIdeal)
    ∧ quiescent_Resid (hResid := hResid)
    ∧ quiescent_ResidIdeal (hResidIdeal := hResidIdeal)
    ∧ quiescent_RefResidIdeal (hRefResidIdeal := hRefResidIdeal)
    ∧ quiescent_Norm (hNorm := hNorm)
    ∧ quiescent_NormIdeal (hNormIdeal := hNormIdeal)
    ∧ quiescent_RefNormIdeal (hRefNormIdeal := hRefNormIdeal)
    ∧ quiescent_MemAttn (hMemAttn := hMemAttn)
    ∧ quiescent_MemAttnIdeal (hMemAttnIdeal := hMemAttnIdeal)
    ∧ quiescent_RefMemAttnIdeal (hRefMemAttnIdeal := hRefMemAttnIdeal)
    ∧ preserves_HgrnP_HgrnPIdeal
    ∧ algebraic_HgrnPIdeal_RefPIdeal_pre_decay_bounded (hHgrnPIdeal := hHgrnPIdeal) (hRefPIdeal := hRefPIdeal) (hPre_decay_bounded := hPre_decay_bounded)
    ∧ preserves_MemKv_MemKvIdeal
    ∧ algebraic_MemKvIdeal_RefMemKvIdeal (hMemKvIdeal := hMemKvIdeal) (hRefMemKvIdeal := hRefMemKvIdeal)
    ∧ preserves_ProjIn_ProjInIdeal
    ∧ algebraic_ProjInIdeal_RefProjInIdeal (hProjInIdeal := hProjInIdeal) (hRefProjInIdeal := hRefProjInIdeal)
    ∧ preserves_PeerQuery_PeerQueryIdeal
    ∧ algebraic_PeerQueryIdeal_RefPeerQueryIdeal (hPeerQueryIdeal := hPeerQueryIdeal) (hRefPeerQueryIdeal := hRefPeerQueryIdeal)
    ∧ preserves_Merge_MergeIdeal
    ∧ algebraic_MergeIdeal_RefMergeIdeal (hMergeIdeal := hMergeIdeal) (hRefMergeIdeal := hRefMergeIdeal)
    ∧ preserves_Resid_ResidIdeal
    ∧ algebraic_ResidIdeal_RefResidIdeal (hResidIdeal := hResidIdeal) (hRefResidIdeal := hRefResidIdeal)
    ∧ preserves_Norm_NormIdeal
    ∧ algebraic_NormIdeal_RefNormIdeal (hNormIdeal := hNormIdeal) (hRefNormIdeal := hRefNormIdeal)
    ∧ preserves_MemAttn_MemAttnIdeal
    ∧ algebraic_MemAttnIdeal_RefMemAttnIdeal (hMemAttnIdeal := hMemAttnIdeal) (hRefMemAttnIdeal := hRefMemAttnIdeal)
-- ==== Pre_decay_bounded.lean ====
abbrev S8704x23040 : Shape := ⟨2, ![8704, 23040]⟩
abbrev S2x1024 : Shape := ⟨2, ![2, 1024]⟩
abbrev S1x128 : Shape := ⟨2, ![1, 128]⟩
abbrev S_ : Shape := ⟨0, ![]⟩

class Facts : Prop where
  bcast_S_S2x1024 : S_.BroadcastsInDim S2x1024 (![] : Fin 0 → Fin S2x1024.rank)
  reducesTo_S2x1024_S_d0_1 : S2x1024.ReducesTo [0, 1] S_
  h_S_ : 0 < S_.numel

variable [Facts]

def fn {F : FTy → Type} [FloatOps F] (main_arg0 : FVec F S8704x23040 .f32) (main_arg1 : FVec F S2x1024 .f32) (main_arg2 : FVec F S1x128 .f32) : IVec S_ 1 :=
  let main_v0 : FVec F S2x1024 .f32 := Host.absf main_arg1
  let main_cst : FVec F S_ .f32 := constant S_ .f32 0x40180000#32
  let main_v1 : FVec F S2x1024 .f32 := broadcastInDim S2x1024 ![] bcast_S_S2x1024 main_cst
  let main_v2 : IVec S2x1024 1 := cmpf .ole main_v0 main_v1
  let main_c : IVec S_ 1 := constantI S_ 1 1#1
  let main_v3 : IVec S_ 1 := (fun x v => Host.reduce IntOp.andi x v reducesTo_S2x1024_S_d0_1 h_S_) main_v2 main_c
  main_v3
-- ==== HgrnP.lean ====
abbrev S8704x23040 : Shape := ⟨2, ![8704, 23040]⟩
abbrev S2x1024 : Shape := ⟨2, ![2, 1024]⟩
abbrev S1x128 : Shape := ⟨2, ![1, 128]⟩
abbrev S128 : Shape := ⟨1, ![128]⟩
abbrev S_ : Shape := ⟨0, ![]⟩
abbrev S1x8x128x128 : Shape := ⟨4, ![1, 8, 128, 128]⟩
abbrev S8192x1024 : Shape := ⟨2, ![8192, 1024]⟩
abbrev S64x1024 : Shape := ⟨2, ![64, 1024]⟩
abbrev S8x128x128 : Shape := ⟨3, ![8, 128, 128]⟩
abbrev S1x1x128x128 : Shape := ⟨4, ![1, 1, 128, 128]⟩
abbrev S128x128 : Shape := ⟨2, ![128, 128]⟩
abbrev S1x128x128 : Shape := ⟨3, ![1, 128, 128]⟩
abbrev S1024 : Shape := ⟨1, ![1024]⟩
abbrev S1x1024 : Shape := ⟨2, ![1, 1024]⟩
abbrev S64x128 : Shape := ⟨2, ![64, 128]⟩
abbrev S64x256 : Shape := ⟨2, ![64, 256]⟩
abbrev S256x128 : Shape := ⟨2, ![256, 128]⟩
abbrev S64 : Shape := ⟨1, ![64]⟩
abbrev S64x1 : Shape := ⟨2, ![64, 1]⟩

abbrev nBuf : Space → Nat
  | .hbm => 9
  | .vmem => 15
  | .smem => 0
  | _ => 0

abbrev bufTy : (tb : Table) → Fin (tcTables nBuf tb) → BufTy
  | .hbm, ⟨0, _⟩ => ⟨S8704x23040, .f32⟩
  | .hbm, ⟨1, _⟩ => ⟨S2x1024, .f32⟩
  | .hbm, ⟨2, _⟩ => ⟨S1x128, .f32⟩
  | .hbm, ⟨3, _⟩ => ⟨S128, .f32⟩
  | .hbm, ⟨4, _⟩ => ⟨S1x128, .f32⟩
  | .hbm, ⟨5, _⟩ => ⟨S_, .f32⟩
  | .hbm, ⟨6, _⟩ => ⟨S1x8x128x128, .f32⟩
  | .hbm, ⟨7, _⟩ => ⟨S8192x1024, .bf16⟩
  | .hbm, ⟨8, _⟩ => ⟨S1x8x128x128, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S2x1024, .f32⟩
  | .local _ .vmem, ⟨9, _⟩ => ⟨S1x128, .f32⟩
  | .local _ .vmem, ⟨10, _⟩ => ⟨S1x8x128x128, .f32⟩
  | .local _ .vmem, ⟨11, _⟩ => ⟨S64x1024, .bf16⟩
  | .local _ .vmem, ⟨12, _⟩ => ⟨S64x1024, .bf16⟩
  | .local _ .vmem, ⟨13, _⟩ => ⟨S1x8x128x128, .f32⟩
  | .local _ .vmem, ⟨14, _⟩ => ⟨S8x128x128, .f32⟩
  | _, _ => ⟨S8704x23040, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨2, ![1, 128], ![false, false]⟩

def k0_cond2 (i : grid0.Coords) : BitVec 1 :=
  let arg1 : BitVec 32 := BitVec.ofNat 32 (i 1).val
  let c127_i32 : BitVec 32 := 127#32
  let v1343 : BitVec 1 := Scalar.cmpi .eq arg1 c127_i32
  let v1344 : BitVec 32 := Scalar.extui v1343
  let c0_i32_436 : BitVec 32 := 0#32
  let v1345 : BitVec 1 := Scalar.cmpi .ne v1344 c0_i32_436
  v1345

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c5_i32 : BitVec 32 := 5#32
  let c0_i32 : BitVec 32 := 0#32
  ![v1.toNat, c5_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c6_i32 : BitVec 32 := 6#32
  let c0_i32 : BitVec 32 := 0#32
  ![v1.toNat, c6_i32.toNat]

def cc0_transform_2 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c7_i32 : BitVec 32 := 7#32
  let c0_i32 : BitVec 32 := 0#32
  ![v1.toNat, c7_i32.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c8_i32 : BitVec 32 := 8#32
  let c0_i32 : BitVec 32 := 0#32
  ![v1.toNat, c8_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== RefPIdeal.lean ====
abbrev S8704x23040 : Shape := ⟨2, ![8704, 23040]⟩
abbrev S2x1024 : Shape := ⟨2, ![2, 1024]⟩
abbrev S1x128 : Shape := ⟨2, ![1, 128]⟩
abbrev S_ : Shape := ⟨0, ![]⟩
abbrev S1024 : Shape := ⟨1, ![1024]⟩
abbrev S1x1024 : Shape := ⟨2, ![1, 1024]⟩
abbrev S8x128 : Shape := ⟨2, ![8, 128]⟩
abbrev S1x8x128x128 : Shape := ⟨4, ![1, 8, 128, 128]⟩
abbrev S8192x1024 : Shape := ⟨2, ![8192, 1024]⟩
abbrev S1x8192x1024 : Shape := ⟨3, ![1, 8192, 1024]⟩
abbrev S1x8192x8x128 : Shape := ⟨4, ![1, 8192, 8, 128]⟩
abbrev S1x1x8x128 : Shape := ⟨4, ![1, 1, 8, 128]⟩
abbrev S64x64 : Shape := ⟨2, ![64, 64]⟩
abbrev S1x64x64x1x1 : Shape := ⟨5, ![1, 64, 64, 1, 1]⟩
abbrev S1x128x64x8x128 : Shape := ⟨5, ![1, 128, 64, 8, 128]⟩
abbrev S128x1x64x8x128 : Shape := ⟨5, ![128, 1, 64, 8, 128]⟩
abbrev S1x1x64x8x128 : Shape := ⟨5, ![1, 1, 64, 8, 128]⟩
abbrev S1x64x8x128 : Shape := ⟨4, ![1, 64, 8, 128]⟩
abbrev S1x8x128x64 : Shape := ⟨4, ![1, 8, 128, 64]⟩
abbrev S1x64x1x8x128 : Shape := ⟨5, ![1, 64, 1, 8, 128]⟩
abbrev S1x64x64x8x128 : Shape := ⟨5, ![1, 64, 64, 8, 128]⟩
abbrev S1x64x8x64 : Shape := ⟨4, ![1, 64, 8, 64]⟩
abbrev S1x64x64x8 : Shape := ⟨4, ![1, 64, 64, 8]⟩
abbrev S1x8x128 : Shape := ⟨3, ![1, 8, 128]⟩
abbrev S1x8x128x1 : Shape := ⟨4, ![1, 8, 128, 1]⟩
abbrev S128 : Shape := ⟨1, ![128]⟩
abbrev S1x8192x8 : Shape := ⟨3, ![1, 8192, 8]⟩
abbrev S1x8192x8x1 : Shape := ⟨4, ![1, 8192, 8, 1]⟩
abbrev S1x1x1x128 : Shape := ⟨4, ![1, 1, 1, 128]⟩

abbrev nBuf : Space → Nat
  | .hbm => 192
  | .vmem => 0
  | .smem => 0
  | _ => 0

abbrev hbmTy0_0 (i : Nat) : BufTy := match i % 128 with
  | 0 => ⟨S8704x23040, .f32⟩
  | 1 => ⟨S2x1024, .f32⟩
  | 2 => ⟨S1x128, .f32⟩
  | 3 => ⟨S_, .f32⟩
  | 4 => ⟨S1024, .f32⟩
  | 5 => ⟨S_, .f32⟩
  | 6 => ⟨S1024, .f32⟩
  | 7 => ⟨S1024, .f32⟩
  | 8 => ⟨S1x1024, .f32⟩
  | 9 => ⟨S2x1024, .f32⟩
  | 10 => ⟨S2x1024, .f32⟩
  | 11 => ⟨S2x1024, .f32⟩
  | 12 => ⟨S_, .f32⟩
  | 13 => ⟨S1024, .f32⟩
  | 14 => ⟨S1x1024, .f32⟩
  | 15 => ⟨S2x1024, .f32⟩
  | 16 => ⟨S2x1024, .f32⟩
  | 17 => ⟨S_, .f32⟩
  | 18 => ⟨S_, .f32⟩
  | 19 => ⟨S2x1024, .f32⟩
  | 20 => ⟨S1x1024, .f32⟩
  | 21 => ⟨S1024, .f32⟩
  | 22 => ⟨S8x128, .f32⟩
  | 23 => ⟨S_, .f32⟩
  | 24 => ⟨S1x8x128x128, .f32⟩
  | 25 => ⟨S8192x1024, .f32⟩
  | 26 => ⟨S1x8192x1024, .f32⟩
  | 27 => ⟨S1x8192x8x128, .f32⟩
  | 28 => ⟨S8192x1024, .f32⟩
  | 29 => ⟨S1x8192x1024, .f32⟩
  | 30 => ⟨S1x8192x8x128, .f32⟩
  | 31 => ⟨S8192x1024, .f32⟩
  | 32 => ⟨S1x8192x1024, .f32⟩
  | 33 => ⟨S1x8192x8x128, .f32⟩
  | 34 => ⟨S_, .f32⟩
  | 35 => ⟨S8x128, .f32⟩
  | 36 => ⟨S8x128, .f32⟩
  | 37 => ⟨S1x8192x8x128, .f32⟩
  | 38 => ⟨S1x8192x8x128, .f32⟩
  | 39 => ⟨S_, .f32⟩
  | 40 => ⟨S1x8192x8x128, .f32⟩
  | 41 => ⟨S1x8192x8x128, .f32⟩
  | 42 => ⟨S_, .f32⟩
  | 43 => ⟨S1x8192x8x128, .f32⟩
  | 44 => ⟨S1x8192x8x128, .f32⟩
  | 45 => ⟨S1x1x8x128, .f32⟩
  | 46 => ⟨S1x8192x8x128, .f32⟩
  | 47 => ⟨S1x8192x8x128, .f32⟩
  | 48 => ⟨S1x1x8x128, .f32⟩
  | 49 => ⟨S1x8192x8x128, .f32⟩
  | 50 => ⟨S1x8192x8x128, .f32⟩
  | 51 => ⟨S_, .f32⟩
  | 52 => ⟨S1x8192x8x128, .f32⟩
  | 53 => ⟨S1x8192x8x128, .f32⟩
  | 54 => ⟨S1x8192x8x128, .f32⟩
  | 55 => ⟨S_, .i1⟩
  | 56 => ⟨S64x64, .i1⟩
  | 57 => ⟨S64x64, .i32⟩
  | 58 => ⟨S_, .i32⟩
  | 59 => ⟨S64x64, .i32⟩
  | 60 => ⟨S64x64, .i32⟩
  | 61 => ⟨S64x64, .i32⟩
  | 62 => ⟨S64x64, .i1⟩
  | 63 => ⟨S_, .i1⟩
  | 64 => ⟨S64x64, .i1⟩
  | 65 => ⟨S64x64, .i1⟩
  | 66 => ⟨S1x64x64x1x1, .i1⟩
  | 67 => ⟨S1x128x64x8x128, .f32⟩
  | 68 => ⟨S128x1x64x8x128, .f32⟩
  | 69 => ⟨S1x128x64x8x128, .f32⟩
  | 70 => ⟨S128x1x64x8x128, .f32⟩
  | 71 => ⟨S1x128x64x8x128, .f32⟩
  | 72 => ⟨S128x1x64x8x128, .f32⟩
  | 73 => ⟨S1x128x64x8x128, .f32⟩
  | 74 => ⟨S128x1x64x8x128, .f32⟩
  | 75 => ⟨S_, .f32⟩
  | 76 => ⟨S128x1x64x8x128, .f32⟩
  | 77 => ⟨S_, .i32⟩
  | 78 => ⟨S128x1x64x8x128, .f32⟩
  | 79 => ⟨S128x1x64x8x128, .f32⟩
  | 80 => ⟨S128x1x64x8x128, .f32⟩
  | 81 => ⟨S128x1x64x8x128, .f32⟩
  | 82 => ⟨S1x64x64x1x1, .i1⟩
  | 83 => ⟨S_, .i32⟩
  | 84 => ⟨S1x8x128x128, .f32⟩
  | 85 => ⟨S128x1x64x8x128, .f32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S1x1x64x8x128, .f32⟩
  | 93 => ⟨S1x64x8x128, .f32⟩
  | 94 => ⟨S_, .i32⟩
  | 95 => ⟨S_, .i32⟩
  | 96 => ⟨S_, .i32⟩
  | 97 => ⟨S_, .i32⟩
  | 98 => ⟨S1x1x64x8x128, .f32⟩
  | 99 => ⟨S1x64x8x128, .f32⟩
  | 100 => ⟨S_, .i32⟩
  | 101 => ⟨S_, .i32⟩
  | 102 => ⟨S_, .i32⟩
  | 103 => ⟨S_, .i32⟩
  | 104 => ⟨S1x1x64x8x128, .f32⟩
  | 105 => ⟨S1x64x8x128, .f32⟩
  | 106 => ⟨S_, .i32⟩
  | 107 => ⟨S_, .i32⟩
  | 108 => ⟨S_, .i32⟩
  | 109 => ⟨S_, .i32⟩
  | 110 => ⟨S1x1x64x8x128, .f32⟩
  | 111 => ⟨S1x64x8x128, .f32⟩
  | 112 => ⟨S_, .f32⟩
  | 113 => ⟨S_, .f32⟩
  | 114 => ⟨S1x64x8x128, .f32⟩
  | 115 => ⟨S1x64x8x128, .f32⟩
  | 116 => ⟨S1x64x8x128, .f32⟩
  | 117 => ⟨S1x8x128x64, .f32⟩
  | 118 => ⟨S1x64x8x128, .f32⟩
  | 119 => ⟨S1x64x1x8x128, .f32⟩
  | 120 => ⟨S1x1x64x8x128, .f32⟩
  | 121 => ⟨S1x64x64x8x128, .f32⟩
  | 122 => ⟨S1x64x64x8x128, .f32⟩
  | 123 => ⟨S1x64x64x8x128, .f32⟩
  | 124 => ⟨S_, .f32⟩
  | 125 => ⟨S1x64x64x8x128, .i1⟩
  | 126 => ⟨S1x64x64x8x128, .f32⟩
  | 127 => ⟨S1x64x64x8x128, .f32⟩
  | _ => ⟨S8704x23040, .f32⟩

abbrev hbmTy0_1 (i : Nat) : BufTy := match i % 128 with
  | 0 => ⟨S1x64x64x8x128, .f32⟩
  | 1 => ⟨S1x1x64x8x128, .f32⟩
  | 2 => ⟨S1x64x64x8x128, .f32⟩
  | 3 => ⟨S1x64x64x8x128, .f32⟩
  | 4 => ⟨S1x64x8x64, .f32⟩
  | 5 => ⟨S1x64x64x8, .f32⟩
  | 6 => ⟨S1x8x128x64, .f32⟩
  | 7 => ⟨S1x64x8x128, .f32⟩
  | 8 => ⟨S1x1x8x128, .f32⟩
  | 9 => ⟨S1x8x128, .f32⟩
  | 10 => ⟨S1x8x128, .f32⟩
  | 11 => ⟨S1x8x128x1, .f32⟩
  | 12 => ⟨S1x8x128x128, .f32⟩
  | 13 => ⟨S1x8x128x128, .f32⟩
  | 14 => ⟨S1x1x8x128, .f32⟩
  | 15 => ⟨S1x64x8x128, .f32⟩
  | 16 => ⟨S1x64x8x128, .f32⟩
  | 17 => ⟨S1x64x8x128, .f32⟩
  | 18 => ⟨S1x64x8x128, .f32⟩
  | 19 => ⟨S1x8x128x128, .f32⟩
  | 20 => ⟨S1x8x128x128, .f32⟩
  | 21 => ⟨S1x64x8x128, .f32⟩
  | 22 => ⟨S1x1x64x8x128, .f32⟩
  | 23 => ⟨S_, .i32⟩
  | 24 => ⟨S_, .i32⟩
  | 25 => ⟨S_, .i32⟩
  | 26 => ⟨S_, .i32⟩
  | 27 => ⟨S128x1x64x8x128, .f32⟩
  | 28 => ⟨S_, .i32⟩
  | 29 => ⟨S_, .i32⟩
  | 30 => ⟨S1x128x64x8x128, .f32⟩
  | 31 => ⟨S1x8192x8x128, .f32⟩
  | 32 => ⟨S128, .f32⟩
  | 33 => ⟨S1x8192x8x128, .f32⟩
  | 34 => ⟨S_, .f32⟩
  | 35 => ⟨S1x8192x8, .f32⟩
  | 36 => ⟨S1x8192x8x1, .f32⟩
  | 37 => ⟨S_, .f32⟩
  | 38 => ⟨S1x8192x8x1, .f32⟩
  | 39 => ⟨S1x8192x8x1, .f32⟩
  | 40 => ⟨S_, .f32⟩
  | 41 => ⟨S1x8192x8x1, .f32⟩
  | 42 => ⟨S1x8192x8x1, .f32⟩
  | 43 => ⟨S1x8192x8x1, .f32⟩
  | 44 => ⟨S1x8192x8x128, .f32⟩
  | 45 => ⟨S1x8192x8x128, .f32⟩
  | 46 => ⟨S1x1x1x128, .f32⟩
  | 47 => ⟨S1x8192x8x128, .f32⟩
  | 48 => ⟨S1x8192x8x128, .f32⟩
  | 49 => ⟨S8192x1024, .f32⟩
  | 50 => ⟨S1x8192x1024, .f32⟩
  | 51 => ⟨S1x8192x8x128, .f32⟩
  | 52 => ⟨S1x8192x8x128, .f32⟩
  | 53 => ⟨S1x8192x8x128, .f32⟩
  | 54 => ⟨S_, .f32⟩
  | 55 => ⟨S1x8192x8x128, .f32⟩
  | 56 => ⟨S1x8192x8x128, .f32⟩
  | 57 => ⟨S_, .f32⟩
  | 58 => ⟨S1x8192x8x128, .f32⟩
  | 59 => ⟨S1x8192x8x128, .f32⟩
  | 60 => ⟨S1x8192x8x128, .f32⟩
  | 61 => ⟨S1x8192x8x128, .f32⟩
  | 62 => ⟨S8192x1024, .f32⟩
  | 63 => ⟨S8192x1024, .bf16⟩
  | _ => ⟨S8704x23040, .f32⟩

abbrev hbmTy (i : Nat) : BufTy := match i / 128 with
  | 0 => hbmTy0_0 i
  | 1 => hbmTy0_1 i
  | _ => ⟨S8704x23040, .f32⟩

abbrev bufTy : (tb : Table) → Fin (tcTables nBuf tb) → BufTy
  | .hbm, ⟨i, _⟩ => hbmTy i
  | _, _ => ⟨S8704x23040, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c : Ref sig .tc := ⟨.hbm, 55, rfl⟩
abbrev main_v42 : Ref sig .tc := ⟨.hbm, 56, rfl⟩
abbrev main_call1_v0 : Ref sig .tc := ⟨.hbm, 57, rfl⟩
abbrev main_call1_c : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_c_0 : Ref sig .tc := ⟨.hbm, 63, rfl⟩
abbrev main_call1_v5 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_7 : Ref sig .tc := ⟨.hbm, 75, rfl⟩
abbrev main_v53 : Ref sig .tc := ⟨.hbm, 76, rfl⟩
abbrev main_c_8 : Ref sig .tc := ⟨.hbm, 77, rfl⟩
abbrev main_v54_0 : Ref sig .tc := ⟨.hbm, 78, rfl⟩
abbrev main_v54_1 : Ref sig .tc := ⟨.hbm, 79, rfl⟩
abbrev main_v54_2 : Ref sig .tc := ⟨.hbm, 80, rfl⟩
abbrev main_v54_3 : Ref sig .tc := ⟨.hbm, 81, rfl⟩
abbrev main_v54_4 : Ref sig .tc := ⟨.hbm, 82, rfl⟩
abbrev main_v54_5 : Ref sig .tc := ⟨.hbm, 83, rfl⟩
abbrev main_v54_6 : Ref sig .tc := ⟨.hbm, 84, rfl⟩
abbrev main_v54_7 : Ref sig .tc := ⟨.hbm, 85, rfl⟩
abbrev main_while0c_c_19 : Ref sig .tc := ⟨.hbm, 86, rfl⟩
abbrev main_while0c_v78 : Ref sig .tc := ⟨.hbm, 87, rfl⟩
abbrev main_while0b_call2_c : Ref sig .tc := ⟨.hbm, 88, rfl⟩
abbrev main_while0b_call2_c_0 : Ref sig .tc := ⟨.hbm, 89, rfl⟩
abbrev main_while0b_call2_c_1 : Ref sig .tc := ⟨.hbm, 90, rfl⟩
abbrev main_while0b_call2_c_2 : Ref sig .tc := ⟨.hbm, 91, rfl⟩
abbrev main_while0b_call2_v0 : Ref sig .tc := ⟨.hbm, 92, rfl⟩
abbrev main_while0b_v78 : Ref sig .tc := ⟨.hbm, 93, rfl⟩
abbrev main_while0b_call3_c : Ref sig .tc := ⟨.hbm, 94, rfl⟩
abbrev main_while0b_call3_c_0 : Ref sig .tc := ⟨.hbm, 95, rfl⟩
abbrev main_while0b_call3_c_1 : Ref sig .tc := ⟨.hbm, 96, rfl⟩
abbrev main_while0b_call3_c_2 : Ref sig .tc := ⟨.hbm, 97, rfl⟩
abbrev main_while0b_call3_v0 : Ref sig .tc := ⟨.hbm, 98, rfl⟩
abbrev main_while0b_v79 : Ref sig .tc := ⟨.hbm, 99, rfl⟩
abbrev main_while0b_call4_c : Ref sig .tc := ⟨.hbm, 100, rfl⟩
abbrev main_while0b_call4_c_0 : Ref sig .tc := ⟨.hbm, 101, rfl⟩
abbrev main_while0b_call4_c_1 : Ref sig .tc := ⟨.hbm, 102, rfl⟩
abbrev main_while0b_call4_c_2 : Ref sig .tc := ⟨.hbm, 103, rfl⟩
abbrev main_while0b_call4_v0 : Ref sig .tc := ⟨.hbm, 104, rfl⟩
abbrev main_while0b_v80 : Ref sig .tc := ⟨.hbm, 105, rfl⟩
abbrev main_while0b_call5_c : Ref sig .tc := ⟨.hbm, 106, rfl⟩
abbrev main_while0b_call5_c_0 : Ref sig .tc := ⟨.hbm, 107, rfl⟩
abbrev main_while0b_call5_c_1 : Ref sig .tc := ⟨.hbm, 108, rfl⟩
abbrev main_while0b_call5_c_2 : Ref sig .tc := ⟨.hbm, 109, rfl⟩
abbrev main_while0b_call5_v0 : Ref sig .tc := ⟨.hbm, 110, rfl⟩
abbrev main_while0b_v81 : Ref sig .tc := ⟨.hbm, 111, rfl⟩
abbrev main_while0b_call6_call0_cst : Ref sig .tc := ⟨.hbm, 112, rfl⟩
abbrev main_while0b_call6_call0_v0 : Ref sig .tc := ⟨.hbm, 113, rfl⟩
abbrev main_while0b_v82 : Ref sig .tc := ⟨.hbm, 114, rfl⟩
abbrev main_while0b_v83 : Ref sig .tc := ⟨.hbm, 115, rfl⟩
abbrev main_while0b_v84 : Ref sig .tc := ⟨.hbm, 116, rfl⟩
abbrev main_while0b_v85 : Ref sig .tc := ⟨.hbm, 117, rfl⟩
abbrev main_while0b_v86 : Ref sig .tc := ⟨.hbm, 118, rfl⟩
abbrev main_while0b_v87 : Ref sig .tc := ⟨.hbm, 119, rfl⟩
abbrev main_while0b_v88 : Ref sig .tc := ⟨.hbm, 120, rfl⟩
abbrev main_while0b_v89 : Ref sig .tc := ⟨.hbm, 121, rfl⟩
abbrev main_while0b_v90 : Ref sig .tc := ⟨.hbm, 122, rfl⟩
abbrev main_while0b_v91 : Ref sig .tc := ⟨.hbm, 123, rfl⟩
abbrev main_while0b_cst_19 : Ref sig .tc := ⟨.hbm, 124, rfl⟩
abbrev main_while0b_call7_v0 : Ref sig .tc := ⟨.hbm, 125, rfl⟩
abbrev main_while0b_call7_v1 : Ref sig .tc := ⟨.hbm, 126, rfl⟩
abbrev main_while0b_v92 : Ref sig .tc := ⟨.hbm, 127, rfl⟩
abbrev main_while0b_v93 : Ref sig .tc := ⟨.hbm, 128, rfl⟩
abbrev main_while0b_v94 : Ref sig .tc := ⟨.hbm, 129, rfl⟩
abbrev main_while0b_v95 : Ref sig .tc := ⟨.hbm, 130, rfl⟩
abbrev main_while0b_v96 : Ref sig .tc := ⟨.hbm, 131, rfl⟩
abbrev main_while0b_v97 : Ref sig .tc := ⟨.hbm, 132, rfl⟩
abbrev main_while0b_v98 : Ref sig .tc := ⟨.hbm, 133, rfl⟩
abbrev main_while0b_v99 : Ref sig .tc := ⟨.hbm, 134, rfl⟩
abbrev main_while0b_v100 : Ref sig .tc := ⟨.hbm, 135, rfl⟩
abbrev main_while0b_v101 : Ref sig .tc := ⟨.hbm, 136, rfl⟩
abbrev main_while0b_v102 : Ref sig .tc := ⟨.hbm, 137, rfl⟩
abbrev main_while0b_v103 : Ref sig .tc := ⟨.hbm, 138, rfl⟩
abbrev main_while0b_v104 : Ref sig .tc := ⟨.hbm, 139, rfl⟩
abbrev main_while0b_v105 : Ref sig .tc := ⟨.hbm, 140, rfl⟩
abbrev main_while0b_v106 : Ref sig .tc := ⟨.hbm, 141, rfl⟩
abbrev main_while0b_v107 : Ref sig .tc := ⟨.hbm, 142, rfl⟩
abbrev main_while0b_v108 : Ref sig .tc := ⟨.hbm, 143, rfl⟩
abbrev main_while0b_v109 : Ref sig .tc := ⟨.hbm, 144, rfl⟩
abbrev main_while0b_v110 : Ref sig .tc := ⟨.hbm, 145, rfl⟩
abbrev main_while0b_v111 : Ref sig .tc := ⟨.hbm, 146, rfl⟩
abbrev main_while0b_v112 : Ref sig .tc := ⟨.hbm, 147, rfl⟩
abbrev main_while0b_v113 : Ref sig .tc := ⟨.hbm, 148, rfl⟩
abbrev main_while0b_v114 : Ref sig .tc := ⟨.hbm, 149, rfl⟩
abbrev main_while0b_call8_v0 : Ref sig .tc := ⟨.hbm, 150, rfl⟩
abbrev main_while0b_call8_c : Ref sig .tc := ⟨.hbm, 151, rfl⟩
abbrev main_while0b_call8_c_0 : Ref sig .tc := ⟨.hbm, 152, rfl⟩
abbrev main_while0b_call8_c_1 : Ref sig .tc := ⟨.hbm, 153, rfl⟩
abbrev main_while0b_call8_c_2 : Ref sig .tc := ⟨.hbm, 154, rfl⟩
abbrev main_while0b_v115 : Ref sig .tc := ⟨.hbm, 155, rfl⟩
abbrev main_while0b_c_20 : Ref sig .tc := ⟨.hbm, 156, rfl⟩
abbrev main_while0b_v116 : Ref sig .tc := ⟨.hbm, 157, rfl⟩
abbrev main_v55 : Ref sig .tc := ⟨.hbm, 158, rfl⟩
abbrev main_v56 : Ref sig .tc := ⟨.hbm, 159, rfl⟩
abbrev main_v57 : Ref sig .tc := ⟨.hbm, 160, rfl⟩
abbrev main_v58 : Ref sig .tc := ⟨.hbm, 161, rfl⟩
abbrev main_cst_9 : Ref sig .tc := ⟨.hbm, 162, rfl⟩
abbrev main_v59 : Ref sig .tc := ⟨.hbm, 163, rfl⟩
abbrev main_v60 : Ref sig .tc := ⟨.hbm, 164, rfl⟩
abbrev main_cst_10 : Ref sig .tc := ⟨.hbm, 165, rfl⟩
abbrev main_v61 : Ref sig .tc := ⟨.hbm, 166, rfl⟩
abbrev main_v62 : Ref sig .tc := ⟨.hbm, 167, rfl⟩
abbrev main_cst_11 : Ref sig .tc := ⟨.hbm, 168, rfl⟩
abbrev main_v63 : Ref sig .tc := ⟨.hbm, 169, rfl⟩
abbrev main_v64 : Ref sig .tc := ⟨.hbm, 170, rfl⟩
abbrev main_v65 : Ref sig .tc := ⟨.hbm, 171, rfl⟩
abbrev main_v66 : Ref sig .tc := ⟨.hbm, 172, rfl⟩
abbrev main_v67 : Ref sig .tc := ⟨.hbm, 173, rfl⟩
abbrev main_v68 : Ref sig .tc := ⟨.hbm, 174, rfl⟩
abbrev main_v69 : Ref sig .tc := ⟨.hbm, 175, rfl⟩
abbrev main_v70 : Ref sig .tc := ⟨.hbm, 176, rfl⟩
abbrev main_v71 : Ref sig .tc := ⟨.hbm, 177, rfl⟩
abbrev main_v72 : Ref sig .tc := ⟨.hbm, 178, rfl⟩
abbrev main_v73 : Ref sig .tc := ⟨.hbm, 179, rfl⟩
abbrev main_call9_v0 : Ref sig .tc := ⟨.hbm, 180, rfl⟩
abbrev main_call9_v1 : Ref sig .tc := ⟨.hbm, 181, rfl⟩
abbrev main_call9_cst : Ref sig .tc := ⟨.hbm, 182, rfl⟩
abbrev main_call9_v2 : Ref sig .tc := ⟨.hbm, 183, rfl⟩
abbrev main_call9_v3 : Ref sig .tc := ⟨.hbm, 184, rfl⟩
abbrev main_call9_cst_0 : Ref sig .tc := ⟨.hbm, 185, rfl⟩
abbrev main_call9_v4 : Ref sig .tc := ⟨.hbm, 186, rfl⟩
abbrev main_call9_v5 : Ref sig .tc := ⟨.hbm, 187, rfl⟩
abbrev main_v74 : Ref sig .tc := ⟨.hbm, 188, rfl⟩
abbrev main_v75 : Ref sig .tc := ⟨.hbm, 189, rfl⟩
abbrev main_v76 : Ref sig .tc := ⟨.hbm, 190, rfl⟩
abbrev main_v77 : Ref sig .tc := ⟨.hbm, 191, rfl⟩

abbrev nD : Nat := 1
abbrev τ : Topo := Topo.v7x

variable {F : FTy → Type} [FloatOps F]

abbrev main_while0_count : Scf.Loop 32 := ⟨0#32, 128#32, 1#32⟩
-- ==== MemKv.lean ====
abbrev S1x256x4096 : Shape := ⟨3, ![1, 256, 4096]⟩
abbrev S1x4096x2048 : Shape := ⟨3, ![1, 4096, 2048]⟩
abbrev S256x4096 : Shape := ⟨2, ![256, 4096]⟩
abbrev S4096x2048 : Shape := ⟨2, ![4096, 2048]⟩
abbrev S256x2048 : Shape := ⟨2, ![256, 2048]⟩
abbrev S4096x512 : Shape := ⟨2, ![4096, 512]⟩
abbrev S256x512 : Shape := ⟨2, ![256, 512]⟩

abbrev nBuf : Space → Nat
  | .hbm => 7
  | .vmem => 5
  | .smem => 0
  | _ => 0

abbrev bufTy : (tb : Table) → Fin (tcTables nBuf tb) → BufTy
  | .hbm, ⟨0, _⟩ => ⟨S1x256x4096, .f32⟩
  | .hbm, ⟨1, _⟩ => ⟨S1x4096x2048, .f32⟩
  | .hbm, ⟨2, _⟩ => ⟨S256x4096, .f32⟩
  | .hbm, ⟨3, _⟩ => ⟨S256x4096, .bf16⟩
  | .hbm, ⟨4, _⟩ => ⟨S4096x2048, .f32⟩
  | .hbm, ⟨5, _⟩ => ⟨S4096x2048, .bf16⟩
  | .hbm, ⟨6, _⟩ => ⟨S256x2048, .f32⟩
  | .local _ .vmem, ⟨0, _⟩ => ⟨S256x4096, .bf16⟩
  | .local _ .vmem, ⟨1, _⟩ => ⟨S4096x512, .bf16⟩
  | .local _ .vmem, ⟨2, _⟩ => ⟨S4096x512, .bf16⟩
  | .local _ .vmem, ⟨3, _⟩ => ⟨S256x512, .f32⟩
  | .local _ .vmem, ⟨4, _⟩ => ⟨S256x512, .f32⟩
  | _, _ => ⟨S1x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefMemKvIdeal.lean ====
abbrev S1x256x4096 : Shape := ⟨3, ![1, 256, 4096]⟩
abbrev S1x4096x2048 : Shape := ⟨3, ![1, 4096, 2048]⟩
abbrev S4096x2048 : Shape := ⟨2, ![4096, 2048]⟩
abbrev S1x256x2048 : Shape := ⟨3, ![1, 256, 2048]⟩
abbrev S256x2048 : Shape := ⟨2, ![256, 2048]⟩

abbrev nBuf : Space → Nat
  | .hbm => 5
  | .vmem => 0
  | .smem => 0
  | _ => 0

abbrev bufTy : (tb : Table) → Fin (tcTables nBuf tb) → BufTy
  | .hbm, ⟨0, _⟩ => ⟨S1x256x4096, .f32⟩
  | .hbm, ⟨1, _⟩ => ⟨S1x4096x2048, .f32⟩
  | .hbm, ⟨2, _⟩ => ⟨S4096x2048, .f32⟩
  | .hbm, ⟨3, _⟩ => ⟨S1x256x2048, .f32⟩
  | .hbm, ⟨4, _⟩ => ⟨S256x2048, .f32⟩
  | _, _ => ⟨S1x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjIn.lean ====
abbrev S1x8192x4096 : Shape := ⟨3, ![1, 8192, 4096]⟩
abbrev S32x4x4096 : Shape := ⟨3, ![32, 4, 4096]⟩
abbrev S23040x4096 : Shape := ⟨2, ![23040, 4096]⟩
abbrev S1x16384x4096 : Shape := ⟨3, ![1, 16384, 4096]⟩
abbrev S8192x4096 : Shape := ⟨2, ![8192, 4096]⟩
abbrev S128x4096 : Shape := ⟨2, ![128, 4096]⟩
abbrev S8320x4096 : Shape := ⟨2, ![8320, 4096]⟩
abbrev S_ : Shape := ⟨0, ![]⟩
abbrev S8704x4096 : Shape := ⟨2, ![8704, 4096]⟩
abbrev S16384x4096 : Shape := ⟨2, ![16384, 4096]⟩
abbrev S8704x23040 : Shape := ⟨2, ![8704, 23040]⟩
abbrev S512x4096 : Shape := ⟨2, ![512, 4096]⟩
abbrev S1536x4096 : Shape := ⟨2, ![1536, 4096]⟩
abbrev S512x1536 : Shape := ⟨2, ![512, 1536]⟩

abbrev nBuf : Space → Nat
  | .hbm => 18
  | .vmem => 14
  | .smem => 0
  | _ => 0

abbrev bufTy : (tb : Table) → Fin (tcTables nBuf tb) → BufTy
  | .hbm, ⟨0, _⟩ => ⟨S1x8192x4096, .f32⟩
  | .hbm, ⟨1, _⟩ => ⟨S32x4x4096, .f32⟩
  | .hbm, ⟨2, _⟩ => ⟨S23040x4096, .bf16⟩
  | .hbm, ⟨3, _⟩ => ⟨S1x16384x4096, .f32⟩
  | .hbm, ⟨4, _⟩ => ⟨S1x16384x4096, .f32⟩
  | .hbm, ⟨5, _⟩ => ⟨S8192x4096, .f32⟩
  | .hbm, ⟨6, _⟩ => ⟨S128x4096, .f32⟩
  | .hbm, ⟨7, _⟩ => ⟨S8192x4096, .bf16⟩
  | .hbm, ⟨8, _⟩ => ⟨S128x4096, .bf16⟩
  | .hbm, ⟨9, _⟩ => ⟨S8320x4096, .bf16⟩
  | .hbm, ⟨10, _⟩ => ⟨S_, .i32⟩
  | .hbm, ⟨11, _⟩ => ⟨S_, .bf16⟩
  | .hbm, ⟨12, _⟩ => ⟨S8704x4096, .bf16⟩
  | .hbm, ⟨13, _⟩ => ⟨S16384x4096, .f32⟩
  | .hbm, ⟨14, _⟩ => ⟨S16384x4096, .f32⟩
  | .hbm, ⟨15, _⟩ => ⟨S8704x23040, .f32⟩
  | .hbm, ⟨16, _⟩ => ⟨S16384x4096, .bf16⟩
  | .hbm, ⟨17, _⟩ => ⟨S16384x4096, .bf16⟩
  | .local _ .vmem, ⟨0, _⟩ => ⟨S512x4096, .bf16⟩
  | .local _ .vmem, ⟨1, _⟩ => ⟨S512x4096, .bf16⟩
  | .local _ .vmem, ⟨2, _⟩ => ⟨S1536x4096, .bf16⟩
  | .local _ .vmem, ⟨3, _⟩ => ⟨S1536x4096, .bf16⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S512x1536, .f32⟩
  | .local _ .vmem, ⟨9, _⟩ => ⟨S512x1536, .f32⟩
  | .local _ .vmem, ⟨10, _⟩ => ⟨S128x4096, .bf16⟩
  | .local _ .vmem, ⟨11, _⟩ => ⟨S128x4096, .bf16⟩
  | .local _ .vmem, ⟨12, _⟩ => ⟨S128x4096, .bf16⟩
  | .local _ .vmem, ⟨13, _⟩ => ⟨S128x4096, .bf16⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![15, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1536x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefProjInIdeal.lean ====
abbrev S1x8192x4096 : Shape := ⟨3, ![1, 8192, 4096]⟩
abbrev S32x4x4096 : Shape := ⟨3, ![32, 4, 4096]⟩
abbrev S23040x4096 : Shape := ⟨2, ![23040, 4096]⟩
abbrev S1x16384x4096 : Shape := ⟨3, ![1, 16384, 4096]⟩
abbrev S4096x23040 : Shape := ⟨2, ![4096, 23040]⟩
abbrev S8192x4096 : Shape := ⟨2, ![8192, 4096]⟩
abbrev S8192x23040 : Shape := ⟨2, ![8192, 23040]⟩
abbrev S128x4096 : Shape := ⟨2, ![128, 4096]⟩
abbrev S128x23040 : Shape := ⟨2, ![128, 23040]⟩
abbrev S_ : Shape := ⟨0, ![]⟩
abbrev S384x23040 : Shape := ⟨2, ![384, 23040]⟩
abbrev S8704x23040 : Shape := ⟨2, ![8704, 23040]⟩
abbrev S16384x4096 : Shape := ⟨2, ![16384, 4096]⟩

abbrev nBuf : Space → Nat
  | .hbm => 18
  | .vmem => 0
  | .smem => 0
  | _ => 0

abbrev bufTy : (tb : Table) → Fin (tcTables nBuf tb) → BufTy
  | .hbm, ⟨0, _⟩ => ⟨S1x8192x4096, .f32⟩
  | .hbm, ⟨1, _⟩ => ⟨S32x4x4096, .f32⟩
  | .hbm, ⟨2, _⟩ => ⟨S23040x4096, .bf16⟩
  | .hbm, ⟨3, _⟩ => ⟨S1x16384x4096, .f32⟩
  | .hbm, ⟨4, _⟩ => ⟨S1x16384x4096, .f32⟩
  | .hbm, ⟨5, _⟩ => ⟨S23040x4096, .f32⟩
  | .hbm, ⟨6, _⟩ => ⟨S4096x23040, .f32⟩
  | .hbm, ⟨7, _⟩ => ⟨S8192x4096, .f32⟩
  | .hbm, ⟨8, _⟩ => ⟨S8192x23040, .f32⟩
  | .hbm, ⟨9, _⟩ => ⟨S128x4096, .f32⟩
  | .hbm, ⟨10, _⟩ => ⟨S128x23040, .f32⟩
  | .hbm, ⟨11, _⟩ => ⟨S_, .f32⟩
  | .hbm, ⟨12, _⟩ => ⟨S384x23040, .f32⟩
  | .hbm, ⟨13, _⟩ => ⟨S8704x23040, .f32⟩
  | .hbm, ⟨14, _⟩ => ⟨S16384x4096, .f32⟩
  | .hbm, ⟨15, _⟩ => ⟨S16384x4096, .bf16⟩
  | .hbm, ⟨16, _⟩ => ⟨S16384x4096, .f32⟩
  | .hbm, ⟨17, _⟩ => ⟨S16384x4096, .bf16⟩
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== PeerQuery.lean ====
abbrev S8704x4096 : Shape := ⟨2, ![8704, 4096]⟩
abbrev S1x4096x2048 : Shape := ⟨3, ![1, 4096, 2048]⟩
abbrev S4096x2048 : Shape := ⟨2, ![4096, 2048]⟩
abbrev S8704x2048 : Shape := ⟨2, ![8704, 2048]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S8704x4096, .bf16⟩
  | .hbm, ⟨1, _⟩ => ⟨S1x4096x2048, .f32⟩
  | .hbm, ⟨2, _⟩ => ⟨S4096x2048, .f32⟩
  | .hbm, ⟨3, _⟩ => ⟨S4096x2048, .bf16⟩
  | .hbm, ⟨4, _⟩ => ⟨S8704x2048, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefPeerQueryIdeal.lean ====
abbrev S8704x4096 : Shape := ⟨2, ![8704, 4096]⟩
abbrev S1x4096x2048 : Shape := ⟨3, ![1, 4096, 2048]⟩
abbrev S4096x2048 : Shape := ⟨2, ![4096, 2048]⟩
abbrev S8704x2048 : Shape := ⟨2, ![8704, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S1x4096x2048, .f32⟩
  | .hbm, ⟨2, _⟩ => ⟨S8704x4096, .f32⟩
  | .hbm, ⟨3, _⟩ => ⟨S4096x2048, .f32⟩
  | .hbm, ⟨4, _⟩ => ⟨S8704x2048, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Merge.lean ====
abbrev S8704x2048 : Shape := ⟨2, ![8704, 2048]⟩
abbrev S8704x1024 : Shape := ⟨2, ![8704, 1024]⟩
abbrev S1x2048x4096 : Shape := ⟨3, ![1, 2048, 4096]⟩
abbrev S1x1024x4096 : Shape := ⟨3, ![1, 1024, 4096]⟩
abbrev S8704x23040 : Shape := ⟨2, ![8704, 23040]⟩
abbrev S2048x4096 : Shape := ⟨2, ![2048, 4096]⟩
abbrev S1024x4096 : Shape := ⟨2, ![1024, 4096]⟩
abbrev S8704x4096 : Shape := ⟨2, ![8704, 4096]⟩
abbrev S512x2048 : Shape := ⟨2, ![512, 2048]⟩
abbrev S512x1024 : Shape := ⟨2, ![512, 1024]⟩
abbrev S2048x1024 : Shape := ⟨2, ![2048, 1024]⟩
abbrev S1024x1024 : Shape := ⟨2, ![1024, 1024]⟩

abbrev nBuf : Space → Nat
  | .hbm => 14
  | .vmem => 20
  | .smem => 0
  | _ => 0

abbrev bufTy : (tb : Table) → Fin (tcTables nBuf tb) → BufTy
  | .hbm, ⟨0, _⟩ => ⟨S8704x2048, .bf16⟩
  | .hbm, ⟨1, _⟩ => ⟨S8704x1024, .bf16⟩
  | .hbm, ⟨2, _⟩ => ⟨S8704x1024, .bf16⟩
  | .hbm, ⟨3, _⟩ => ⟨S1x2048x4096, .f32⟩
  | .hbm, ⟨4, _⟩ => ⟨S1x1024x4096, .f32⟩
  | .hbm, ⟨5, _⟩ => ⟨S1x1024x4096, .f32⟩
  | .hbm, ⟨6, _⟩ => ⟨S8704x23040, .f32⟩
  | .hbm, ⟨7, _⟩ => ⟨S2048x4096, .f32⟩
  | .hbm, ⟨8, _⟩ => ⟨S2048x4096, .bf16⟩
  | .hbm, ⟨9, _⟩ => ⟨S1024x4096, .f32⟩
  | .hbm, ⟨10, _⟩ => ⟨S1024x4096, .bf16⟩
  | .hbm, ⟨11, _⟩ => ⟨S1024x4096, .f32⟩
  | .hbm, ⟨12, _⟩ => ⟨S1024x4096, .bf16⟩
  | .hbm, ⟨13, _⟩ => ⟨S8704x4096, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== RefMergeIdeal.lean ====
abbrev S8704x2048 : Shape := ⟨2, ![8704, 2048]⟩
abbrev S8704x1024 : Shape := ⟨2, ![8704, 1024]⟩
abbrev S1x2048x4096 : Shape := ⟨3, ![1, 2048, 4096]⟩
abbrev S1x1024x4096 : Shape := ⟨3, ![1, 1024, 4096]⟩
abbrev S8704x23040 : Shape := ⟨2, ![8704, 23040]⟩
abbrev S8704x4096 : Shape := ⟨2, ![8704, 4096]⟩
abbrev S_ : Shape := ⟨0, ![]⟩
abbrev S2048x4096 : Shape := ⟨2, ![2048, 4096]⟩
abbrev S1024x4096 : Shape := ⟨2, ![1024, 4096]⟩

abbrev nBuf : Space → Nat
  | .hbm => 49
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S8704x1024, .bf16⟩
  | .hbm, ⟨2, _⟩ => ⟨S8704x1024, .bf16⟩
  | .hbm, ⟨3, _⟩ => ⟨S1x2048x4096, .f32⟩
  | .hbm, ⟨4, _⟩ => ⟨S1x1024x4096, .f32⟩
  | .hbm, ⟨5, _⟩ => ⟨S1x1024x4096, .f32⟩
  | .hbm, ⟨6, _⟩ => ⟨S8704x23040, .f32⟩
  | .hbm, ⟨7, _⟩ => ⟨S8704x4096, .f32⟩
  | .hbm, ⟨8, _⟩ => ⟨S8704x4096, .f32⟩
  | .hbm, ⟨9, _⟩ => ⟨S8704x4096, .f32⟩
  | .hbm, ⟨10, _⟩ => ⟨S8704x2048, .f32⟩
  | .hbm, ⟨11, _⟩ => ⟨S8704x1024, .f32⟩
  | .hbm, ⟨12, _⟩ => ⟨S8704x1024, .f32⟩
  | .hbm, ⟨13, _⟩ => ⟨S8704x4096, .f32⟩
  | .hbm, ⟨14, _⟩ => ⟨S8704x4096, .f32⟩
  | .hbm, ⟨15, _⟩ => ⟨S_, .f32⟩
  | .hbm, ⟨16, _⟩ => ⟨S8704x4096, .f32⟩
  | .hbm, ⟨17, _⟩ => ⟨S8704x4096, .f32⟩
  | .hbm, ⟨18, _⟩ => ⟨S_, .f32⟩
  | .hbm, ⟨19, _⟩ => ⟨S8704x4096, .f32⟩
  | .hbm, ⟨20, _⟩ => ⟨S8704x4096, .f32⟩
  | .hbm, ⟨21, _⟩ => ⟨S2048x4096, .f32⟩
  | .hbm, ⟨22, _⟩ => ⟨S8704x4096, .f32⟩
  | .hbm, ⟨23, _⟩ => ⟨S8704x4096, .f32⟩
  | .hbm, ⟨24, _⟩ => ⟨S8704x4096, .f32⟩
  | .hbm, ⟨25, _⟩ => ⟨S8704x4096, .f32⟩
  | .hbm, ⟨26, _⟩ => ⟨S_, .f32⟩
  | .hbm, ⟨27, _⟩ => ⟨S8704x4096, .f32⟩
  | .hbm, ⟨28, _⟩ => ⟨S8704x4096, .f32⟩
  | .hbm, ⟨29, _⟩ => ⟨S_, .f32⟩
  | .hbm, ⟨30, _⟩ => ⟨S8704x4096, .f32⟩
  | .hbm, ⟨31, _⟩ => ⟨S8704x4096, .f32⟩
  | .hbm, ⟨32, _⟩ => ⟨S1024x4096, .f32⟩
  | .hbm, ⟨33, _⟩ => ⟨S8704x4096, .f32⟩
  | .hbm, ⟨34, _⟩ => ⟨S8704x4096, .f32⟩
  | .hbm, ⟨35, _⟩ => ⟨S8704x4096, .f32⟩
  | .hbm, ⟨36, _⟩ => ⟨S8704x4096, .f32⟩
  | .hbm, ⟨37, _⟩ => ⟨S8704x4096, .f32⟩
  | .hbm, ⟨38, _⟩ => ⟨S_, .f32⟩
  | .hbm, ⟨39, _⟩ => ⟨S8704x4096, .f32⟩
  | .hbm, ⟨40, _⟩ => ⟨S8704x4096, .f32⟩
  | .hbm, ⟨41, _⟩ => ⟨S_, .f32⟩
  | .hbm, ⟨42, _⟩ => ⟨S8704x4096, .f32⟩
  | .hbm, ⟨43, _⟩ => ⟨S8704x4096, .f32⟩
  | .hbm, ⟨44, _⟩ => ⟨S1024x4096, .f32⟩
  | .hbm, ⟨45, _⟩ => ⟨S8704x4096, .f32⟩
  | .hbm, ⟨46, _⟩ => ⟨S8704x4096, .f32⟩
  | .hbm, ⟨47, _⟩ => ⟨S8704x4096, .f32⟩
  | .hbm, ⟨48, _⟩ => ⟨S8704x4096, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Resid.lean ====
abbrev S8704x4096 : Shape := ⟨2, ![8704, 4096]⟩
abbrev S1x4096x4096 : Shape := ⟨3, ![1, 4096, 4096]⟩
abbrev S1x8192x4096 : Shape := ⟨3, ![1, 8192, 4096]⟩
abbrev S32x4x4096 : Shape := ⟨3, ![32, 4, 4096]⟩
abbrev S8192x4096 : Shape := ⟨2, ![8192, 4096]⟩
abbrev S128x4096 : Shape := ⟨2, ![128, 4096]⟩
abbrev S4096x4096 : Shape := ⟨2, ![4096, 4096]⟩
abbrev S_ : Shape := ⟨0, ![]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 12
  | .vmem => 10
  | .smem => 0
  | _ => 0

abbrev bufTy : (tb : Table) → Fin (tcTables nBuf tb) → BufTy
  | .hbm, ⟨0, _⟩ => ⟨S8704x4096, .bf16⟩
  | .hbm, ⟨1, _⟩ => ⟨S1x4096x4096, .f32⟩
  | .hbm, ⟨2, _⟩ => ⟨S1x8192x4096, .f32⟩
  | .hbm, ⟨3, _⟩ => ⟨S32x4x4096, .f32⟩
  | .hbm, ⟨4, _⟩ => ⟨S8192x4096, .f32⟩
  | .hbm, ⟨5, _⟩ => ⟨S128x4096, .f32⟩
  | .hbm, ⟨6, _⟩ => ⟨S4096x4096, .f32⟩
  | .hbm, ⟨7, _⟩ => ⟨S4096x4096, .bf16⟩
  | .hbm, ⟨8, _⟩ => ⟨S_, .i32⟩
  | .hbm, ⟨9, _⟩ => ⟨S_, .f32⟩
  | .hbm, ⟨10, _⟩ => ⟨S512x4096, .f32⟩
  | .hbm, ⟨11, _⟩ => ⟨S8704x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RefResidIdeal.lean ====
abbrev S8704x4096 : Shape := ⟨2, ![8704, 4096]⟩
abbrev S1x4096x4096 : Shape := ⟨3, ![1, 4096, 4096]⟩
abbrev S1x8192x4096 : Shape := ⟨3, ![1, 8192, 4096]⟩
abbrev S32x4x4096 : Shape := ⟨3, ![32, 4, 4096]⟩
abbrev S8192x4096 : Shape := ⟨2, ![8192, 4096]⟩
abbrev S128x4096 : Shape := ⟨2, ![128, 4096]⟩
abbrev S_ : Shape := ⟨0, ![]⟩
abbrev S384x4096 : Shape := ⟨2, ![384, 4096]⟩
abbrev S4096x4096 : Shape := ⟨2, ![4096, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S1x4096x4096, .f32⟩
  | .hbm, ⟨2, _⟩ => ⟨S1x8192x4096, .f32⟩
  | .hbm, ⟨3, _⟩ => ⟨S32x4x4096, .f32⟩
  | .hbm, ⟨4, _⟩ => ⟨S8192x4096, .f32⟩
  | .hbm, ⟨5, _⟩ => ⟨S128x4096, .f32⟩
  | .hbm, ⟨6, _⟩ => ⟨S_, .f32⟩
  | .hbm, ⟨7, _⟩ => ⟨S384x4096, .f32⟩
  | .hbm, ⟨8, _⟩ => ⟨S8704x4096, .f32⟩
  | .hbm, ⟨9, _⟩ => ⟨S_, .f32⟩
  | .hbm, ⟨10, _⟩ => ⟨S8704x4096, .f32⟩
  | .hbm, ⟨11, _⟩ => ⟨S8704x4096, .f32⟩
  | .hbm, ⟨12, _⟩ => ⟨S8704x4096, .f32⟩
  | .hbm, ⟨13, _⟩ => ⟨S4096x4096, .f32⟩
  | .hbm, ⟨14, _⟩ => ⟨S8704x4096, .f32⟩
  | .hbm, ⟨15, _⟩ => ⟨S8704x4096, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Norm.lean ====
abbrev S8704x4096 : Shape := ⟨2, ![8704, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 9
  | .vmem => 8
  | .smem => 0
  | _ => 0

abbrev bufTy : (tb : Table) → Fin (tcTables nBuf tb) → BufTy
  | .hbm, ⟨0, _⟩ => ⟨S8704x4096, .f32⟩
  | .hbm, ⟨1, _⟩ => ⟨S1x4096, .f32⟩
  | .hbm, ⟨2, _⟩ => ⟨S1x4096, .f32⟩
  | .hbm, ⟨3, _⟩ => ⟨S4096, .f32⟩
  | .hbm, ⟨4, _⟩ => ⟨S1x4096, .f32⟩
  | .hbm, ⟨5, _⟩ => ⟨S4096, .f32⟩
  | .hbm, ⟨6, _⟩ => ⟨S1x4096, .f32⟩
  | .hbm, ⟨7, _⟩ => ⟨S8704x4096, .f32⟩
  | .hbm, ⟨8, _⟩ => ⟨S8704x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .bf16⟩
  | .local _ .vmem, ⟨7, _⟩ => ⟨S256x4096, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefNormIdeal.lean ====
abbrev S8704x4096 : Shape := ⟨2, ![8704, 4096]⟩
abbrev S1x4096 : Shape := ⟨2, ![1, 4096]⟩
abbrev S4096 : Shape := ⟨1, ![4096]⟩
abbrev S_ : Shape := ⟨0, ![]⟩
abbrev S8704 : Shape := ⟨1, ![8704]⟩
abbrev S8704x1 : Shape := ⟨2, ![8704, 1]⟩

abbrev nBuf : Space → Nat
  | .hbm => 35
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S1x4096, .f32⟩
  | .hbm, ⟨2, _⟩ => ⟨S1x4096, .f32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S8704, .f32⟩
  | .hbm, ⟨7, _⟩ => ⟨S8704x1, .f32⟩
  | .hbm, ⟨8, _⟩ => ⟨S_, .f32⟩
  | .hbm, ⟨9, _⟩ => ⟨S8704x1, .f32⟩
  | .hbm, ⟨10, _⟩ => ⟨S8704x1, .f32⟩
  | .hbm, ⟨11, _⟩ => ⟨S8704x4096, .f32⟩
  | .hbm, ⟨12, _⟩ => ⟨S8704x4096, .f32⟩
  | .hbm, ⟨13, _⟩ => ⟨S8704x4096, .f32⟩
  | .hbm, ⟨14, _⟩ => ⟨S_, .f32⟩
  | .hbm, ⟨15, _⟩ => ⟨S8704, .f32⟩
  | .hbm, ⟨16, _⟩ => ⟨S8704x1, .f32⟩
  | .hbm, ⟨17, _⟩ => ⟨S_, .f32⟩
  | .hbm, ⟨18, _⟩ => ⟨S8704x1, .f32⟩
  | .hbm, ⟨19, _⟩ => ⟨S8704x1, .f32⟩
  | .hbm, ⟨20, _⟩ => ⟨S8704x4096, .f32⟩
  | .hbm, ⟨21, _⟩ => ⟨S8704x4096, .f32⟩
  | .hbm, ⟨22, _⟩ => ⟨S_, .f32⟩
  | .hbm, ⟨23, _⟩ => ⟨S8704x1, .f32⟩
  | .hbm, ⟨24, _⟩ => ⟨S8704x1, .f32⟩
  | .hbm, ⟨25, _⟩ => ⟨S8704x1, .f32⟩
  | .hbm, ⟨26, _⟩ => ⟨S8704x4096, .f32⟩
  | .hbm, ⟨27, _⟩ => ⟨S8704x4096, .f32⟩
  | .hbm, ⟨28, _⟩ => ⟨S1x4096, .f32⟩
  | .hbm, ⟨29, _⟩ => ⟨S8704x4096, .f32⟩
  | .hbm, ⟨30, _⟩ => ⟨S8704x4096, .f32⟩
  | .hbm, ⟨31, _⟩ => ⟨S1x4096, .f32⟩
  | .hbm, ⟨32, _⟩ => ⟨S8704x4096, .f32⟩
  | .hbm, ⟨33, _⟩ => ⟨S8704x4096, .f32⟩
  | .hbm, ⟨34, _⟩ => ⟨S8704x4096, .bf16⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== MemAttn.lean ====
abbrev S8704x23040 : Shape := ⟨2, ![8704, 23040]⟩
abbrev S256x2048 : Shape := ⟨2, ![256, 2048]⟩
abbrev S1x8704x23040 : Shape := ⟨3, ![1, 8704, 23040]⟩
abbrev S1x256x2048 : Shape := ⟨3, ![1, 256, 2048]⟩
abbrev S1x8192x1024 : Shape := ⟨3, ![1, 8192, 1024]⟩
abbrev S1x512x1024 : Shape := ⟨3, ![1, 512, 1024]⟩
abbrev S1x256x1024 : Shape := ⟨3, ![1, 256, 1024]⟩
abbrev S1x512x256 : Shape := ⟨3, ![1, 512, 256]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S8704x23040, .f32⟩
  | .hbm, ⟨1, _⟩ => ⟨S256x2048, .f32⟩
  | .hbm, ⟨2, _⟩ => ⟨S1x8704x23040, .f32⟩
  | .hbm, ⟨3, _⟩ => ⟨S1x256x2048, .f32⟩
  | .hbm, ⟨4, _⟩ => ⟨S1x256x2048, .f32⟩
  | .hbm, ⟨5, _⟩ => ⟨S1x8192x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x512x1024, .bf16⟩
  | .local _ .vmem, ⟨5, _⟩ => ⟨S1x512x1024, .bf16⟩
  | _, _ => ⟨S8704x23040, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefMemAttnIdeal.lean ====
abbrev S8704x23040 : Shape := ⟨2, ![8704, 23040]⟩
abbrev S256x2048 : Shape := ⟨2, ![256, 2048]⟩
abbrev S8192x1024 : Shape := ⟨2, ![8192, 1024]⟩
abbrev S1x8192x1024 : Shape := ⟨3, ![1, 8192, 1024]⟩
abbrev S1x8192x4x256 : Shape := ⟨4, ![1, 8192, 4, 256]⟩
abbrev S256x1024 : Shape := ⟨2, ![256, 1024]⟩
abbrev S1x256x1024 : Shape := ⟨3, ![1, 256, 1024]⟩
abbrev S1x256x4x256 : Shape := ⟨4, ![1, 256, 4, 256]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x256x8192 : Shape := ⟨4, ![1, 4, 256, 8192]⟩

abbrev nBuf : Space → Nat
  | .hbm => 33
  | .vmem => 0
  | .smem => 0
  | _ => 0

abbrev bufTy : (tb : Table) → Fin (tcTables nBuf tb) → BufTy
  | .hbm, ⟨0, _⟩ => ⟨S8704x23040, .f32⟩
  | .hbm, ⟨1, _⟩ => ⟨S256x2048, .f32⟩
  | .hbm, ⟨2, _⟩ => ⟨S8192x1024, .f32⟩
  | .hbm, ⟨3, _⟩ => ⟨S1x8192x1024, .f32⟩
  | .hbm, ⟨4, _⟩ => ⟨S1x8192x4x256, .f32⟩
  | .hbm, ⟨5, _⟩ => ⟨S256x1024, .f32⟩
  | .hbm, ⟨6, _⟩ => ⟨S1x256x1024, .f32⟩
  | .hbm, ⟨7, _⟩ => ⟨S1x256x4x256, .f32⟩
  | .hbm, ⟨8, _⟩ => ⟨S256x1024, .f32⟩
  | .hbm, ⟨9, _⟩ => ⟨S1x256x1024, .f32⟩
  | .hbm, ⟨10, _⟩ => ⟨S1x256x4x256, .f32⟩
  | .hbm, ⟨11, _⟩ => ⟨S1x4x8192x256, .f32⟩
  | .hbm, ⟨12, _⟩ => ⟨S_, .f32⟩
  | .hbm, ⟨13, _⟩ => ⟨S1x4x8192x256, .f32⟩
  | .hbm, ⟨14, _⟩ => ⟨S1x4x8192x256, .f32⟩
  | .hbm, ⟨15, _⟩ => ⟨S_, .f32⟩
  | .hbm, ⟨16, _⟩ => ⟨S1x4x8192, .f32⟩
  | .hbm, ⟨17, _⟩ => ⟨S_, .f32⟩
  | .hbm, ⟨18, _⟩ => ⟨S1x4x8192, .f32⟩
  | .hbm, ⟨19, _⟩ => ⟨S1x4x8192, .f32⟩
  | .hbm, ⟨20, _⟩ => ⟨S1x4x8192x1, .f32⟩
  | .hbm, ⟨21, _⟩ => ⟨S1x4x8192x256, .f32⟩
  | .hbm, ⟨22, _⟩ => ⟨S1x4x8192x256, .f32⟩
  | .hbm, ⟨23, _⟩ => ⟨S1x4x8192x256, .f32⟩
  | .hbm, ⟨24, _⟩ => ⟨S_, .f32⟩
  | .hbm, ⟨25, _⟩ => ⟨S1x4x8192, .f32⟩
  | .hbm, ⟨26, _⟩ => ⟨S1x4x8192x1, .f32⟩
  | .hbm, ⟨27, _⟩ => ⟨S1x4x8192x256, .f32⟩
  | .hbm, ⟨28, _⟩ => ⟨S1x4x8192x256, .f32⟩
  | .hbm, ⟨29, _⟩ => ⟨S1x4x256x8192, .f32⟩
  | .hbm, ⟨30, _⟩ => ⟨S1x8192x4x256, .f32⟩
  | .hbm, ⟨31, _⟩ => ⟨S1x8192x1024, .f32⟩
  | .hbm, ⟨32, _⟩ => ⟨S1x8192x1024, .bf16⟩
  | _, _ => ⟨S8704x23040, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Proof.RefLoop.lean ====
/- The reference's loop over the 128 chunks as the iteration of one trip: what a valuation holds before trip `j`, that a
   trip keeps it, and the reference's results in terms of the last state. -/
module

public import proofs.«01_k».proof.Proof.Gen.RefPIdeal.Run
public import proofs.«01_k».proof.Proof.Gen.RefPIdeal.Step

@[expose] public section

set_option maxRecDepth 16384

noncomputable section

namespace Cert.RefPIdeal.Loop

open Idealize.ShloMosaic Idealize.ShloMosaic.TcCoe Idealize.SL.Sem Idealize.ShloMosaic.StableHlo
open Cert.RefPIdeal Cert.RefPIdeal.Gen Cert.RefPIdeal.Value

variable {F : FTy → Type} [FloatOps F]

/-- The valuation `V` holds the trip number `j`, the causal mask and the state `s`. -/
structure At (V : Valuation τ sig (Elt F)) (j : ℕ) (s : Step.State F) : Prop where
  count : V (Proc.devRef .tc main_v54_5) = constantI S_ 32 (BitVec.ofNat 32 j)
  mask : V (Proc.devRef .tc main_v54_4) = Step.K_main_v44 (F := F)
  q : V (Proc.devRef .tc main_v54_0) = s.main_v54_0
  k : V (Proc.devRef .tc main_v54_1) = s.main_v54_1
  i : V (Proc.devRef .tc main_v54_2) = s.main_v54_2
  logf : V (Proc.devRef .tc main_v54_3) = s.main_v54_3
  st : V (Proc.devRef .tc main_v54_6) = s.main_v54_6
  out : V (Proc.devRef .tc main_v54_7) = s.main_v54_7

variable {V : Valuation τ sig (Elt F)} {j : ℕ} {s : Step.State F}

theorem qc_eq (h : At V j s) : res_main_while0b_v78 V = Step.b5 j s := by
  unfold res_main_while0b_v78; rw [h.q, h.count]; rfl

theorem kc_eq (h : At V j s) : res_main_while0b_v79 V = Step.b11 j s := by
  unfold res_main_while0b_v79; rw [h.k, h.count]; rfl

theorem ic_eq (h : At V j s) : res_main_while0b_v80 V = Step.b17 j s := by
  unfold res_main_while0b_v80; rw [h.i, h.count]; rfl

theorem cum_eq (h : At V j s) : res_main_while0b_v82 V = Step.b26 j s := by
  unfold res_main_while0b_v82; rw [h.logf, h.count]; rfl

theorem last_eq (h : At V j s) : res_main_while0b_v102 V = Step.b49 j s := by
  unfold res_main_while0b_v102; rw [cum_eq h]; rfl

theorem state_eq (h : At V j s) : step_main_v54_6 V = Step.b60 j s := by
  unfold step_main_v54_6; rw [kc_eq h, ic_eq h, cum_eq h, last_eq h, h.st]; rfl

theorem out_eq (h : At V j s) : step_main_v54_7 V = Step.b67 j s := by
  unfold step_main_v54_7; rw [qc_eq h, kc_eq h, ic_eq h, cum_eq h, h.st, h.mask, h.count, h.out]; rfl

/-- One trip. -/
theorem trip (h : At V j s) : At (STEP V) (j + 1) (Step.step j s) where
  count := (STEP_main_v54_5 V).trans <| by
    unfold step_main_v54_5; rw [h.count]; funext _
    show BitVec.ofNat 32 j + 1#32 = BitVec.ofNat 32 (j + 1)
    rw [BitVec.ofNat_add]
  mask := (STEP_main_v54_4 V).trans h.mask
  q := (STEP_main_v54_0 V).trans h.q
  k := (STEP_main_v54_1 V).trans h.k
  i := (STEP_main_v54_2 V).trans h.i
  logf := (STEP_main_v54_3 V).trans h.logf
  st := (STEP_main_v54_6 V).trans (state_eq h)
  out := (STEP_main_v54_7 V).trans (out_eq h)

/-- The state the first trip starts from. -/
abbrev start (m : (ℓ : Loc nD τ sig) → Buf (Elt F) ℓ) (c : Dev nD) : Step.State F :=
  Step.init (m ((c.tc : Thread nD τ).loc main_arg0)) (m ((c.tc : Thread nD τ).loc main_arg1))

/-- The state before trip `n`. -/
def states (m : (ℓ : Loc nD τ sig) → Buf (Elt F) ℓ) (c : Dev nD) : ℕ → Step.State F
  | 0 => start m c
  | n + 1 => Step.step n (states m c n)

variable (m : (ℓ : Loc nD τ sig) → Buf (Elt F) ℓ) (c : Dev nD)

set_option maxRecDepth 65536 in
set_option maxHeartbeats 500000 in
theorem at_start : At (entryContents preI m c) 0 (start m c) := by
  constructor <;> (simp only [entryContents, afterL_cons, afterL_nil]; after_reads_simp) <;> rfl

theorem at_states (n : ℕ) : At (STEP^[n] (entryContents preI m c)) n (states m c n) := by
  induction n with
  | zero => exact at_start m c
  | succ n ih => rw [Function.iterate_succ_apply']; exact trip ih

theorem result_eq (h : At V j s) {z : (⟨S8704x23040, .f32⟩ : BufTy).Contents (Elt F)}
    (hz : V (Proc.devRef .tc main_arg0) = z) {g : (⟨S1x128, .f32⟩ : BufTy).Contents (Elt F)}
    (hg : V (Proc.devRef .tc main_arg2) = g) : out_main_v77 V = Step.R_main_v77 s z g := by
  unfold out_main_v77; rw [h.out, hz, hg]; rfl

/-- The reference ends with its results read off the state after the last trip. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v77)
        = Step.R_main_v77 (states m c 128) (m ((c.tc : Thread nD τ).loc main_arg0)) (m ((c.tc : Thread nD τ).loc main_arg2))
      ∧ r.2.mem ((c.tc : Thread nD τ).loc main_v54_6) = (states m c 128).main_v54_6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have hk := at_states m c 128
    ⟨(h c).1.trans (result_eq hk (iter_main_arg0 m c 128) (iter_main_arg2 m c 128)), (h c).2.1.trans hk.st,
      (h c).2.2⟩) (Value.run m ρ)

end Cert.RefPIdeal.Loop

end

end
-- ==== Proof.Decay.lean ====
module
public import Idealize.ShloMosaic.PureOps.Ideal
public import Mathlib.Analysis.SpecialFunctions.Log.Basic
public import Mathlib.Analysis.SpecialFunctions.Exp
public import Mathlib.Algebra.BigOperators.Intervals
@[expose] public section

/-! # The decay of the recurrence over the reals

A forget gate lies between its lower bound and one, so its logarithm is a real number in `[-5, 0]`. That makes it
possible to write the decay between two rows as a product of two factors, each over a sub-chunk's reference row, with
one exponent cut off at 80. -/

noncomputable section
namespace Cert.Hgrn
open Idealize.ShloMosaic

/-- The forget gate: `l + (1 - l) · σ(x)`. -/
def gate (l x : EReal) : EReal := l + (1 - l) * Ideal.logistic x

theorem exp_coe (r : ℝ) : Ideal.exp (r : EReal) = ((Real.exp r : ℝ) : EReal) := rfl

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The logistic function is a real number in `[0, 1]`, also at the infinities. -/
theorem logistic_real (x : EReal) : ∃ r : ℝ, Ideal.logistic x = (r : EReal) ∧ 0 ≤ r ∧ r ≤ 1 := by
  induction x using EReal.rec with
  | bot =>
    refine ⟨0, ?_, le_rfl, zero_le_one⟩
    show Ideal.div 1 (1 + Ideal.exp (-⊥)) = _
    rw [EReal.neg_bot]
    show Ideal.div 1 (1 + ⊤) = _
    rw [show (1 : EReal) + ⊤ = ⊤ from EReal.add_top_of_ne_bot (by decide)]
    unfold Ideal.div
    rw [if_neg (by decide), EReal.inv_top, mul_zero]; rfl
  | top =>
    refine ⟨1, ?_, zero_le_one, le_rfl⟩
    show Ideal.div 1 (1 + Ideal.exp (-⊤)) = _
    rw [EReal.neg_top]
    show Ideal.div 1 (1 + 0) = _
    rw [add_zero]
    have := div_coe 1 1 one_ne_zero
    rw [div_one] at this
    exact this
  | coe r =>
    have hp : 0 < Real.exp (-r) := Real.exp_pos _
    refine ⟨1 / (1 + Real.exp (-r)), ?_, by positivity, ?_⟩
    · show Ideal.div 1 (1 + Ideal.exp (-(r : EReal))) = _
      rw [← EReal.coe_neg, exp_coe, show (1 : EReal) = ((1 : ℝ) : EReal) from rfl, ← EReal.coe_add, div_coe _ _ (by positivity)]
    · rw [div_le_one (by positivity)]; linarith

/-- The gate is a real number between its lower bound and one. -/
theorem gate_real (l : ℝ) (h1 : l ≤ 1) (x : EReal) : ∃ r : ℝ, gate l x = (r : EReal) ∧ l ≤ r ∧ r ≤ 1 := by
  obtain ⟨s, hs, h0, hs1⟩ := logistic_real x
  refine ⟨l + (1 - l) * s, ?_, ?_, ?_⟩
  · unfold gate
    rw [hs, show (1 : EReal) = ((1 : ℝ) : EReal) from rfl, ← EReal.coe_sub, ← EReal.coe_mul, ← EReal.coe_add]
  · nlinarith
  · nlinarith

/-- Its logarithm is a real number between -5 and 0. -/
theorem log_gate_real (l : ℝ) (h0 : Real.exp (-5) ≤ l) (h1 : l ≤ 1) (x : EReal) :
    ∃ r : ℝ, Ideal.log (gate l x) = (r : EReal) ∧ -5 ≤ r ∧ r ≤ 0 := by
  obtain ⟨g, hg, hl, hg1⟩ := gate_real l h1 x
  have hp : 0 < g := lt_of_lt_of_le (Real.exp_pos _) (h0.trans hl)
  refine ⟨Real.log g, ?_, ?_, Real.log_nonpos hp.le hg1⟩
  · rw [hg]
    show (if g ≤ 0 then (⊥ : EReal) else (Real.log g : EReal)) = _
    rw [if_neg (not_le.mpr hp)]
  · rw [Real.le_log_iff_exp_le hp]; exact h0.trans hl

/-- A sum of real numbers is a real number. -/
theorem sum_coe (R : ℕ → ℝ) (n : ℕ) : ∑ i ∈ Finset.range n, ((R i : ℝ) : EReal) = ((∑ i ∈ Finset.range n, R i : ℝ) : EReal) := by
  induction n with
  | zero => simp
  | succ n ih => rw [Finset.sum_range_succ, Finset.sum_range_succ, ih, EReal.coe_add]

/-- A decay written over a reference row: the cut at 80 does nothing where the exponent stays below it. -/
theorem decay_split (x y z : ℝ) (h : y - z ≤ 80) :
    Ideal.exp ((x : EReal) - y) * Ideal.exp (min ((y : EReal) - z) ((80 : ℝ) : EReal)) = Ideal.exp ((x : EReal) - z) := by
  rw [← EReal.coe_sub, ← EReal.coe_sub, ← EReal.coe_sub, min_eq_left (by exact_mod_cast h), exp_coe, exp_coe, exp_coe,
    ← EReal.coe_mul, ← Real.exp_add]
  congr 2; ring

/-- Over at most sixteen rows the logarithms add up to at least -80. -/
theorem sum_ge (R : ℕ → ℝ) (hR : ∀ i, -5 ≤ R i ∧ R i ≤ 0) (n : ℕ) : ∀ d ≤ 16,
    (∑ i ∈ Finset.range n, R i) - ∑ i ∈ Finset.range (n + d), R i ≤ 5 * d := by
  intro d hd
  clear hd
  induction d with
  | zero => simp
  | succ d ih =>
    rw [← add_assoc, Finset.sum_range_succ]
    push_cast
    linarith [(hR (n + d)).1]

/-- The running sum falls. -/
theorem sum_anti (R : ℕ → ℝ) (hR : ∀ i, -5 ≤ R i ∧ R i ≤ 0) (n d : ℕ) :
    ∑ i ∈ Finset.range (n + d), R i ≤ ∑ i ∈ Finset.range n, R i := by
  induction d with
  | zero => simp
  | succ d ih => rw [← add_assoc, Finset.sum_range_succ]; linarith [(hR (n + d)).2]

/-- From the reference row of a sub-chunk to any row not after the sub-chunk's end the exponent is at most 80. -/
theorem ref_le (R : ℕ → ℝ) (hR : ∀ i, -5 ≤ R i ∧ R i ≤ 0) (n s : ℕ) (h : s < n + 16) :
    (∑ i ∈ Finset.range n, R i) - ∑ i ∈ Finset.range (s + 1), R i ≤ 80 := by
  rcases Nat.le_total (s + 1) n with hs | hs
  · obtain ⟨d, rfl⟩ := Nat.exists_eq_add_of_le hs
    linarith [sum_anti R hR (s + 1) d]
  · obtain ⟨d, hd⟩ := Nat.exists_eq_add_of_le hs
    have hd16 : d ≤ 16 := by omega
    have := sum_ge R hR n d hd16
    rw [← hd] at this
    have : (d : ℝ) ≤ 16 := by exact_mod_cast hd16
    linarith

/-- One doubling step of a running sum: the last `d` terms and the `d` before them are the last `2 d`. -/
theorem ico_double (g : ℕ → EReal) (t d : ℕ) :
    (∑ i ∈ Finset.Ico (t + 1 - d) (t + 1), g i) + (if d ≤ t then ∑ i ∈ Finset.Ico (t - d + 1 - d) (t - d + 1), g i else 0)
      = ∑ i ∈ Finset.Ico (t + 1 - (d + d)) (t + 1), g i := by
  by_cases h : d ≤ t
  · rw [if_pos h, add_comm, show t + 1 - d = t - d + 1 by omega, show t + 1 - (d + d) = t - d + 1 - d by omega]
    exact Finset.sum_Ico_consecutive g (by omega) (by omega)
  · rw [if_neg h, add_zero, show t + 1 - d = 0 by omega, show t + 1 - (d + d) = 0 by omega]

/-- The bounds of the softmax of two numbers at most 4.75 apart. -/
theorem softmax_bound (a b : ℝ) (h : b - a ≤ 19 / 4) (m : ℝ) :
    Real.exp (-5) ≤ Real.exp (a - m) / (Real.exp (a - m) + Real.exp (b - m)) ∧
      Real.exp (a - m) / (Real.exp (a - m) + Real.exp (b - m)) ≤ 1 := by
  have ha := Real.exp_pos (a - m)
  have hb := Real.exp_pos (b - m)
  constructor
  · rw [le_div_iff₀ (by positivity)]
    have e1 : Real.exp (b - m) ≤ Real.exp (19 / 4) * Real.exp (a - m) := by
      rw [← Real.exp_add]; exact Real.exp_le_exp.mpr (by linarith)
    have e2 : 1 + Real.exp (19 / 4) ≤ Real.exp 5 := by
      have q : (5 : ℝ) = 19 / 4 + 1 / 4 := by norm_num
      rw [q, Real.exp_add]
      have h1 : (1 / 4 : ℝ) + 1 ≤ Real.exp (1 / 4) := Real.add_one_le_exp _
      have h2 : (19 / 4 : ℝ) + 1 ≤ Real.exp (19 / 4) := Real.add_one_le_exp _
      nlinarith
    have e3 : Real.exp (-5) * Real.exp 5 = 1 := by rw [← Real.exp_add]; norm_num
    have e4 := Real.exp_pos (-5)
    calc Real.exp (-5) * (Real.exp (a - m) + Real.exp (b - m))
        ≤ Real.exp (-5) * ((1 + Real.exp (19 / 4)) * Real.exp (a - m)) := by
          apply mul_le_mul_of_nonneg_left _ e4.le; linarith
      _ ≤ Real.exp (-5) * (Real.exp 5 * Real.exp (a - m)) := by
          apply mul_le_mul_of_nonneg_left _ e4.le
          exact mul_le_mul_of_nonneg_right e2 ha.le
      _ = Real.exp (a - m) := by rw [← mul_assoc, e3, one_mul]
  · rw [div_le_one (by positivity)]; linarith

end Cert.Hgrn
end
end
-- ==== Proof.Spec.lean ====
module
public import proofs.«01_k».proof.Proof.Decay
@[expose] public section

/-! # One chunk of the gated linear recurrence, for one head

A head has a state `S k v`, 128 keys by 128 values. A chunk of 64 rows has queries `q`, forget inputs `x` and inputs `i`;
the gate's lower bound `lb` has one number for each key. -/

noncomputable section
namespace Cert.Hgrn
open Idealize.ShloMosaic

/-- 64 rows of 128 numbers. -/
abbrev Rows := Fin 64 → Fin 128 → EReal

/-- The logarithm of the gate of key `k` at row `i`. -/
def logGate (lb : Fin 128 → EReal) (x : Rows) (k : Fin 128) (i : ℕ) : EReal :=
  if h : i < 64 then Ideal.log (gate (lb k) (x ⟨i, h⟩ k)) else 0

/-- The sum of the log gates up to row `t` and with it. -/
def decay (lb : Fin 128 → EReal) (x : Rows) (t : Fin 64) (k : Fin 128) : EReal :=
  ∑ i ∈ Finset.range (t.val + 1), logGate lb x k i

/-- The key of a row: what its gate lets in. -/
def key (lb : Fin 128 → EReal) (x : Rows) (t : Fin 64) (k : Fin 128) : EReal := 1 - gate (lb k) (x t k)

/-- The output of row `t`: the state read through the decay, and every row up to `t` through the decay since. -/
def chunkOut (lb : Fin 128 → EReal) (x q i : Rows) (S : Fin 128 → Fin 128 → EReal) (t : Fin 64) (v : Fin 128) : EReal :=
  (∑ k, q t k * Ideal.exp (decay lb x t k) * S k v)
    + ∑ s, if s ≤ t then (∑ k, q t k * (key lb x s k * Ideal.exp (decay lb x t k - decay lb x s k))) * i s v else 0

/-- The state after the chunk. -/
def chunkState (lb : Fin 128 → EReal) (x i : Rows) (S : Fin 128 → Fin 128 → EReal) (k v : Fin 128) : EReal :=
  S k v * Ideal.exp (decay lb x 63 k) + ∑ s, i s v * (key lb x s k * Ideal.exp (decay lb x 63 k - decay lb x s k))

/-- A head's outputs of one row, divided by their root mean square, scaled by `ng` and gated by `g · σ(g)`. -/
def gated (ng o : Fin 128 → EReal) (g : EReal) (v : Fin 128) : EReal :=
  o v * Ideal.rsqrt (Ideal.div (∑ k, o k * o k) (Ideal.ofBits .f32 0x43000000#32) + Ideal.ofBits .f32 0x358637BD#32) * ng v
    * (g * Ideal.logistic g)

/-- A lower bound of the gate as the proof needs it: a real number between `exp (-5)` and one. -/
def Bounded (lb : Fin 128 → EReal) : Prop := ∀ k, ∃ l : ℝ, lb k = (l : EReal) ∧ Real.exp (-5) ≤ l ∧ l ≤ 1

/-- Under such bounds the log gates are real numbers between -5 and 0. -/
theorem logGate_real (lb : Fin 128 → EReal) (hb : Bounded lb) (x : Rows) (k : Fin 128) :
    ∃ R : ℕ → ℝ, (∀ i, logGate lb x k i = (R i : EReal)) ∧ ∀ i, -5 ≤ R i ∧ R i ≤ 0 := by
  obtain ⟨l, hl, h0, h1⟩ := hb k
  have h : ∀ i, ∃ r : ℝ, logGate lb x k i = (r : EReal) ∧ -5 ≤ r ∧ r ≤ 0 := by
    intro i
    unfold logGate
    by_cases hi : i < 64
    · rw [dif_pos hi, hl]; exact log_gate_real l h0 h1 _
    · rw [dif_neg hi]; exact ⟨0, rfl, by norm_num, le_rfl⟩
  choose R hR using h
  exact ⟨R, fun i => (hR i).1, fun i => (hR i).2⟩

/-- The sum of the first `n` log gates. -/
def upto (lb : Fin 128 → EReal) (x : Rows) (k : Fin 128) (n : ℕ) : EReal := ∑ i ∈ Finset.range n, logGate lb x k i

/-- The decay between two rows, split at a sub-chunk's reference row. -/
theorem decay_ref (lb : Fin 128 → EReal) (hb : Bounded lb) (x : Rows) (k : Fin 128) (t s : Fin 64) (n : ℕ) (h : s.val < n + 16) :
    Ideal.exp (decay lb x t k - upto lb x k n) * Ideal.exp (min (upto lb x k n - decay lb x s k) ((80 : ℝ) : EReal))
      = Ideal.exp (decay lb x t k - decay lb x s k) := by
  obtain ⟨R, hR, hb⟩ := logGate_real lb hb x k
  unfold decay upto
  simp only [hR, sum_coe]
  exact decay_split _ _ _ (ref_le R hb n s.val h)

end Cert.Hgrn
end
end
-- ==== Proof.Sequence.lean ====
module
public import proofs.«01_k».proof.Proof.Spec
public import Idealize.ShloMosaic.Lib.Pointwise
@[expose] public section

/-! # The recurrence over the whole prompt

The projected array's columns hold the queries, the forget inputs, the values and the output gates in blocks of
1024, eight heads of 128 columns in each. A head's state after a chunk is the next chunk's start; the prompt starts
from zero. -/

noncomputable section
namespace Cert.Hgrn
open Idealize.ShloMosaic Idealize.ShloMosaic.Pointwise

abbrev Projected := FVec Ideal (⟨2, ![8704, 23040]⟩ : Shape) .f32
abbrev Bounds := FVec Ideal (⟨2, ![2, 1024]⟩ : Shape) .f32

/-- The projected array read at any pair of numbers, zero outside. -/
def cell (z : Projected) (r k : ℕ) : EReal := if h : r < 8704 ∧ k < 23040 then z (ix2 ⟨r, h.1⟩ ⟨k, h.2⟩) else 0

theorem cell_eq (z : Projected) {r k : ℕ} (hr : r < 8704) (hk : k < 23040) : cell z r k = z (ix2 ⟨r, hr⟩ ⟨k, hk⟩) :=
  dif_pos ⟨hr, hk⟩

/-- Chunk `n` of head `h` in column block `b`. -/
def chunk (z : Projected) (b n : ℕ) (h : Fin 8) : Rows := fun t k => cell z (64 * n + t.val) (1024 * b + 128 * h.val + k.val)

/-- The larger of a column's two entries. -/
def peak (L : Bounds) (c : Fin 1024) : EReal := Finset.fold max (Ideal.ofBits FTy.f32 0xFF800000#32) (fun r => L (ix2 r c)) Finset.univ
/-- The lower bound of the gate: the softmax over the two rows, at the first. -/
def lower (L : Bounds) (h : Fin 8) (k : Fin 128) : EReal :=
  let c : Fin 1024 := ⟨128 * h.val + k.val, by have := h.isLt; have := k.isLt; omega⟩
  Ideal.div (Ideal.exp (L (ix2 0 c) - peak L c)) (∑ r : Fin 2, Ideal.exp (L (ix2 r c) - peak L c))

/-- A head's state before chunk `n`. -/
def stateAt (z : Projected) (lb : Fin 8 → Fin 128 → EReal) (h : Fin 8) : ℕ → Fin 128 → Fin 128 → EReal
  | 0 => fun _ _ => 0
  | n + 1 => chunkState (lb h) (chunk z 6 n h) (chunk z 7 n h) (stateAt z lb h n)

/-- The recurrence's row `t` of chunk `n`. -/
def readAt (z : Projected) (lb : Fin 8 → Fin 128 → EReal) (h : Fin 8) (n : ℕ) (t : Fin 64) (v : Fin 128) : EReal :=
  chunkOut (lb h) (chunk z 6 n h) (chunk z 5 n h) (chunk z 7 n h) (stateAt z lb h n) t v

/-- The call's output at row `t` of chunk `n`. -/
def resultAt (z : Projected) (lb : Fin 8 → Fin 128 → EReal) (ng : Fin 128 → EReal) (h : Fin 8) (n : ℕ) (t : Fin 64) (v : Fin 128) : EReal :=
  gated ng (readAt z lb h n t) (chunk z 8 n h t v) v

end Cert.Hgrn
end
end
-- ==== Proof.Head.lean ====
module
public import proofs.«01_k».proof.Proof.Gen.HgrnPIdeal.Frame
@[expose] public section
set_option maxRecDepth 16384

/-! # The stores of the recurrence kernel, head by head

The body treats its eight heads one after the other with the same operations. Here those operations are named once,
for a head in general, and the body's stores are shown to be the heads' stores. -/

noncomputable section
namespace Cert.HgrnPIdeal.Head
open Cert.HgrnPIdeal Cert.HgrnPIdeal.Gen
open Idealize.ShloMosaic Idealize.ShloMosaic.TcCoe Idealize.ShloMosaic.Tactic
variable {F : FTy → Type} [FloatOps F]

/-- The row number of every element of a chunk. -/
def rows : IVec S64x128 32 := iota .tc S64x128 32 [0] iota_S64x128_d0_w32
/-- Which of the 64×256 products of a chunk count: column block `a` (a sub-chunk's rows against all 64 keys) holds row `t` where `t` lies in sub-chunk `a` and the key does not come after `t`. -/
def pairs : IVec S64x256 1 :=
  k0_pay21 (iota .tc S64x256 32 [0] iota_S64x256_d0_w32) (iota .tc S64x256 32 [1] iota_S64x256_d1_w32) k0_pay20 16#32
/-- The logarithm of a head's forget gate. -/
def logF (lb : FVec F S1x128 .f32) (x : Vec F S64x128 .f32) : FVec F S64x128 .f32 :=
  select k0_pay19 (log (k0_pay24 lb x)) (broadcast S64x128 (Scalar.ofBits .f32 0x00000000#32))
/-- One doubling step of the running sum: every row from `d` on adds the row `d` before it. -/
def roll (d : BitVec 32) (x : FVec F S64x128 .f32) : FVec F S64x128 .f32 :=
  addf x (select (cmpi .sge rows (broadcast S64x128 d)) (dynamicRotate 0 d none x rotates_S64x128_d0) (broadcast S64x128 (Scalar.ofBits .f32 0x00000000#32)))
/-- The running sum of the log gates over the chunk, in six doubling steps. -/
def cum (lb : FVec F S1x128 .f32) (x : Vec F S64x128 .f32) : FVec F S64x128 .f32 :=
  roll 32#32 (roll 16#32 (roll 8#32 (roll 4#32 (roll 2#32 (roll 1#32 (logF lb x))))))
/-- For every row the running sum just before its sub-chunk of sixteen rows. -/
def refRow (c : FVec F S64x128 .f32) : FVec F S64x128 .f32 :=
  let r1 := extractStridedSlice S1x128 ![15, 0] c slices_S64x128_o15_0_S1x128
  let r2 := extractStridedSlice S1x128 ![31, 0] c slices_S64x128_o31_0_S1x128
  let r3 := extractStridedSlice S1x128 ![47, 0] c slices_S64x128_o47_0_S1x128
  select (cmpi .sge rows (broadcast S64x128 48#32)) (broadcastTo S64x128 (shapeCast S1x128 r3 shapeCasts_S1x128_S1x128) broadcasts_S1x128_S64x128)
   (select (cmpi .sge rows (broadcast S64x128 32#32)) (broadcastTo S64x128 (shapeCast S1x128 r2 shapeCasts_S1x128_S1x128) broadcasts_S1x128_S64x128)
    (select (cmpi .sge rows (broadcast S64x128 16#32)) (broadcastTo S64x128 (shapeCast S1x128 r1 shapeCasts_S1x128_S1x128) broadcasts_S1x128_S64x128)
      (broadcastTo S64x128 (shapeCast S1x128 k0_pay33 shapeCasts_S1x128_S1x128) broadcasts_S1x128_S64x128)))
/-- A head's outputs of a chunk before the norm: what the state gives, plus the masked products inside the chunk. -/
def attn (c kk : FVec F S64x128 .f32) (q i : Vec F S64x128 .f32) (st : Vec F S1x128x128 .f32) : FVec F S64x128 .f32 :=
  k0_pay38 pairs kk q i c
    (matmul dot_S64x128_S128x128_S64x128_1_1_0_0_n_n none (truncf .bf16 (mulf q (exp c)) bitsLt_bf16_f32)
      (truncf .bf16 (k0_pay31 st) bitsLt_bf16_f32) (constant S64x128 .f32 0x00000000#32))
    k0_pay33 (extractStridedSlice S1x128 ![15, 0] c slices_S64x128_o15_0_S1x128)
    (extractStridedSlice S1x128 ![31, 0] c slices_S64x128_o31_0_S1x128)
    (extractStridedSlice S1x128 ![47, 0] c slices_S64x128_o47_0_S1x128)
    (subf c (refRow c))
/-- What a head stores as its gated, normalised output of a chunk. -/
def out (lb : FVec F S1x128 .f32) (ng : Vec F S1x128 .f32) (x q i g : Vec F S64x128 .f32) (st : Vec F S1x128x128 .f32) : FVec F S64x128 .bf16 :=
  k0_pay41 (k0_pay22 ng) (attn (cum lb x) (k0_pay25 k0_pay19 lb x) q i st) g
/-- What a head stores as its state after a chunk. -/
def newState (lb : FVec F S1x128 .f32) (x i : Vec F S64x128 .f32) (st : Vec F S1x128x128 .f32) : FVec F S1x128x128 .f32 :=
  k0_pay40 (k0_pay39 (k0_pay25 k0_pay19 lb x) i (cum lb x)
    (extractStridedSlice S1x128 ![63, 0] (cum lb x) slices_S64x128_o63_0_S1x128) (k0_pay31 st))

/-- Head `h`'s 128 columns lie in the chunk's 1024. -/
theorem col_inb (h : Fin 8) : ∀ a, (![0, 128 * h.val] : Fin 2 → ℕ) a + S64x128.size a ≤ S64x1024.size a := by
  intro a; revert h; revert a; decide
/-- Head `h`'s slab lies in the scratch. -/
theorem slab_inb (h : Fin 8) : ∀ a, (![h.val, 0, 0] : Fin 3 → ℕ) a + S1x128x128.size a ≤ S8x128x128.size a := by
  intro a; revert h; revert a; decide
/-- Head `h`'s block lies in the state. -/
theorem block_inb (h : Fin 8) : ∀ a, (![0, h.val, 0, 0] : Fin 4 → ℕ) a + S1x1x128x128.size a ≤ S1x8x128x128.size a := by
  intro a; revert h; revert a; decide
/-- Head `h`'s lower bounds are a slice of the 1024. -/
theorem lb_slices (h : Fin 8) : S1x1024.Slices ![0, 128 * h.val] S1x128 := by
  fin_cases h <;> first | exact slices_S1x1024_o0_0_S1x128 | exact slices_S1x1024_o0_128_S1x128 | exact slices_S1x1024_o0_256_S1x128 | exact slices_S1x1024_o0_384_S1x128 | exact slices_S1x1024_o0_512_S1x128 | exact slices_S1x1024_o0_640_S1x128 | exact slices_S1x1024_o0_768_S1x128 | exact slices_S1x1024_o0_896_S1x128
/-- Head `h`'s columns of a chunk. -/
def colR (h : Fin 8) : Rect S64x1024 := Rect.unit ![0, 128 * h.val] S64x128.size (col_inb h)
/-- Head `h`'s slab of the scratch. -/
def slabR (h : Fin 8) : Rect S8x128x128 := Rect.unit ![h.val, 0, 0] S1x128x128.size (slab_inb h)
/-- Head `h`'s block of the state array. -/
def blockR (h : Fin 8) : Rect S1x8x128x128 := Rect.unit ![0, h.val, 0, 0] S1x1x128x128.size (block_inb h)

/-- Head `h`'s columns of a chunk's block. -/
def col (x : Vec F S64x1024 .f32) (h : Fin 8) : Vec F S64x128 .f32 := View.ld x (colR h)
/-- The heads' slabs of a scratch. -/
def slabs (s : Vec F S8x128x128 .f32) (h : Fin 8) : Vec F S1x128x128 .f32 := View.ld s (slabR h)
/-- The heads' slabs at the start, from the state the call is given. -/
def starts (s0 : Vec F S1x8x128x128 .f32) (h : Fin 8) : Vec F S1x128x128 .f32 :=
  k0_pay17 (show Vec F S1x1x128x128 .f32 from View.ld s0 (blockR h))

/-- The heads in the order of the stores that come last first. -/
def heads : List (Fin 8) := [7, 6, 5, 4, 3, 2, 1, 0]

/-- Head `h`'s lower bounds of the gate. -/
def lbOf (L : Vec F S2x1024 .f32) (h : Fin 8) : FVec F S1x128 .f32 :=
  extractStridedSlice S1x128 ![0, 128 * h.val] (k0_pay18 L) (lb_slices h)

/-- Head `h`'s store of its outputs. -/
def outPiece (q x i g : Vec F S64x1024 .f32) (L : Vec F S2x1024 .f32) (ng : Vec F S1x128 .f32) (st : Fin 8 → Vec F S1x128x128 .f32) (h : Fin 8) :
    View.Piece (Elt F) S64x1024 .bf16 :=
  ⟨colR h, out (lbOf L h) ng (col x h) (col q h) (col i h) (col g h) (st h)⟩
/-- Head `h`'s store of its new state. -/
def statePiece (x i : Vec F S64x1024 .f32) (L : Vec F S2x1024 .f32) (st : Fin 8 → Vec F S1x128x128 .f32) (h : Fin 8) :
    View.Piece (Elt F) S8x128x128 .f32 :=
  ⟨slabR h, newState (lbOf L h) (col x h) (col i h) (st h)⟩

/-- Case A's start: each head's transposed block of the initial state. -/
def startPiece (s0 : Vec F S1x8x128x128 .f32) (h : Fin 8) : View.Piece (Elt F) S8x128x128 .f32 :=
  ⟨slabR h, starts s0 h⟩
/-- Case A's stores into the scratch, the first `n` heads' new states in front of the start. -/
def carried (v : View sig .tc .vmem S8x128x128 .f32) (x i : Vec F S64x1024 .f32) (L : Vec F S2x1024 .f32) (s0 : Vec F S1x8x128x128 .f32) :
    ℕ → List (View.Piece (Elt F) S8x128x128 .f32)
  | 0 => heads.map (startPiece s0)
  | n + 1 => statePiece x i L (fun h => v.readCov (carried v x i L s0 n) (slabR h).toLoadRect) (Fin.ofNat 8 n) :: carried v x i L s0 n
/-- Head `h`'s store of its state into the result at the last chunk. -/
def endPiece (v : View sig .tc .vmem S8x128x128 .f32) (l : List (View.Piece (Elt F) S8x128x128 .f32)) (h : Fin 8) :
    View.Piece (Elt F) S1x8x128x128 .f32 :=
  ⟨blockR h, k0_pay10 (v.readCov l (slabR h).toLoadRect)⟩

set_option maxHeartbeats 1000000 in
/-- At a chunk in the middle the outputs' stores are the heads'. -/
theorem outs_B (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S2x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S64x1024 .bf16) (harg9 : arg9.IsWhole) (arg10 : Memref sig .tc .vmem S1x8x128x128 .f32) (harg10 : arg10.IsWhole) (arg11 : Memref sig .tc .vmem S8x128x128 .f32) (harg11 : arg11.IsWhole) (hc0 : ¬cond0_0 i) (hc1 : ¬cond0_1 i)
    (x0 : Vec F S64x1024 .f32) (x1 : Vec F S64x1024 .f32) (x2 : Vec F S64x1024 .f32) (x3 : Vec F S64x1024 .f32) (x4 : Vec F S2x1024 .f32) (x5 : Vec F S1x128 .f32) (x6 : Vec F S1x8x128x128 .f32) (xs0 : Vec F S8x128x128 .f32) : (kernelRun0_B c i arg2 harg2 arg3 harg3 arg4 harg4 arg5 harg5 arg6 harg6 arg7 harg7 arg8 harg8 arg9 harg9 arg10 harg10 arg11 harg11 hc0 hc1 x0 x1 x2 x3 x4 x5 x6 xs0).1 = heads.map (outPiece (arg2.view.read (Elt F) (harg2.unread x0)) (arg3.view.read (Elt F) (harg3.unread x1)) (arg4.view.read (Elt F) (harg4.unread x2)) (arg5.view.read (Elt F) (harg5.unread x3)) (View.ld (arg6.view.read (Elt F) (harg6.unread x4)) (Rect.unit ![0, 0] S2x1024.size inb_S2x1024_S2x1024_0_0)) (View.ld (arg7.view.read (Elt F) (harg7.unread x5)) (Rect.unit ![0, 0] S1x128.size inb_S1x128_S1x128_0_0)) (slabs (arg11.view.read (Elt F) (harg11.unread xs0)))) := by
  unfold kernelRun0_B
  dsimp only
  rfl
set_option maxHeartbeats 1000000 in
/-- At a chunk in the middle the scratch's stores are the heads'. -/
theorem states_B (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S2x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S64x1024 .bf16) (harg9 : arg9.IsWhole) (arg10 : Memref sig .tc .vmem S1x8x128x128 .f32) (harg10 : arg10.IsWhole) (arg11 : Memref sig .tc .vmem S8x128x128 .f32) (harg11 : arg11.IsWhole) (hc0 : ¬cond0_0 i) (hc1 : ¬cond0_1 i)
    (x0 : Vec F S64x1024 .f32) (x1 : Vec F S64x1024 .f32) (x2 : Vec F S64x1024 .f32) (x3 : Vec F S64x1024 .f32) (x4 : Vec F S2x1024 .f32) (x5 : Vec F S1x128 .f32) (x6 : Vec F S1x8x128x128 .f32) (xs0 : Vec F S8x128x128 .f32) : (kernelRun0_B c i arg2 harg2 arg3 harg3 arg4 harg4 arg5 harg5 arg6 harg6 arg7 harg7 arg8 harg8 arg9 harg9 arg10 harg10 arg11 harg11 hc0 hc1 x0 x1 x2 x3 x4 x5 x6 xs0).2.2.1 = heads.map (statePiece (arg3.view.read (Elt F) (harg3.unread x1)) (arg4.view.read (Elt F) (harg4.unread x2)) (View.ld (arg6.view.read (Elt F) (harg6.unread x4)) (Rect.unit ![0, 0] S2x1024.size inb_S2x1024_S2x1024_0_0)) (slabs (arg11.view.read (Elt F) (harg11.unread xs0)))) := by
  unfold kernelRun0_B
  dsimp only
  rfl

set_option maxHeartbeats 1000000 in
/-- At the last chunk the outputs' stores are the heads'. -/
theorem outs_C (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S2x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S64x1024 .bf16) (harg9 : arg9.IsWhole) (arg10 : Memref sig .tc .vmem S1x8x128x128 .f32) (harg10 : arg10.IsWhole) (arg11 : Memref sig .tc .vmem S8x128x128 .f32) (harg11 : arg11.IsWhole) (hc0 : ¬cond0_0 i) (hc1 : cond0_1 i)
    (x0 : Vec F S64x1024 .f32) (x1 : Vec F S64x1024 .f32) (x2 : Vec F S64x1024 .f32) (x3 : Vec F S64x1024 .f32) (x4 : Vec F S2x1024 .f32) (x5 : Vec F S1x128 .f32) (x6 : Vec F S1x8x128x128 .f32) (xs0 : Vec F S8x128x128 .f32) : (kernelRun0_C c i arg2 harg2 arg3 harg3 arg4 harg4 arg5 harg5 arg6 harg6 arg7 harg7 arg8 harg8 arg9 harg9 arg10 harg10 arg11 harg11 hc0 hc1 x0 x1 x2 x3 x4 x5 x6 xs0).1 = heads.map (outPiece (arg2.view.read (Elt F) (harg2.unread x0)) (arg3.view.read (Elt F) (harg3.unread x1)) (arg4.view.read (Elt F) (harg4.unread x2)) (arg5.view.read (Elt F) (harg5.unread x3)) (View.ld (arg6.view.read (Elt F) (harg6.unread x4)) (Rect.unit ![0, 0] S2x1024.size inb_S2x1024_S2x1024_0_0)) (View.ld (arg7.view.read (Elt F) (harg7.unread x5)) (Rect.unit ![0, 0] S1x128.size inb_S1x128_S1x128_0_0)) (slabs (arg11.view.read (Elt F) (harg11.unread xs0)))) := by
  unfold kernelRun0_C
  dsimp only
  rfl
set_option maxHeartbeats 1000000 in
/-- At the last chunk the scratch's stores are the heads'. -/
theorem states_C (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S2x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S64x1024 .bf16) (harg9 : arg9.IsWhole) (arg10 : Memref sig .tc .vmem S1x8x128x128 .f32) (harg10 : arg10.IsWhole) (arg11 : Memref sig .tc .vmem S8x128x128 .f32) (harg11 : arg11.IsWhole) (hc0 : ¬cond0_0 i) (hc1 : cond0_1 i)
    (x0 : Vec F S64x1024 .f32) (x1 : Vec F S64x1024 .f32) (x2 : Vec F S64x1024 .f32) (x3 : Vec F S64x1024 .f32) (x4 : Vec F S2x1024 .f32) (x5 : Vec F S1x128 .f32) (x6 : Vec F S1x8x128x128 .f32) (xs0 : Vec F S8x128x128 .f32) : (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.2.1 = heads.map (statePiece (arg3.view.read (Elt F) (harg3.unread x1)) (arg4.view.read (Elt F) (harg4.unread x2)) (View.ld (arg6.view.read (Elt F) (harg6.unread x4)) (Rect.unit ![0, 0] S2x1024.size inb_S2x1024_S2x1024_0_0)) (slabs (arg11.view.read (Elt F) (harg11.unread xs0)))) := by
  unfold kernelRun0_C
  dsimp only
  rfl

set_option maxHeartbeats 1000000 in
/-- At the last chunk the final state's stores are the heads'. -/
theorem ends_C (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S2x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S64x1024 .bf16) (harg9 : arg9.IsWhole) (arg10 : Memref sig .tc .vmem S1x8x128x128 .f32) (harg10 : arg10.IsWhole) (arg11 : Memref sig .tc .vmem S8x128x128 .f32) (harg11 : arg11.IsWhole) (hc0 : ¬cond0_0 i) (hc1 : cond0_1 i)
    (x0 : Vec F S64x1024 .f32) (x1 : Vec F S64x1024 .f32) (x2 : Vec F S64x1024 .f32) (x3 : Vec F S64x1024 .f32) (x4 : Vec F S2x1024 .f32) (x5 : Vec F S1x128 .f32) (x6 : Vec F S1x8x128x128 .f32) (xs0 : Vec F S8x128x128 .f32) : (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.1 = heads.map (endPiece arg11.view (heads.map (statePiece (arg3.view.read (Elt F) (harg3.unread x1)) (arg4.view.read (Elt F) (harg4.unread x2)) (View.ld (arg6.view.read (Elt F) (harg6.unread x4)) (Rect.unit ![0, 0] S2x1024.size inb_S2x1024_S2x1024_0_0)) (slabs (arg11.view.read (Elt F) (harg11.unread xs0)))))) := by
  unfold kernelRun0_C
  dsimp only
  rfl

set_option maxHeartbeats 1000000 in
/-- At the first chunk the outputs' stores are the heads'. -/
theorem outs_A (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S2x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S64x1024 .bf16) (harg9 : arg9.IsWhole) (arg10 : Memref sig .tc .vmem S1x8x128x128 .f32) (harg10 : arg10.IsWhole) (arg11 : Memref sig .tc .vmem S8x128x128 .f32) (harg11 : arg11.IsWhole) (hc0 : cond0_0 i) (hc1 : ¬cond0_1 i)
    (x0 : Vec F S64x1024 .f32) (x1 : Vec F S64x1024 .f32) (x2 : Vec F S64x1024 .f32) (x3 : Vec F S64x1024 .f32) (x4 : Vec F S2x1024 .f32) (x5 : Vec F S1x128 .f32) (x6 : Vec F S1x8x128x128 .f32) : (kernelRun0_A c i arg2 harg2 arg3 harg3 arg4 harg4 arg5 harg5 arg6 harg6 arg7 harg7 arg8 harg8 arg9 harg9 arg10 harg10 arg11 harg11 hc0 hc1 x0 x1 x2 x3 x4 x5 x6).1 = heads.map (outPiece (arg2.view.read (Elt F) (harg2.unread x0)) (arg3.view.read (Elt F) (harg3.unread x1)) (arg4.view.read (Elt F) (harg4.unread x2)) (arg5.view.read (Elt F) (harg5.unread x3)) (View.ld (arg6.view.read (Elt F) (harg6.unread x4)) (Rect.unit ![0, 0] S2x1024.size inb_S2x1024_S2x1024_0_0)) (View.ld (arg7.view.read (Elt F) (harg7.unread x5)) (Rect.unit ![0, 0] S1x128.size inb_S1x128_S1x128_0_0)) (fun h => arg11.view.readCov (carried arg11.view (arg3.view.read (Elt F) (harg3.unread x1)) (arg4.view.read (Elt F) (harg4.unread x2)) (View.ld (arg6.view.read (Elt F) (harg6.unread x4)) (Rect.unit ![0, 0] S2x1024.size inb_S2x1024_S2x1024_0_0)) (arg8.view.read (Elt F) (harg8.unread x6)) h.val) (slabR h).toLoadRect)) := by
  unfold kernelRun0_A
  dsimp only
  rfl
set_option maxHeartbeats 1000000 in
/-- At the first chunk the scratch's stores are the heads'. -/
theorem states_A (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S2x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S64x1024 .bf16) (harg9 : arg9.IsWhole) (arg10 : Memref sig .tc .vmem S1x8x128x128 .f32) (harg10 : arg10.IsWhole) (arg11 : Memref sig .tc .vmem S8x128x128 .f32) (harg11 : arg11.IsWhole) (hc0 : cond0_0 i) (hc1 : ¬cond0_1 i)
    (x0 : Vec F S64x1024 .f32) (x1 : Vec F S64x1024 .f32) (x2 : Vec F S64x1024 .f32) (x3 : Vec F S64x1024 .f32) (x4 : Vec F S2x1024 .f32) (x5 : Vec F S1x128 .f32) (x6 : Vec F S1x8x128x128 .f32) : (kernelRun0_A c i arg2 harg2 arg3 harg3 arg4 harg4 arg5 harg5 arg6 harg6 arg7 harg7 arg8 harg8 arg9 harg9 arg10 harg10 arg11 harg11 hc0 hc1 x0 x1 x2 x3 x4 x5 x6).2.2.1 = carried arg11.view (arg3.view.read (Elt F) (harg3.unread x1)) (arg4.view.read (Elt F) (harg4.unread x2)) (View.ld (arg6.view.read (Elt F) (harg6.unread x4)) (Rect.unit ![0, 0] S2x1024.size inb_S2x1024_S2x1024_0_0)) (arg8.view.read (Elt F) (harg8.unread x6)) 8 := by
  unfold kernelRun0_A
  dsimp only
  rfl

end Cert.HgrnPIdeal.Head
end
end
-- ==== Proof.Blocks.lean ====
module
public import proofs.«01_k».proof.Proof.Head
public import Idealize.ShloMosaic.Lib.Pipeline.Value
@[expose] public section
set_option maxRecDepth 16384

/-! # What a chunk leaves: outputs, scratch and final state as functions of the blocks -/

noncomputable section
namespace Cert.HgrnPIdeal.Head
open Cert.HgrnPIdeal Cert.HgrnPIdeal.Gen
open Idealize.ShloMosaic Idealize.ShloMosaic.TcCoe Idealize.ShloMosaic.Tactic

/-- Among stores at disjoint rectangles each index reads its own rectangle's store. -/
theorem canon_map_emb {Val : EltTy → Type} [∀ e, Nonempty (Val e)] {S : Shape} {e : EltTy} (r : Fin 8 → Rect S)
    (w : ∀ h, (r h).shape.Idx → Val e) (hd : ∀ h h' : Fin 8, h ≠ h' → ∀ x, (r h).emb x ∉ (r h').set)
    (h : Fin 8) (x : (r h).shape.Idx) :
    ∀ l : List (Fin 8), h ∈ l → View.canon (l.map fun h => (⟨r h, w h⟩ : View.Piece Val S e)) ((r h).emb x) = w h x
  | [], hm => absurd hm List.not_mem_nil
  | k :: l, hm => by
    rw [List.map_cons]
    by_cases hk : k = h
    · subst hk; exact View.canon_cons_emb _ _ _ _
    · rw [View.canon_cons_of_not_mem _ _ (hd h k (Ne.symm hk) x)]
      exact canon_map_emb r w hd h x l ((List.mem_cons.mp hm).resolve_left (Ne.symm hk))

theorem mem_heads (h : Fin 8) : h ∈ heads := by revert h; decide

theorem col_apart (h h' : Fin 8) (hh : h ≠ h') (x : (colR h).shape.Idx) : (colR h).emb x ∉ (colR h').set := by
  intro hx
  obtain ⟨y, hy⟩ := (colR h').exists_idx_of_mem hx
  have e : 128 * h'.val + 1 * (y 1).val = 128 * h.val + 1 * (x 1).val := congrArg Fin.val (congrFun hy 1)
  have := (y 1).isLt; have := (x 1).isLt
  have a : (y 1).val < 128 := (y 1).isLt
  have b : (x 1).val < 128 := (x 1).isLt
  exact hh (Fin.ext (by omega))

theorem slab_apart (h h' : Fin 8) (hh : h ≠ h') (x : (slabR h).shape.Idx) : (slabR h).emb x ∉ (slabR h').set := by
  intro hx
  obtain ⟨y, hy⟩ := (slabR h').exists_idx_of_mem hx
  have e : h'.val + 1 * (y 0).val = h.val + 1 * (x 0).val := congrArg Fin.val (congrFun hy 0)
  have a : (y 0).val < 1 := (y 0).isLt
  have b : (x 0).val < 1 := (x 0).isLt
  exact hh (Fin.ext (by omega))

theorem block_apart (h h' : Fin 8) (hh : h ≠ h') (x : (blockR h).shape.Idx) : (blockR h).emb x ∉ (blockR h').set := by
  intro hx
  obtain ⟨y, hy⟩ := (blockR h').exists_idx_of_mem hx
  have e : h'.val + 1 * (y 1).val = h.val + 1 * (x 1).val := congrArg Fin.val (congrFun hy 1)
  have a : (y 1).val < 1 := (y 1).isLt
  have b : (x 1).val < 1 := (x 1).isLt
  exact hh (Fin.ext (by omega))

variable {F : FTy → Type} [FloatOps F]

/-- The outputs of a chunk. -/
def outBlock (q x i g : Vec F S64x1024 .f32) (L : Vec F S2x1024 .f32) (ng : Vec F S1x128 .f32) (st : Fin 8 → Vec F S1x128x128 .f32) :
    Vec F S64x1024 .bf16 := View.canon (heads.map (outPiece q x i g L ng st))
/-- The scratch after a chunk. -/
def stateBlock (x i : Vec F S64x1024 .f32) (L : Vec F S2x1024 .f32) (st : Fin 8 → Vec F S1x128x128 .f32) :
    Vec F S8x128x128 .f32 := View.canon (heads.map (statePiece x i L st))
/-- The final state's array from the last scratch. -/
def endBlock (st : Fin 8 → Vec F S1x128x128 .f32) : Vec F S1x8x128x128 .f32 :=
  View.canon (heads.map fun h => (⟨blockR h, k0_pay10 (st h)⟩ : View.Piece (Elt F) S1x8x128x128 .f32))

theorem outBlock_emb (q x i g : Vec F S64x1024 .f32) (L : Vec F S2x1024 .f32) (ng : Vec F S1x128 .f32) (st : Fin 8 → Vec F S1x128x128 .f32)
    (h : Fin 8) (j : S64x128.Idx) : outBlock q x i g L ng st ((colR h).emb j)
      = out (lbOf L h) ng (col x h) (col q h) (col i h) (col g h) (st h) j :=
  canon_map_emb colR _ col_apart h j heads (mem_heads h)

theorem stateBlock_emb (x i : Vec F S64x1024 .f32) (L : Vec F S2x1024 .f32) (st : Fin 8 → Vec F S1x128x128 .f32)
    (h : Fin 8) (j : S1x128x128.Idx) : stateBlock x i L st ((slabR h).emb j)
      = newState (lbOf L h) (col x h) (col i h) (st h) j :=
  canon_map_emb slabR _ slab_apart h j heads (mem_heads h)

theorem endBlock_emb (st : Fin 8 → Vec F S1x128x128 .f32) (h : Fin 8) (j : S1x1x128x128.Idx) :
    endBlock st ((blockR h).emb j) = k0_pay10 (st h) j :=
  canon_map_emb blockR _ block_apart h j heads (mem_heads h)

theorem slabs_apply (s : Vec F S8x128x128 .f32) (h : Fin 8) (j : S1x128x128.Idx) : slabs s h j = s ((slabR h).emb j) := rfl

/-- A head's slab after a chunk is its new state. -/
theorem slabs_stateBlock (x i : Vec F S64x1024 .f32) (L : Vec F S2x1024 .f32) (st : Fin 8 → Vec F S1x128x128 .f32) (h : Fin 8) :
    slabs (stateBlock x i L st) h = newState (lbOf L h) (col x h) (col i h) (st h) := by
  funext j
  rw [slabs_apply, stateBlock_emb]

/-- Every index of the scratch lies in a head's slab. -/
theorem slab_onto (y : S8x128x128.Idx) : ∃ (h : Fin 8) (j : S1x128x128.Idx), (slabR h).emb j = y := by
  refine ⟨y 0, fun a => ⟨(![0, (y 1).val, (y 2).val] : Fin 3 → ℕ) a, ?_⟩, ?_⟩
  · fin_cases a
    · exact Nat.zero_lt_one
    · exact (y 1).isLt
    · exact (y 2).isLt
  · funext a
    apply Fin.ext
    fin_cases a
    · show (y 0).val + 1 * 0 = _; rfl
    · show 0 + 1 * (y 1).val = _; simp
    · show 0 + 1 * (y 2).val = _; simp

/-- While the first chunk runs, the first `n` heads' slabs are new and the others still at the start. -/
theorem carried_emb (v : View sig .tc .vmem S8x128x128 .f32) (x i : Vec F S64x1024 .f32) (L : Vec F S2x1024 .f32) (s0 : Vec F S1x8x128x128 .f32)
    (h : Fin 8) (j : S1x128x128.Idx) : ∀ n ≤ 8, View.canon (carried v x i L s0 n) ((slabR h).emb j)
      = if h.val < n then newState (lbOf L h) (col x h) (col i h) (starts s0 h) j else starts s0 h j
  | 0, _ => by
    rw [if_neg (Nat.not_lt_zero _)]
    exact canon_map_emb slabR _ slab_apart h j heads (mem_heads h)
  | n + 1, hn => by
    have hv : (Fin.ofNat 8 n).val = n := Nat.mod_eq_of_lt hn
    by_cases hk : Fin.ofNat 8 n = h
    · have hh : h.val = n := by rw [← hk]; exact hv
      rw [if_pos (by omega)]
      have hr : (v.readCov (carried v x i L s0 n) (slabR h).toLoadRect) = starts s0 h := by
        rw [View.readCov_eq_canon']
        funext k
        exact (carried_emb v x i L s0 h k n (by omega)).trans (if_neg (by omega))
      show View.canon (statePiece x i L _ (Fin.ofNat 8 n) :: carried v x i L s0 n) _ = _
      rw [hk]
      refine (View.canon_cons_emb (slabR h) _ _ j).trans ?_
      exact congrArg (fun st => newState (lbOf L h) (col x h) (col i h) st j) hr
    · have hh : h.val ≠ n := fun e => hk (Fin.ext (hv.trans e.symm))
      refine (View.canon_cons_of_not_mem _ _ (slab_apart h _ (Ne.symm hk) j)).trans ?_
      rw [carried_emb v x i L s0 h j n (by omega)]
      by_cases hl : h.val < n
      · rw [if_pos hl, if_pos (by omega)]
      · rw [if_neg hl, if_neg (by omega)]

theorem carried_read (v : View sig .tc .vmem S8x128x128 .f32) (x i : Vec F S64x1024 .f32) (L : Vec F S2x1024 .f32) (s0 : Vec F S1x8x128x128 .f32)
    (h : Fin 8) : v.readCov (carried v x i L s0 h.val) (slabR h).toLoadRect = starts s0 h := by
  rw [View.readCov_eq_canon']
  funext k
  exact (carried_emb v x i L s0 h k h.val (by omega)).trans (if_neg (by omega))

theorem carried_all (v : View sig .tc .vmem S8x128x128 .f32) (x i : Vec F S64x1024 .f32) (L : Vec F S2x1024 .f32) (s0 : Vec F S1x8x128x128 .f32) :
    View.canon (carried v x i L s0 8) = stateBlock x i L (starts s0) := by
  funext y
  obtain ⟨h, j, rfl⟩ := slab_onto y
  rw [carried_emb v x i L s0 h j 8 le_rfl, if_pos h.isLt, stateBlock_emb]

theorem end_read (v : View sig .tc .vmem S8x128x128 .f32) (x i : Vec F S64x1024 .f32) (L : Vec F S2x1024 .f32) (st : Fin 8 → Vec F S1x128x128 .f32)
    (h : Fin 8) : v.readCov (heads.map (statePiece x i L st)) (slabR h).toLoadRect = slabs (stateBlock x i L st) h := by
  rw [View.readCov_eq_canon']; rfl

/-- A load of a whole block is the block. -/
theorem ld_lb (x : Vec F S2x1024 .f32) : View.ld x (Rect.unit ![0, 0] S2x1024.size inb_S2x1024_S2x1024_0_0) = x :=
  View.ld_unit_zero (S := S2x1024) (by funext a; fin_cases a <;> rfl) _ x
theorem ld_ng (x : Vec F S1x128 .f32) : View.ld x (Rect.unit ![0, 0] S1x128.size inb_S1x128_S1x128_0_0) = x :=
  View.ld_unit_zero (S := S1x128) (by funext a; fin_cases a <;> rfl) _ x

set_option maxHeartbeats 1000000 in
theorem out_A (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S2x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S64x1024 .bf16) (harg9 : arg9.IsWhole) (arg10 : Memref sig .tc .vmem S1x8x128x128 .f32) (harg10 : arg10.IsWhole) (arg11 : Memref sig .tc .vmem S8x128x128 .f32) (harg11 : arg11.IsWhole) (hc0 : cond0_0 i) (hc1 : ¬cond0_1 i)
    (x0 : Vec F S64x1024 .f32) (x1 : Vec F S64x1024 .f32) (x2 : Vec F S64x1024 .f32) (x3 : Vec F S64x1024 .f32) (x4 : Vec F S2x1024 .f32) (x5 : Vec F S1x128 .f32) (x6 : Vec F S1x8x128x128 .f32) : out0_A_7 c i arg2 harg2 arg3 harg3 arg4 harg4 arg5 harg5 arg6 harg6 arg7 harg7 arg8 harg8 arg9 harg9 arg10 harg10 arg11 harg11 hc0 hc1 x0 x1 x2 x3 x4 x5 x6 = outBlock x0 x1 x2 x3 x4 x5 (starts x6) := by
  unfold out0_A_7
  rw [View.read_writes_junk_eq_canon, outs_A]
  rw [harg2.read_unread, harg3.read_unread, harg4.read_unread, harg5.read_unread, harg6.read_unread, harg7.read_unread, harg8.read_unread, ld_lb, ld_ng]
  exact congrArg (fun st => View.canon (heads.map (outPiece x0 x1 x2 x3 x4 x5 st))) (funext fun h => carried_read arg11.view x1 x2 x4 x6 h)
set_option maxHeartbeats 1000000 in
theorem state_A (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S2x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S64x1024 .bf16) (harg9 : arg9.IsWhole) (arg10 : Memref sig .tc .vmem S1x8x128x128 .f32) (harg10 : arg10.IsWhole) (arg11 : Memref sig .tc .vmem S8x128x128 .f32) (harg11 : arg11.IsWhole) (hc0 : cond0_0 i) (hc1 : ¬cond0_1 i)
    (x0 : Vec F S64x1024 .f32) (x1 : Vec F S64x1024 .f32) (x2 : Vec F S64x1024 .f32) (x3 : Vec F S64x1024 .f32) (x4 : Vec F S2x1024 .f32) (x5 : Vec F S1x128 .f32) (x6 : Vec F S1x8x128x128 .f32) : sout0_A_0 c i arg2 harg2 arg3 harg3 arg4 harg4 arg5 harg5 arg6 harg6 arg7 harg7 arg8 harg8 arg9 harg9 arg10 harg10 arg11 harg11 hc0 hc1 x0 x1 x2 x3 x4 x5 x6 = stateBlock x1 x2 x4 (starts x6) := by
  unfold sout0_A_0
  rw [View.read_writes_junk_eq_canon, states_A]
  rw [harg3.read_unread, harg4.read_unread, harg6.read_unread, harg8.read_unread, ld_lb]
  exact carried_all arg11.view x1 x2 x4 x6
set_option maxHeartbeats 1000000 in
theorem out_B (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S2x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S64x1024 .bf16) (harg9 : arg9.IsWhole) (arg10 : Memref sig .tc .vmem S1x8x128x128 .f32) (harg10 : arg10.IsWhole) (arg11 : Memref sig .tc .vmem S8x128x128 .f32) (harg11 : arg11.IsWhole) (hc0 : ¬cond0_0 i) (hc1 : ¬cond0_1 i)
    (x0 : Vec F S64x1024 .f32) (x1 : Vec F S64x1024 .f32) (x2 : Vec F S64x1024 .f32) (x3 : Vec F S64x1024 .f32) (x4 : Vec F S2x1024 .f32) (x5 : Vec F S1x128 .f32) (x6 : Vec F S1x8x128x128 .f32) (xs0 : Vec F S8x128x128 .f32) : out0_B_7 c i arg2 harg2 arg3 harg3 arg4 harg4 arg5 harg5 arg6 harg6 arg7 harg7 arg8 harg8 arg9 harg9 arg10 harg10 arg11 harg11 hc0 hc1 x0 x1 x2 x3 x4 x5 x6 xs0 = outBlock x0 x1 x2 x3 x4 x5 (slabs xs0) := by
  unfold out0_B_7
  rw [View.read_writes_junk_eq_canon, outs_B]
  rw [harg2.read_unread, harg3.read_unread, harg4.read_unread, harg5.read_unread, harg6.read_unread, harg7.read_unread, harg11.read_unread, ld_lb, ld_ng, outBlock]
set_option maxHeartbeats 1000000 in
theorem state_B (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S2x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S64x1024 .bf16) (harg9 : arg9.IsWhole) (arg10 : Memref sig .tc .vmem S1x8x128x128 .f32) (harg10 : arg10.IsWhole) (arg11 : Memref sig .tc .vmem S8x128x128 .f32) (harg11 : arg11.IsWhole) (hc0 : ¬cond0_0 i) (hc1 : ¬cond0_1 i)
    (x0 : Vec F S64x1024 .f32) (x1 : Vec F S64x1024 .f32) (x2 : Vec F S64x1024 .f32) (x3 : Vec F S64x1024 .f32) (x4 : Vec F S2x1024 .f32) (x5 : Vec F S1x128 .f32) (x6 : Vec F S1x8x128x128 .f32) (xs0 : Vec F S8x128x128 .f32) : sout0_B_0 c i arg2 harg2 arg3 harg3 arg4 harg4 arg5 harg5 arg6 harg6 arg7 harg7 arg8 harg8 arg9 harg9 arg10 harg10 arg11 harg11 hc0 hc1 x0 x1 x2 x3 x4 x5 x6 xs0 = stateBlock x1 x2 x4 (slabs xs0) := by
  unfold sout0_B_0
  rw [View.read_writes_junk_eq_canon, states_B]
  rw [harg3.read_unread, harg4.read_unread, harg6.read_unread, harg11.read_unread, ld_lb, stateBlock]
set_option maxHeartbeats 1000000 in
theorem out_C (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S2x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S64x1024 .bf16) (harg9 : arg9.IsWhole) (arg10 : Memref sig .tc .vmem S1x8x128x128 .f32) (harg10 : arg10.IsWhole) (arg11 : Memref sig .tc .vmem S8x128x128 .f32) (harg11 : arg11.IsWhole) (hc0 : ¬cond0_0 i) (hc1 : cond0_1 i)
    (x0 : Vec F S64x1024 .f32) (x1 : Vec F S64x1024 .f32) (x2 : Vec F S64x1024 .f32) (x3 : Vec F S64x1024 .f32) (x4 : Vec F S2x1024 .f32) (x5 : Vec F S1x128 .f32) (x6 : Vec F S1x8x128x128 .f32) (xs0 : Vec F S8x128x128 .f32) : out0_C_7 c i arg2 harg2 arg3 harg3 arg4 harg4 arg5 harg5 arg6 harg6 arg7 harg7 arg8 harg8 arg9 harg9 arg10 harg10 arg11 harg11 hc0 hc1 x0 x1 x2 x3 x4 x5 x6 xs0 = outBlock x0 x1 x2 x3 x4 x5 (slabs xs0) := by
  unfold out0_C_7
  rw [View.read_writes_junk_eq_canon, outs_C]
  rw [harg2.read_unread, harg3.read_unread, harg4.read_unread, harg5.read_unread, harg6.read_unread, harg7.read_unread, harg11.read_unread, ld_lb, ld_ng, outBlock]
set_option maxHeartbeats 1000000 in
theorem state_C (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S2x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S64x1024 .bf16) (harg9 : arg9.IsWhole) (arg10 : Memref sig .tc .vmem S1x8x128x128 .f32) (harg10 : arg10.IsWhole) (arg11 : Memref sig .tc .vmem S8x128x128 .f32) (harg11 : arg11.IsWhole) (hc0 : ¬cond0_0 i) (hc1 : cond0_1 i)
    (x0 : Vec F S64x1024 .f32) (x1 : Vec F S64x1024 .f32) (x2 : Vec F S64x1024 .f32) (x3 : Vec F S64x1024 .f32) (x4 : Vec F S2x1024 .f32) (x5 : Vec F S1x128 .f32) (x6 : Vec F S1x8x128x128 .f32) (xs0 : Vec F S8x128x128 .f32) : sout0_C_0 c i arg2 harg2 arg3 harg3 arg4 harg4 arg5 harg5 arg6 harg6 arg7 harg7 arg8 harg8 arg9 harg9 arg10 harg10 arg11 harg11 hc0 hc1 x0 x1 x2 x3 x4 x5 x6 xs0 = stateBlock x1 x2 x4 (slabs xs0) := by
  unfold sout0_C_0
  rw [View.read_writes_junk_eq_canon, states_C]
  rw [harg3.read_unread, harg4.read_unread, harg6.read_unread, harg11.read_unread, ld_lb, stateBlock]
set_option maxHeartbeats 1000000 in
theorem end_C (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S2x1024 .f32) (harg6 : arg6.IsWhole) (arg7 : Memref sig .tc .vmem S1x128 .f32) (harg7 : arg7.IsWhole) (arg8 : Memref sig .tc .vmem S1x8x128x128 .f32) (harg8 : arg8.IsWhole) (arg9 : Memref sig .tc .vmem S64x1024 .bf16) (harg9 : arg9.IsWhole) (arg10 : Memref sig .tc .vmem S1x8x128x128 .f32) (harg10 : arg10.IsWhole) (arg11 : Memref sig .tc .vmem S8x128x128 .f32) (harg11 : arg11.IsWhole) (hc0 : ¬cond0_0 i) (hc1 : cond0_1 i)
    (x0 : Vec F S64x1024 .f32) (x1 : Vec F S64x1024 .f32) (x2 : Vec F S64x1024 .f32) (x3 : Vec F S64x1024 .f32) (x4 : Vec F S2x1024 .f32) (x5 : Vec F S1x128 .f32) (x6 : Vec F S1x8x128x128 .f32) (xs0 : Vec F S8x128x128 .f32) : out0_C_8 c i arg2 harg2 arg3 harg3 arg4 harg4 arg5 harg5 arg6 harg6 arg7 harg7 arg8 harg8 arg9 harg9 arg10 harg10 arg11 harg11 hc0 hc1 x0 x1 x2 x3 x4 x5 x6 xs0 = endBlock (slabs (stateBlock x1 x2 x4 (slabs xs0))) := by
  unfold out0_C_8
  rw [View.read_writes_junk_eq_canon, ends_C]
  rw [harg3.read_unread, harg4.read_unread, harg6.read_unread, harg11.read_unread, ld_lb]
  exact congrArg (fun st : Fin 8 → Vec F S1x128x128 .f32 => View.canon (heads.map fun h => (⟨blockR h, k0_pay10 (st h)⟩ : View.Piece (Elt F) S1x8x128x128 .f32)))
    (funext fun h => end_read arg11.view x1 x2 x4 (slabs xs0) h)

end Cert.HgrnPIdeal.Head
end
end
-- ==== Proof.HeadValue.lean ====
module
public import proofs.«01_k».proof.Proof.Blocks
public import proofs.«01_k».proof.Proof.Spec
public import Idealize.ShloMosaic.Lib.Pointwise
public import Idealize.ShloMosaic.Lib.ValueIdx
@[expose] public section
set_option maxRecDepth 16384

/-! # What a head of the kernel computes, at an index -/

noncomputable section
namespace Cert.HgrnPIdeal.Head
open Cert.HgrnPIdeal Cert.HgrnPIdeal.Gen
open Idealize.ShloMosaic Idealize.ShloMosaic.TcCoe Idealize.ShloMosaic.Tactic Idealize.ShloMosaic.Pointwise

/-- Every row of a chunk is a row of the array. -/
theorem valid_at (t : Fin 64) (c : Fin 128) : k0_pay19 (ix2 t c) = 1#1 := by
  pointwise [k0_pay19]
  revert t; decide +kernel

theorem sge_at (d : Fin 64) : ∀ t : Fin 64,
    IntOp.cmpi CmpIPredicate.sge (BitVec.ofNat 32 t) (BitVec.ofNat 32 d.val) = if d.val ≤ t.val then 1#1 else 0#1 := by
  revert d; decide +kernel

theorem pair_bits : ∀ a b : Fin 4, IntOp.cmpi CmpIPredicate.eq (BitVec.ofNat 32 a) (BitVec.ofNat 32 b.val) = if a = b then 1#1 else 0#1 := by
  decide +kernel

theorem sle_bits : ∀ a b : Fin 64, IntOp.cmpi CmpIPredicate.sle (BitVec.ofNat 32 a) (BitVec.ofNat 32 b.val) = if a.val ≤ b.val then 1#1 else 0#1 := by
  decide +kernel

/-- A product counts where its column block is the row's sub-chunk and its key is not after the row. -/
theorem pairs_at (t : Fin 64) (c : Fin 256) :
    pairs (ix2 t c) = if t.val / 16 = c.val / 64 ∧ c.val % 64 ≤ t.val then 1#1 else 0#1 := by
  pointwise [pairs, k0_pay21, k0_pay20]
  have hc := c.isLt
  have ht := t.isLt
  refine (congr (congrArg IntOp.andi (congr (congrArg (IntOp.cmpi CmpIPredicate.eq)
    (?_ : _ = BitVec.ofNat 32 (c.val / 64))) (?_ : _ = BitVec.ofNat 32 (t.val / 16))))
    (congrFun (congrArg (IntOp.cmpi CmpIPredicate.sle) (?_ : _ = BitVec.ofNat 32 (c.val % 64))) (BitVec.ofNat 32 t.val))).trans ?_
  · clear hc ht; revert c; decide +kernel
  · clear hc ht; revert t; decide +kernel
  · clear hc ht; revert c; decide +kernel
  · have e1 := pair_bits ⟨c.val / 64, by omega⟩ ⟨t.val / 16, by omega⟩
    have e2 := sle_bits ⟨c.val % 64, by omega⟩ t
    simp only [Fin.mk.injEq] at e1 e2
    rw [e1, e2]
    by_cases h1 : c.val / 64 = t.val / 16 <;> by_cases h2 : c.val % 64 ≤ t.val
    · rw [if_pos h1, if_pos h2, if_pos ⟨h1.symm, h2⟩]; rfl
    · rw [if_pos h1, if_neg h2, if_neg (fun h => h2 h.2)]; rfl
    · rw [if_neg h1, if_pos h2, if_neg (fun h => h1 h.1.symm)]; rfl
    · rw [if_neg h1, if_neg h2, if_neg (fun h => h2 h.2)]; rfl

/-- A rotation by `d` rows reads the row `d` before, around the end. -/
theorem rotate_read (c : FVec Ideal S64x128 .f32) (d : ℕ) (hd : d < 64) (t : Fin 64) (k : Fin 128) :
    dynamicRotate 0 (BitVec.ofNat 32 d) none c rotates_S64x128_d0 (ix2 t k) = c (ix2 ⟨(t.val + 64 - d) % 64, Nat.mod_lt _ (by norm_num)⟩ k) := by
  unfold dynamicRotate
  refine congrArg c (funext fun b => ?_)
  have e : (BitVec.ofNat 32 d).toNat = d := by rw [BitVec.toNat_ofNat]; exact Nat.mod_eq_of_lt (by omega)
  match b with
  | ⟨0, _⟩ =>
    refine (if_pos rfl).trans (Fin.ext ?_)
    show (t.val + 64 - ((BitVec.ofNat 32 d).toNat + 0) % 64) % 64 = (t.val + 64 - d) % 64
    rw [e]; omega
  | ⟨1, _⟩ => exact if_neg (fun h => absurd (congrArg Fin.val h) Nat.one_ne_zero)

/-- A doubling step reads its own row and the row `d` before it. -/
theorem roll_read (c : FVec Ideal S64x128 .f32) (d : ℕ) (hd : d < 64) (t : Fin 64) (k : Fin 128) :
    roll (BitVec.ofNat 32 d) c (ix2 t k)
      = c (ix2 t k) + Scalar.select (IntOp.cmpi CmpIPredicate.sge (BitVec.ofNat 32 t) (BitVec.ofNat 32 d))
        (c (ix2 ⟨(t.val + 64 - d) % 64, Nat.mod_lt _ (by norm_num)⟩ k)) 0 := by
  rw [← rotate_read c d hd]
  generalize BitVec.ofNat 32 d = w
  pointwise [roll, rows]

/-- One doubling step of the running sum. -/
theorem roll_step (d : ℕ) (hd : d < 64) (c : FVec Ideal S64x128 .f32) (g : Fin 128 → ℕ → EReal)
    (h : ∀ (t : Fin 64) k, c (ix2 t k) = ∑ i ∈ Finset.Ico (t.val + 1 - d) (t.val + 1), g k i) (t : Fin 64) (k : Fin 128) :
    roll (BitVec.ofNat 32 d) c (ix2 t k) = ∑ i ∈ Finset.Ico (t.val + 1 - (d + d)) (t.val + 1), g k i := by
  rw [roll_read c d hd, sge_at ⟨d, hd⟩ t, ← Cert.Hgrn.ico_double, h]
  refine congrArg₂ (· + ·) rfl ?_
  have ht := t.isLt
  by_cases hl : d ≤ t.val
  · have e : (t.val + 64 - d) % 64 = t.val - d := by omega
    rw [if_pos hl, if_pos hl, h]
    simp only [e]
    rfl
  · rw [if_neg hl, if_neg hl]; rfl

variable (lb : FVec Ideal S1x128 .f32) (x q i : Vec Ideal S64x128 .f32) (st : Vec Ideal S1x128x128 .f32)

/-- The kernel's log gates. -/
theorem logF_at (t : Fin 64) (k : Fin 128) :
    logF lb x (ix2 t k) = Hgrn.logGate (fun k => lb (ix2 0 k)) (fun t k => x (ix2 t k)) k t.val := by
  pointwise [logF, k0_pay24]
  rw [valid_at, Hgrn.logGate, dif_pos t.isLt]
  rfl

/-- The kernel's running sum is the decay. -/
theorem cum_at (t : Fin 64) (k : Fin 128) :
    cum lb x (ix2 t k) = Hgrn.decay (fun k => lb (ix2 0 k)) (fun t k => x (ix2 t k)) t k := by
  have h1 := roll_step 1 (by norm_num) (logF lb x) (Hgrn.logGate (fun k => lb (ix2 0 k)) (fun t k => x (ix2 t k)))
    (fun t k => by rw [logF_at, Nat.add_sub_cancel]; simp)
  have h2 := roll_step 2 (by norm_num) (roll 1#32 (logF lb x)) _ h1
  have h3 := roll_step 4 (by norm_num) (roll 2#32 (roll 1#32 (logF lb x))) _ h2
  have h4 := roll_step 8 (by norm_num) (roll 4#32 (roll 2#32 (roll 1#32 (logF lb x)))) _ h3
  have h5 := roll_step 16 (by norm_num) (roll 8#32 (roll 4#32 (roll 2#32 (roll 1#32 (logF lb x))))) _ h4
  have h6 := roll_step 32 (by norm_num) (roll 16#32 (roll 8#32 (roll 4#32 (roll 2#32 (roll 1#32 (logF lb x)))))) _ h5
  refine (h6 t k).trans ?_
  have ht := t.isLt
  rw [show t.val + 1 - (32 + 32) = 0 by omega, Hgrn.decay, Finset.range_eq_Ico]

/-- The kernel's keys. -/
theorem key_at (t : Fin 64) (k : Fin 128) :
    k0_pay25 k0_pay19 lb x (ix2 t k) = Hgrn.key (fun k => lb (ix2 0 k)) (fun t k => x (ix2 t k)) t k := by
  pointwise [k0_pay25, k0_pay24]
  rw [valid_at]
  rfl

/-- The kernel's new state, which it keeps transposed. -/
theorem newState_at (v k : Fin 128) : newState lb x i st (ix3 0 v k)
    = Hgrn.chunkState (fun k => lb (ix2 0 k)) (fun t k => x (ix2 t k)) (fun t k => i (ix2 t k)) (fun k v => st (ix3 0 v k)) k v := by
  pointwise [newState, k0_pay40, k0_pay39, k0_pay31]
  simp only [cum_at, key_at]
  rfl

/-- Four stacked blocks of 64 rows, read at row `x` of the stack. -/
def stack (f : Fin 4 → Fin 64 → EReal) (x : Fin 256) : EReal :=
  if h : x.val < 64 then f 0 ⟨x.val, h⟩
  else if h : x.val - 64 < 64 then f 1 ⟨x.val - 64, h⟩
  else if h : x.val - 64 - 64 < 64 then f 2 ⟨x.val - 64 - 64, h⟩ else f 3 ⟨x.val - 64 - 64 - 64, by omega⟩

/-- Column `x` of the stacked keys, at key `k`: each of the four blocks holds the chunk's keys over its sub-chunk's reference row. -/
def keyAt (c kk : FVec Ideal S64x128 .f32) (x : Fin 256) (k : Fin 128) : EReal :=
  stack (fun a s => kk (ix2 s k) * Ideal.exp (min ((![0, c (ix2 15 k), c (ix2 31 k), c (ix2 47 k)] : Fin 4 → EReal) a - c (ix2 s k)) (Ideal.ofBits .f32 1117782016#32))) x

/-- Row `x` of the inputs, stacked four times. -/
def valAt (i : Vec Ideal S64x128 .f32) (x : Fin 256) (v : Fin 128) : EReal := stack (fun _ s => i (ix2 s v)) x

/-- A head's output before the norm, as the kernel's operations give it. -/
theorem attn_read (c kk : FVec Ideal S64x128 .f32) (t : Fin 64) (v : Fin 128) :
    attn c kk q i st (ix2 t v) = (∑ k, q (ix2 t k) * Ideal.exp (c (ix2 t k)) * st (ix3 0 v k))
      + ∑ x, Scalar.select (pairs (ix2 t x)) ((∑ k, q (ix2 t k) * Ideal.exp (c (ix2 t k) - refRow c (ix2 t k)) * keyAt c kk x k) * valAt i x v) 0 := by
  pointwise [attn, k0_pay38, k0_pay31, k0_pay33]
  rfl

theorem eighty : Ideal.ofBits .f32 1117782016#32 = ((80 : ℝ) : EReal) := by
  simp [Ideal.ofBits, Ideal.ieee, -EReal.coe_mul]; norm_num

/-- The sum of the log gates before sub-chunk `a`. -/
abbrev refOf (a : Fin 4) (k : Fin 128) : EReal := Hgrn.upto (fun k => lb (ix2 0 k)) (fun t k => x (ix2 t k)) k (16 * a.val)

theorem refRow_at (t : Fin 64) (a : Fin 4) (ha : t.val / 16 = a.val) (k : Fin 128) :
    refRow (cum lb x) (ix2 t k) = refOf lb x a k := by
  pointwise [refRow, k0_pay33, rows]
  rw [show (48#32 : BitVec 32) = BitVec.ofNat 32 (48 : Fin 64).val from rfl, show (32#32 : BitVec 32) = BitVec.ofNat 32 (32 : Fin 64).val from rfl,
    show (16#32 : BitVec 32) = BitVec.ofNat 32 (16 : Fin 64).val from rfl, sge_at, sge_at, sge_at]
  simp only [cum_at]
  have ht := t.isLt
  have v48 : (48 : Fin 64).val = 48 := rfl
  have v32 : (32 : Fin 64).val = 32 := rfl
  have v16 : (16 : Fin 64).val = 16 := rfl
  rw [v48, v32, v16]
  fin_cases a
  · have : t.val / 16 = 0 := ha
    rw [if_neg (by omega), if_neg (by omega), if_neg (by omega)]
    exact (Finset.sum_range_zero _).symm
  · have : t.val / 16 = 1 := ha
    rw [if_neg (by omega), if_neg (by omega), if_pos (by omega)]; rfl
  · have : t.val / 16 = 2 := ha
    rw [if_neg (by omega), if_pos (by omega)]; rfl
  · have : t.val / 16 = 3 := ha
    rw [if_pos (by omega)]; rfl

/-- Column `s` of block `a`. -/
def tile (a : Fin 4) (s : Fin 64) : Fin 256 := ⟨64 * a.val + s.val, by omega⟩

theorem stack_tile (f : Fin 4 → Fin 64 → EReal) (a : Fin 4) (s : Fin 64) : stack f (tile a s) = f a s := by
  have hs := s.isLt
  have e : ∀ (n : ℕ) (h : n < 64), n = s.val → f a ⟨n, h⟩ = f a s := fun n h hn => congrArg (f a) (Fin.ext hn)
  have hv : (tile a s).val = 64 * a.val + s.val := rfl
  unfold stack
  have h4 : ∀ a : Fin 4, a = 0 ∨ a = 1 ∨ a = 2 ∨ a = 3 := by decide
  rcases h4 a with rfl | rfl | rfl | rfl
  · replace hv : (tile 0 s).val = 64 * 0 + s.val := hv
    rw [dif_pos (by omega)]; exact e _ _ (by omega)
  · replace hv : (tile 1 s).val = 64 * 1 + s.val := hv
    rw [dif_neg (by omega), dif_pos (by omega)]; exact e _ _ (by omega)
  · replace hv : (tile 2 s).val = 64 * 2 + s.val := hv
    rw [dif_neg (by omega), dif_neg (by omega), dif_pos (by omega)]; exact e _ _ (by omega)
  · replace hv : (tile 3 s).val = 64 * 3 + s.val := hv
    rw [dif_neg (by omega), dif_neg (by omega), dif_neg (by omega)]; exact e _ _ (by omega)

theorem valAt_tile (a : Fin 4) (s : Fin 64) (v : Fin 128) : valAt i (tile a s) v = i (ix2 s v) := stack_tile _ a s

theorem keyAt_tile (kk : FVec Ideal S64x128 .f32) (a : Fin 4) (s : Fin 64) (k : Fin 128) : keyAt (cum lb x) kk (tile a s) k
    = kk (ix2 s k) * Ideal.exp (min (refOf lb x a k - Hgrn.decay (fun k => lb (ix2 0 k)) (fun t k => x (ix2 t k)) s k) ((80 : ℝ) : EReal)) := by
  unfold keyAt
  rw [stack_tile, cum_at, cum_at, cum_at, cum_at, eighty]
  have e : (![0, Hgrn.decay (fun k => lb (ix2 0 k)) (fun t k => x (ix2 t k)) 15 k, Hgrn.decay (fun k => lb (ix2 0 k)) (fun t k => x (ix2 t k)) 31 k,
      Hgrn.decay (fun k => lb (ix2 0 k)) (fun t k => x (ix2 t k)) 47 k] : Fin 4 → EReal) a = refOf lb x a k := by
    fin_cases a
    · exact (Finset.sum_range_zero _).symm
    · rfl
    · rfl
    · rfl
  rw [e]

/-- A sum over the 256 columns, block by block. -/
theorem sum_tiles (f : Fin 256 → EReal) : ∑ x, f x = ∑ a : Fin 4, ∑ s : Fin 64, f (tile a s) := by
  rw [← Fintype.sum_prod_type', ← (finProdFinEquiv (m := 4) (n := 64)).sum_comp]
  refine Finset.sum_congr rfl fun p _ => congrArg f (Fin.ext ?_)
  simp [finProdFinEquiv, tile, add_comm]

/-- A head's output before the norm is the chunk's output of the recurrence. -/
theorem attn_at (hb : Hgrn.Bounded fun k => lb (ix2 0 k)) (t : Fin 64) (v : Fin 128) :
    attn (cum lb x) (k0_pay25 k0_pay19 lb x) q i st (ix2 t v)
      = Hgrn.chunkOut (fun k => lb (ix2 0 k)) (fun t k => x (ix2 t k)) (fun t k => q (ix2 t k)) (fun t k => i (ix2 t k))
          (fun k v => st (ix3 0 v k)) t v := by
  rw [attn_read, sum_tiles, Hgrn.chunkOut]
  simp only [cum_at]
  refine congrArg₂ (· + ·) rfl ?_
  have ht := t.isLt
  rw [Finset.sum_eq_single (⟨t.val / 16, by omega⟩ : Fin 4)]
  · refine Finset.sum_congr rfl fun s _ => ?_
    have hs := s.isLt
    rw [pairs_at, valAt_tile]
    have e1 : (tile ⟨t.val / 16, by omega⟩ s).val / 64 = t.val / 16 := by simp only [tile]; omega
    have e2 : (tile ⟨t.val / 16, by omega⟩ s).val % 64 = s.val := by simp only [tile]; omega
    rw [e1, e2]
    by_cases hst : s ≤ t
    · have hst' : s.val ≤ t.val := hst
      rw [if_pos ⟨rfl, hst'⟩, if_pos hst]
      refine congrArg (· * i (ix2 s v)) (Finset.sum_congr rfl fun k _ => ?_)
      rw [refRow_at lb x t ⟨t.val / 16, by omega⟩ rfl, keyAt_tile, key_at, mul_assoc, mul_left_comm (Ideal.exp _),
        Hgrn.decay_ref _ hb _ _ _ _ _ (by show s.val < 16 * (t.val / 16) + 16; omega)]
    · rw [if_neg (fun h => hst h.2), if_neg hst]; rfl
  · intro a _ ha
    refine Finset.sum_eq_zero fun s _ => ?_
    have hs := s.isLt
    rw [pairs_at, if_neg]
    · rfl
    · rintro ⟨h, -⟩
      refine ha (Fin.ext ?_)
      show a.val = t.val / 16
      rw [h]; simp only [tile]; omega
  · intro h; exact absurd (Finset.mem_univ _) h

/-- What a head stores: the gated output of the chunk. -/
theorem out_at (ng : Vec Ideal S1x128 .f32) (g : Vec Ideal S64x128 .f32) (hb : Hgrn.Bounded fun k => lb (ix2 0 k)) (t : Fin 64) (v : Fin 128) :
    out lb ng x q i g st (ix2 t v)
      = Hgrn.gated (fun k => ng (ix2 0 k)) (Hgrn.chunkOut (fun k => lb (ix2 0 k)) (fun t k => x (ix2 t k)) (fun t k => q (ix2 t k))
          (fun t k => i (ix2 t k)) (fun k v => st (ix3 0 v k)) t) (g (ix2 t v)) v := by
  pointwise [out, k0_pay41, k0_pay22]
  simp only [attn_at lb x q i st hb]
  rfl

end Cert.HgrnPIdeal.Head
end
end
-- ==== Proof.Inputs.lean ====
module
public import proofs.«01_k».proof.Proof.Sequence
public import proofs.«01_k».proof.Proof.HeadValue
public import proofs.«01_k».proof.Proof.Gen.HgrnPIdeal.Value
@[expose] public section
set_option maxRecDepth 16384

/-! # What the kernel reads at a grid point -/

noncomputable section
namespace Cert.HgrnPIdeal.Inputs
open Cert.HgrnPIdeal Cert.HgrnPIdeal.Gen Cert.HgrnPIdeal.Head
open Idealize.ShloMosaic Idealize.ShloMosaic.TcCoe Idealize.ShloMosaic.Tactic Idealize.ShloMosaic.Pointwise

variable (m : (ℓ : Loc nD τ sig) → Buf (Elt Ideal) ℓ) (c : Dev nD)

/-- The call's three arguments. -/
def z : Hgrn.Projected := m ((c : Thread nD τ).loc main_arg0)
def bounds : Hgrn.Bounds := m ((c : Thread nD τ).loc main_arg1)
def scale : FVec Ideal (⟨2, ![1, 128]⟩ : Shape) .f32 := m ((c : Thread nD τ).loc main_arg2)

theorem place0 : ∀ t : Fin cfg0.N, win0_0.index t (0 : Fin 2) = t.val ∧ win0_0.index t (1 : Fin 2) = 5 :=
  (by decide +kernel : ∀ t : Fin grid0.N, _)
theorem place1 : ∀ t : Fin cfg0.N, win0_1.index t (0 : Fin 2) = t.val ∧ win0_1.index t (1 : Fin 2) = 6 :=
  (by decide +kernel : ∀ t : Fin grid0.N, _)
theorem place2 : ∀ t : Fin cfg0.N, win0_2.index t (0 : Fin 2) = t.val ∧ win0_2.index t (1 : Fin 2) = 7 :=
  (by decide +kernel : ∀ t : Fin grid0.N, _)
theorem place3 : ∀ t : Fin cfg0.N, win0_3.index t (0 : Fin 2) = t.val ∧ win0_3.index t (1 : Fin 2) = 8 :=
  (by decide +kernel : ∀ t : Fin grid0.N, _)

/-- An element of the projected array at coordinates given by sums. -/
theorem cell_of (i : (⟨2, ![8704, 23040]⟩ : Shape).Idx) {r k : ℕ} (h0 : (i 0).val = r) (h1 : (i 1).val = k) : z m c i = Hgrn.cell (z m c) r k := by
  subst h0; subst h1
  rw [Hgrn.cell_eq _ (i 0).isLt (i 1).isLt]
  exact congrArg (z m c) (funext fun a => by match a with | ⟨0, _⟩ => rfl | ⟨1, _⟩ => rfl)

theorem query_at (t : Fin cfg0.N) (r : Fin 64) (k : Fin 1024) : X0_0 m c t (ix2 r k) = Hgrn.cell (z m c) (64 * t.val + r.val) (1024 * 5 + k.val) := by
  obtain ⟨e0, e1⟩ := place0 t
  unfold X0_0 Pipeline.Window.fill
  rw [dif_pos (moved0_0 t _)]
  refine (congrFun (V_main_arg0 m c) _).trans (cell_of m c _ ?_ ?_)
  · show win0_0.index t (0 : Fin 2) * 64 + 1 * r.val = _
    rw [e0]; omega
  · show win0_0.index t (1 : Fin 2) * 1024 + 1 * k.val = _
    rw [e1]; omega
theorem forget_at (t : Fin cfg0.N) (r : Fin 64) (k : Fin 1024) : X0_1 m c t (ix2 r k) = Hgrn.cell (z m c) (64 * t.val + r.val) (1024 * 6 + k.val) := by
  obtain ⟨e0, e1⟩ := place1 t
  unfold X0_1 Pipeline.Window.fill
  rw [dif_pos (moved0_1 t _)]
  refine (congrFun (V_main_arg0 m c) _).trans (cell_of m c _ ?_ ?_)
  · show win0_1.index t (0 : Fin 2) * 64 + 1 * r.val = _
    rw [e0]; omega
  · show win0_1.index t (1 : Fin 2) * 1024 + 1 * k.val = _
    rw [e1]; omega
theorem value_at (t : Fin cfg0.N) (r : Fin 64) (k : Fin 1024) : X0_2 m c t (ix2 r k) = Hgrn.cell (z m c) (64 * t.val + r.val) (1024 * 7 + k.val) := by
  obtain ⟨e0, e1⟩ := place2 t
  unfold X0_2 Pipeline.Window.fill
  rw [dif_pos (moved0_2 t _)]
  refine (congrFun (V_main_arg0 m c) _).trans (cell_of m c _ ?_ ?_)
  · show win0_2.index t (0 : Fin 2) * 64 + 1 * r.val = _
    rw [e0]; omega
  · show win0_2.index t (1 : Fin 2) * 1024 + 1 * k.val = _
    rw [e1]; omega
theorem gate_at (t : Fin cfg0.N) (r : Fin 64) (k : Fin 1024) : X0_3 m c t (ix2 r k) = Hgrn.cell (z m c) (64 * t.val + r.val) (1024 * 8 + k.val) := by
  obtain ⟨e0, e1⟩ := place3 t
  unfold X0_3 Pipeline.Window.fill
  rw [dif_pos (moved0_3 t _)]
  refine (congrFun (V_main_arg0 m c) _).trans (cell_of m c _ ?_ ?_)
  · show win0_3.index t (0 : Fin 2) * 64 + 1 * r.val = _
    rw [e0]; omega
  · show win0_3.index t (1 : Fin 2) * 1024 + 1 * k.val = _
    rw [e1]; omega

theorem index4 (t : Fin cfg0.N) : win0_4.index t = fun _ => 0 := by
  funext a; match a with | ⟨0, _⟩ => rfl | ⟨1, _⟩ => rfl
theorem index5 (t : Fin cfg0.N) : win0_5.index t = fun _ => 0 := by
  funext a; match a with | ⟨0, _⟩ => rfl | ⟨1, _⟩ => rfl
theorem bounds_at (t : Fin cfg0.N) : (iblk m c 4 t : Vec Ideal S2x1024 .f32) = bounds m c := by
  funext j
  refine (congrFun (V_main_arg1 m c) _).trans (congrArg (bounds m c) (funext fun a => ?_))
  exact Fin.ext (Pipeline.Window.rect_emb_val_of_index_zero win0_4 t a (congrFun (index4 t) a) j)

/-- The host's copy of the norm's scale. -/
theorem scale_entry (k : Fin 128) : (V m c main_v1 : Vec Ideal S1x128 .f32) (ix2 0 k) = scale m c (ix2 0 k) := by
  have e : (V m c main_v1 : Vec Ideal S1x128 .f32)
      = broadcastInDim S1x128 ![1] bcast_S128_S1x128_1 (shapeCast S128 (scale m c) shapeCasts_S1x128_S128) := by
    unfold_abbrev_sides
    after_results
    rfl
  rw [e]
  pointwise []
/-- The host's initial state. -/
theorem zero_entry (j : S1x8x128x128.Idx) : (V m c main_v2 : FVec Ideal S1x8x128x128 .f32) j = (0 : EReal) := by
  have e : (V m c main_v2 : Vec Ideal S1x8x128x128 .f32) = broadcastInDim S1x8x128x128 ![] bcast_S_S1x8x128x128 (constant (F := Ideal) S_ .f32 0x00000000#32) := by
    unfold_abbrev_sides
    after_results
  rw [e]
  exact Ideal.ofBits_zero .f32

theorem scale_at (t : Fin cfg0.N) (k : Fin 128) : (iblk m c 5 t : FVec Ideal S1x128 .f32) (ix2 0 k) = scale m c (ix2 0 k) := by
  refine Eq.trans (congrArg (V m c main_v1 : Vec Ideal S1x128 .f32) (funext fun a => ?_)) (scale_entry m c k)
  exact Fin.ext (Pipeline.Window.rect_emb_val_of_index_zero win0_5 t a (congrFun (index5 t) a) (ix2 0 k))
theorem zero_at (t : Fin cfg0.N) (j : S1x8x128x128.Idx) : (iblk m c 6 t : FVec Ideal S1x8x128x128 .f32) j = (0 : EReal) :=
  zero_entry m c _

theorem col_at (x : Vec Ideal S64x1024 .f32) (h : Fin 8) (r : Fin 64) (k : Fin 128) :
    col x h (ix2 r k) = x (ix2 r ⟨128 * h.val + k.val, by have := h.isLt; have := k.isLt; omega⟩) := by
  refine congrArg x (funext fun a => Fin.ext ?_)
  match a with
  | ⟨0, _⟩ => show 0 + 1 * r.val = r.val; omega
  | ⟨1, _⟩ => show 128 * h.val + 1 * k.val = 128 * h.val + k.val; omega

/-- A head's lower bound is the softmax's first row. -/
theorem lower_at (L : Hgrn.Bounds) (h : Fin 8) (k : Fin 128) : lbOf (F := Ideal) L h (ix2 0 k) = Hgrn.lower L h k := by
  unfold lbOf Hgrn.lower Hgrn.peak
  pointwise [k0_pay18]

/-- The heads start from zero. -/
theorem starts_at (t : Fin cfg0.N) (h : Fin 8) (j : S1x128x128.Idx) : starts (iblk m c 6 t : Vec Ideal S1x8x128x128 .f32) h j = (0 : EReal) := by
  unfold starts
  obtain ⟨a, b, d, rfl⟩ : ∃ a b d, j = ix3 a b d := ⟨j 0, j 1, j 2, eq_ix3 j⟩
  pointwise [k0_pay17]
  exact zero_at m c t _

theorem end_at (x : Vec Ideal S1x128x128 .f32) (k v : Fin 128) : k0_pay10 x (ix4 0 0 k v) = x (ix3 0 v k) := by
  pointwise [k0_pay10]

end Cert.HgrnPIdeal.Inputs
end
end
-- ==== Proof.KernelValue.lean ====
module
public import proofs.«01_k».proof.Proof.Inputs
@[expose] public section
set_option maxRecDepth 16384

/-! # The kernel's two results -/

noncomputable section
namespace Cert.HgrnPIdeal.Inputs
open Cert.HgrnPIdeal Cert.HgrnPIdeal.Gen Cert.HgrnPIdeal.Value Cert.HgrnPIdeal.Head
open Idealize.ShloMosaic Idealize.ShloMosaic.TcCoe Idealize.ShloMosaic.Tactic Idealize.ShloMosaic.Pointwise

variable (m : (ℓ : Loc nD τ sig) → Buf (Elt Ideal) ℓ) (c : Dev nD)

abbrev lb : Fin 8 → Fin 128 → EReal := Hgrn.lower (bounds m c)
/-- A slab holds a state with its two axes exchanged. -/
def Holds (st : Fin 8 → Vec Ideal S1x128x128 .f32) (n : ℕ) : Prop :=
  ∀ (h : Fin 8) (k v : Fin 128), (st h : FVec Ideal S1x128x128 .f32) (ix3 0 v k) = Hgrn.stateAt (z m c) (lb m c) h n k v

theorem query_col (t : Fin cfg0.N) (h : Fin 8) (r : Fin 64) (k : Fin 128) : col (X0_0 m c t) h (ix2 r k) = Hgrn.chunk (z m c) 5 t.val h r k := by
  rw [col_at]; refine (query_at m c t r _).trans ?_
  unfold Hgrn.chunk; exact congrArg (Hgrn.cell (z m c) _) (Nat.add_assoc _ _ _).symm
theorem forget_col (t : Fin cfg0.N) (h : Fin 8) (r : Fin 64) (k : Fin 128) : col (X0_1 m c t) h (ix2 r k) = Hgrn.chunk (z m c) 6 t.val h r k := by
  rw [col_at]; refine (forget_at m c t r _).trans ?_
  unfold Hgrn.chunk; exact congrArg (Hgrn.cell (z m c) _) (Nat.add_assoc _ _ _).symm
theorem value_col (t : Fin cfg0.N) (h : Fin 8) (r : Fin 64) (k : Fin 128) : col (X0_2 m c t) h (ix2 r k) = Hgrn.chunk (z m c) 7 t.val h r k := by
  rw [col_at]; refine (value_at m c t r _).trans ?_
  unfold Hgrn.chunk; exact congrArg (Hgrn.cell (z m c) _) (Nat.add_assoc _ _ _).symm
theorem gate_col (t : Fin cfg0.N) (h : Fin 8) (r : Fin 64) (k : Fin 128) : col (X0_3 m c t) h (ix2 r k) = Hgrn.chunk (z m c) 8 t.val h r k := by
  rw [col_at]; refine (gate_at m c t r _).trans ?_
  unfold Hgrn.chunk; exact congrArg (Hgrn.cell (z m c) _) (Nat.add_assoc _ _ _).symm

theorem fst_of {α β γ : Type} {o : α × β × γ} {x : α} {y : β} {w : γ} (e : o = (x, y, w)) : o.1 = x := by rw [e]
theorem mid_of {α β γ : Type} {o : α × β × γ} {x : α} {y : β} {w : γ} (e : o = (x, y, w)) : o.2.1 = y := by rw [e]
theorem last_of {α β γ : Type} {o : α × β × γ} {x : α} {y : β} {w : γ} (e : o = (x, y, w)) : o.2.2 = w := by rw [e]

/-- The scratch before point `t`: the zero start, or what the point before left. -/
def before (t : Fin cfg0.N) : Fin 8 → Vec Ideal S1x128x128 .f32 :=
  if t.val = 0 then starts (iblk m c 6 t : Vec Ideal S1x8x128x128 .f32)
  else slabs (outsAt0 m c (t.val - 1) (Nat.lt_of_le_of_lt (Nat.sub_le _ _) t.isLt)).2.2

theorem outs_out (t : Fin cfg0.N) : (outsAt0 m c t.val t.isLt).1
    = outBlock (X0_0 m c t) (X0_1 m c t) (X0_2 m c t) (X0_3 m c t) (iblk m c 4 t) (iblk m c 5 t) (before m c t) := by
  have hN := lt_of_lt_of_eq t.isLt (show cfg0.N = 128 from N_0)
  unfold before
  by_cases h0 : t.val = 0
  · rw [if_pos h0]; exact (fst_of (outsAt0_A m c t (by omega) (by omega))).trans (out_A (F := Ideal) ..)
  · rw [if_neg h0]
    by_cases h1 : t.val = 127
    · exact (fst_of (outsAt0_C m c t (by omega) (by omega))).trans (out_C (F := Ideal) ..)
    · exact (fst_of (outsAt0_B m c t (by omega) (by omega))).trans (out_B (F := Ideal) ..)
theorem outs_state (t : Fin cfg0.N) : (outsAt0 m c t.val t.isLt).2.2
    = stateBlock (X0_1 m c t) (X0_2 m c t) (iblk m c 4 t) (before m c t) := by
  have hN := lt_of_lt_of_eq t.isLt (show cfg0.N = 128 from N_0)
  unfold before
  by_cases h0 : t.val = 0
  · rw [if_pos h0]; exact (last_of (outsAt0_A m c t (by omega) (by omega))).trans (state_A (F := Ideal) ..)
  · rw [if_neg h0]
    by_cases h1 : t.val = 127
    · exact (last_of (outsAt0_C m c t (by omega) (by omega))).trans (state_C (F := Ideal) ..)
    · exact (last_of (outsAt0_B m c t (by omega) (by omega))).trans (state_B (F := Ideal) ..)
theorem outs_end (t : Fin cfg0.N) (h1 : t.val = 127) : (outsAt0 m c t.val t.isLt).2.1
    = endBlock (slabs (outsAt0 m c t.val t.isLt).2.2) := by
  refine (mid_of (outsAt0_C m c t (by omega) (by omega))).trans ((end_C (F := Ideal) ..).trans ?_)
  rw [outs_state]
  unfold before
  rw [if_neg (by omega)]

theorem step_holds (t : Fin cfg0.N) (st : Fin 8 → Vec Ideal S1x128x128 .f32) (hs : Holds m c st t.val) :
    Holds m c (slabs (stateBlock (X0_1 m c t) (X0_2 m c t) (iblk m c 4 t) st)) (t.val + 1) := by
  intro h k v
  rw [slabs_stateBlock]
  refine (newState_at _ _ _ _ v k).trans ?_
  have e1 : (fun k => lbOf (F := Ideal) (iblk m c 4 t) h (ix2 0 k)) = lb m c h := by
    funext k; rw [bounds_at]; exact lower_at _ _ _
  have e2 : (fun r k => col (X0_1 m c t) h (ix2 r k)) = Hgrn.chunk (z m c) 6 t.val h := by funext r k; exact forget_col m c t h r k
  have e3 : (fun r k => col (X0_2 m c t) h (ix2 r k)) = Hgrn.chunk (z m c) 7 t.val h := by funext r k; exact value_col m c t h r k
  have e4 : (fun k v => (st h : FVec Ideal S1x128x128 .f32) (ix3 0 v k)) = Hgrn.stateAt (z m c) (lb m c) h t.val := by funext k v; exact hs h k v
  rw [e1, e4]
  show Hgrn.chunkState (lb m c h) (fun r k => col (X0_1 m c t) h (ix2 r k)) (fun r k => col (X0_2 m c t) h (ix2 r k))
    (Hgrn.stateAt (z m c) (lb m c) h t.val) k v = _
  rw [e2, e3]; rfl

theorem before_holds : ∀ (n : ℕ) (hn : n < cfg0.N), Holds m c (before m c ⟨n, hn⟩) n
  | 0, hn => by
    unfold before
    rw [if_pos rfl]
    intro h k v
    exact starts_at m c ⟨0, hn⟩ h (ix3 0 v k)
  | n + 1, hn => by
    have hn' : n < cfg0.N := Nat.lt_of_succ_lt hn
    have e : before m c ⟨n + 1, hn⟩ = slabs (outsAt0 m c n hn').2.2 := by
      unfold before; rw [if_neg (Nat.succ_ne_zero n)]; rfl
    rw [e, outs_state m c ⟨n, hn'⟩]
    exact step_holds m c ⟨n, hn'⟩ _ (before_holds n hn')

/-- What a point writes back. -/
theorem out_point (t : Fin cfg0.N) (hb : ∀ h, Hgrn.Bounded (lb m c h)) (h : Fin 8) (r : Fin 64) (v : Fin 128) :
    ((outsAt0 m c t.val t.isLt).1 : FVec Ideal S64x1024 .bf16) ((colR h).emb (ix2 r v))
      = Hgrn.resultAt (z m c) (lb m c) (fun k => scale m c (ix2 0 k)) h t.val r v := by
  rw [outs_out]
  refine (congrFun rfl _).trans ((outBlock_emb _ _ _ _ _ _ _ h (ix2 r v)).trans ?_)
  have e1 : (fun k => lbOf (F := Ideal) (iblk m c 4 t) h (ix2 0 k)) = lb m c h := by
    funext k; rw [bounds_at]; exact lower_at _ _ _
  refine (out_at _ _ _ _ _ _ _ (by rw [e1]; exact hb h) r v).trans ?_
  have e2 : (fun r k => col (X0_1 m c t) h (ix2 r k)) = Hgrn.chunk (z m c) 6 t.val h := by funext r k; exact forget_col m c t h r k
  have e3 : (fun r k => col (X0_2 m c t) h (ix2 r k)) = Hgrn.chunk (z m c) 7 t.val h := by funext r k; exact value_col m c t h r k
  have e5 : (fun r k => col (X0_0 m c t) h (ix2 r k)) = Hgrn.chunk (z m c) 5 t.val h := by funext r k; exact query_col m c t h r k
  have e4 : (fun k v => (before m c t h : FVec Ideal S1x128x128 .f32) (ix3 0 v k)) = Hgrn.stateAt (z m c) (lb m c) h t.val := by
    funext k v; exact before_holds m c t.val t.isLt h k v
  have e6 : (fun k => (iblk m c 5 t : FVec Ideal S1x128 .f32) (ix2 0 k)) = fun k => scale m c (ix2 0 k) := by funext k; exact scale_at m c t k
  have e7 : Hgrn.chunkOut (lb m c h) (fun r k => col (X0_1 m c t) h (ix2 r k)) (fun r k => col (X0_0 m c t) h (ix2 r k))
      (fun r k => col (X0_2 m c t) h (ix2 r k)) (Hgrn.stateAt (z m c) (lb m c) h t.val) r = Hgrn.readAt (z m c) (lb m c) h t.val r := by
    rw [e2, e3, e5]; rfl
  unfold Hgrn.resultAt
  rw [e1, e4, e6]
  show Hgrn.gated _ (Hgrn.chunkOut (lb m c h) (fun r k => col (X0_1 m c t) h (ix2 r k)) (fun r k => col (X0_0 m c t) h (ix2 r k))
      (fun r k => col (X0_2 m c t) h (ix2 r k)) (Hgrn.stateAt (z m c) (lb m c) h t.val) r) (col (X0_3 m c t) h (ix2 r v)) v = _
  rw [e7, gate_col]

/-- The first result at row `64 n + r`, column `128 h + v`. -/
theorem result7 (hb : ∀ h, Hgrn.Bounded (lb m c h)) (n : Fin 128) (h : Fin 8) (r : Fin 64) (v : Fin 128) (i : S8192x1024.Idx)
    (h0 : (i 0).val = 64 * n.val + r.val) (h1 : (i 1).val = 128 * h.val + v.val) :
    (G7 m c : FVec Ideal S8192x1024 .bf16) i = Hgrn.resultAt (z m c) (lb m c) (fun k => scale m c (ix2 0 k)) h n.val r v := by
  have hp : pt7Of i = n.val := by
    show 1 * ((i 0).val / 64 - 0) + 1 * ((i 1).val / 1024 - 0) = _
    have := r.isLt; have := v.isLt; have := h.isLt; omega
  have hN : n.val < cfg0.N := lt_of_lt_of_eq n.isLt (show cfg0.N = 128 from N_0).symm
  have hl : loc7Of i = (colR h).emb (ix2 r v) := by
    funext a; apply Fin.ext
    match a with
    | ⟨0, _⟩ => show (i 0).val % 64 = 0 + 1 * r.val; have := r.isLt; omega
    | ⟨1, _⟩ => show (i 1).val % 1024 = 128 * h.val + 1 * v.val; have := v.isLt; have := h.isLt; omega
  refine Eq.trans ?_ (out_point m c ⟨n.val, hN⟩ hb h r v)
  unfold G7
  rw [dif_pos (by rw [hp]; exact hN), hl]
  refine congrFun (congrArg Prod.fst ?_) _
  rw [outsAt0_sweep]
  exact fold0_congr m c _ _ _ _ hp

/-- A head's block of the final state. -/
theorem end_value (t : Fin cfg0.N) (h1 : t.val = 127) (h : Fin 8) (k v : Fin 128) :
    ((outsAt0 m c t.val t.isLt).2.1 : FVec Ideal S1x8x128x128 .f32) (ix4 0 h k v) = Hgrn.stateAt (z m c) (lb m c) h (t.val + 1) k v := by
  have hi : (ix4 0 h k v : S1x8x128x128.Idx) = (blockR h).emb (ix4 0 0 k v) := by
    funext a; apply Fin.ext
    match a with
    | ⟨0, _⟩ => rfl
    | ⟨1, _⟩ => show h.val = h.val + 1 * 0; omega
    | ⟨2, _⟩ => show k.val = 0 + 1 * k.val; omega
    | ⟨3, _⟩ => show v.val = 0 + 1 * v.val; omega
  rw [outs_end m c t h1, hi]
  refine (endBlock_emb _ h _).trans ((end_at _ k v).trans ?_)
  rw [outs_state m c t]
  exact step_holds m c t _ (before_holds m c t.val t.isLt) h k v

theorem end_at_last (n : ℕ) (hn : n < cfg0.N) (h1 : n = 127) (h : Fin 8) (k v : Fin 128) :
    ((outsAt0 m c n hn).2.1 : FVec Ideal S1x8x128x128 .f32) (ix4 0 h k v) = Hgrn.stateAt (z m c) (lb m c) h (n + 1) k v :=
  end_value m c ⟨n, hn⟩ h1 h k v

/-- The second result. -/
theorem result8 (h : Fin 8) (k v : Fin 128) :
    (G8 m c : FVec Ideal S1x8x128x128 .f32) (ix4 0 h k v) = Hgrn.stateAt (z m c) (lb m c) h 128 k v := by
  rw [G8_last, ← outsAt0_sweep m c 127 (lt_of_lt_of_eq (by decide) N_0.symm)]
  exact end_at_last m c 127 _ rfl h k v

end Cert.HgrnPIdeal.Inputs
end
end
-- ==== Proof.WindowSum.lean ====
module
public import Idealize.ShloMosaic.Lib.Pointwise
@[expose] public section
set_option maxRecDepth 16384

/-! # A window sum that pads with zeros below, read as a running sum -/

noncomputable section
namespace Cert.Hgrn
open Idealize.ShloMosaic Idealize.ShloMosaic.Pointwise

/-- A left fold of additions over all positions is a sum. -/
theorem foldl_sum {n : ℕ} (f : Fin n → EReal) (v : EReal) :
    (List.finRange n).foldl (fun r i => r + f i) v = v + ∑ i, f i := by
  have e : ∀ (l : List (Fin n)) (v : EReal), l.foldl (fun r i => r + f i) v = v + (l.map f).sum := by
    intro l
    induction l with
    | nil => intro v; simp
    | cons a l ih => intro v; rw [List.foldl_cons, ih, List.map_cons, List.sum_cons, add_assoc]
  rw [e, Fin.sum_univ_def]

/-- The window sum as a sum over the window's positions. -/
theorem windowAdd_eq {s t u : Shape} {φ : FTy} (window strides lo hi : Fin s.rank → Nat) (x : FVec Ideal s φ) (init : u.Idx → Ideal φ)
    (h : s.ReduceWindows window strides lo hi t) (hu : 0 < u.numel) (j : t.Idx) :
    (Host.reduceWindowAdd window strides lo hi x init h hu j : EReal)
      = init (Shape.Idx.first hu) + ∑ w : (⟨s.rank, window⟩ : Shape).Idx,
          (if hin : ∀ a, lo a ≤ (j (a.cast h.1.symm)).val * strides a + (w a).val
              ∧ (j (a.cast h.1.symm)).val * strides a + (w a).val - lo a < s.size a
            then x (fun a => ⟨(j (a.cast h.1.symm)).val * strides a + (w a).val - lo a, (hin a).2⟩) else init (Shape.Idx.first hu) : EReal) := by
  refine (foldl_sum (n := (⟨s.rank, window⟩ : Shape).numel) _ _).trans (congrArg (init (Shape.Idx.first hu) + ·) ?_)
  refine (Finset.sum_congr rfl fun i _ => ?_).trans (Equiv.sum_comp (⟨s.rank, window⟩ : Shape).rowMajor.symm (fun w : (⟨s.rank, window⟩ : Shape).Idx => (if hin : ∀ a, lo a ≤ (j (a.cast h.1.symm)).val * strides a + (w a).val
              ∧ (j (a.cast h.1.symm)).val * strides a + (w a).val - lo a < s.size a
            then x (fun a => ⟨(j (a.cast h.1.symm)).val * strides a + (w a).val - lo a, (hin a).2⟩) else init (Shape.Idx.first hu) : EReal)))
  exact dite_congr rfl (fun _ => rfl) (fun _ => rfl)

/-- 64 terms of which the first `63 - t` are zero and the rest run through `g 0 … g t`. -/
theorem shifted_sum (g : ℕ → EReal) (t : ℕ) (ht : t < 64) :
    ∑ w : Fin 64, (if 63 ≤ t + w.val then g (t + w.val - 63) else 0) = ∑ i ∈ Finset.range (t + 1), g i := by
  rw [Fin.sum_univ_eq_sum_range (fun w => if 63 ≤ t + w then g (t + w - 63) else 0) 64,
    show 64 = (63 - t) + (t + 1) by omega, Finset.sum_range_add]
  rw [Finset.sum_eq_zero (fun w hw => if_neg (by have := Finset.mem_range.mp hw; omega)), zero_add]
  refine Finset.sum_congr rfl fun i _ => ?_
  rw [if_pos (by omega)]
  exact congrArg g (by omega)

/-- The positions of a window along the second of four axes, and of one along the first of two. -/
def along : Fin 64 ≃ (⟨4, ![1, 64, 1, 1]⟩ : Shape).Idx where
  toFun w := ix4 0 w 0 0
  invFun i := i 1
  left_inv _ := rfl
  right_inv i := by
    funext a; apply Fin.ext
    match a with
    | ⟨0, _⟩ => have := (i 0).isLt; exact (Nat.lt_one_iff.mp this).symm
    | ⟨1, _⟩ => rfl
    | ⟨2, _⟩ => have := (i 2).isLt; exact (Nat.lt_one_iff.mp this).symm
    | ⟨3, _⟩ => have := (i 3).isLt; exact (Nat.lt_one_iff.mp this).symm
def down : Fin 2 ≃ (⟨2, ![2, 1]⟩ : Shape).Idx where
  toFun w := ix2 w 0
  invFun i := i 0
  left_inv _ := rfl
  right_inv i := by
    funext a; apply Fin.ext
    match a with
    | ⟨0, _⟩ => rfl
    | ⟨1, _⟩ => have := (i 1).isLt; exact (Nat.lt_one_iff.mp this).symm

/-- The running sum over a chunk's 64 rows. -/
theorem cumsum_at {u : Shape} (x : FVec Ideal ⟨4, ![1, 64, 8, 128]⟩ .f32) (init : u.Idx → EReal)
    (h : (⟨4, ![1, 64, 8, 128]⟩ : Shape).ReduceWindows ![1, 64, 1, 1] ![1, 1, 1, 1] ![0, 63, 0, 0] ![0, 0, 0, 0] ⟨4, ![1, 64, 8, 128]⟩)
    (hu : 0 < u.numel) (h0 : ∀ i, init i = 0) (t : Fin 64) (a : Fin 8) (k : Fin 128) :
    (Host.reduceWindowAdd (φ := .f32) ![1, 64, 1, 1] ![1, 1, 1, 1] ![0, 63, 0, 0] ![0, 0, 0, 0] x init h hu (ix4 0 t a k) : EReal)
      = ∑ i ∈ Finset.range (t.val + 1), if hi : i < 64 then (x (ix4 0 ⟨i, hi⟩ a k) : EReal) else 0 := by
  refine (windowAdd_eq (φ := .f32) _ _ _ _ x init h hu _).trans ?_
  rw [h0, zero_add, ← shifted_sum _ t.val t.isLt]
  refine (Equiv.sum_comp along _).symm.trans (Finset.sum_congr rfl fun w _ => ?_)
  have ht := t.isLt
  have hw := w.isLt
  by_cases c : 63 ≤ t.val + w.val
  · have hi : t.val + w.val - 63 < 64 := by omega
    rw [if_pos c, dif_pos hi, dif_pos]
    · refine congrArg x (funext fun b => Fin.ext ?_)
      match b with
      | ⟨0, _⟩ => rfl
      | ⟨1, _⟩ => show t.val * 1 + w.val - 63 = t.val + w.val - 63; omega
      | ⟨2, _⟩ => show a.val * 1 + 0 - 0 = a.val; omega
      | ⟨3, _⟩ => show k.val * 1 + 0 - 0 = k.val; omega
    · intro b
      match b with
      | ⟨0, _⟩ => show 0 ≤ 0 * 1 + 0 ∧ 0 * 1 + 0 - 0 < 1; omega
      | ⟨1, _⟩ => show 63 ≤ t.val * 1 + w.val ∧ t.val * 1 + w.val - 63 < 64; omega
      | ⟨2, _⟩ => show 0 ≤ a.val * 1 + 0 ∧ a.val * 1 + 0 - 0 < 8; have := a.isLt; omega
      | ⟨3, _⟩ => show 0 ≤ k.val * 1 + 0 ∧ k.val * 1 + 0 - 0 < 128; have := k.isLt; omega
  · rw [if_neg c, dif_neg]
    intro hall
    have := (hall ⟨1, by decide⟩).1
    exact c (by simpa using (show 63 ≤ t.val * 1 + w.val from this))

/-- The first row of the running sum over two rows is the first row. -/
theorem first_row {u : Shape} (x : FVec Ideal ⟨2, ![2, 1024]⟩ .f32) (init : u.Idx → EReal)
    (h : (⟨2, ![2, 1024]⟩ : Shape).ReduceWindows ![2, 1] ![1, 1] ![1, 0] ![0, 0] ⟨2, ![2, 1024]⟩)
    (hu : 0 < u.numel) (h0 : ∀ i, init i = 0) (k : Fin 1024) :
    (Host.reduceWindowAdd (φ := .f32) ![2, 1] ![1, 1] ![1, 0] ![0, 0] x init h hu (ix2 0 k) : EReal) = x (ix2 0 k) := by
  refine (windowAdd_eq (φ := .f32) _ _ _ _ x init h hu _).trans ?_
  rw [h0, zero_add]
  refine (Equiv.sum_comp down _).symm.trans ?_
  rw [Fin.sum_univ_two, dif_neg, dif_pos, zero_add]
  · refine congrArg x (funext fun b => Fin.ext ?_)
    match b with
    | ⟨0, _⟩ => rfl
    | ⟨1, _⟩ => show k.val * 1 + 0 - 0 = k.val; omega
  · intro b
    match b with
    | ⟨0, _⟩ => show 1 ≤ 0 * 1 + 1 ∧ 0 * 1 + 1 - 1 < 2; omega
    | ⟨1, _⟩ => show 0 ≤ k.val * 1 + 0 ∧ k.val * 1 + 0 - 0 < 1024; have := k.isLt; omega
  · intro hall
    have e : 1 ≤ 0 * 1 + 0 := (hall (0 : Fin 2)).1
    omega

end Cert.Hgrn
end
end
-- ==== Proof.RefChunk.lean ====
module
public import proofs.«01_k».proof.Proof.Sequence
public import proofs.«01_k».proof.Proof.WindowSum
public import proofs.«01_k».proof.Proof.RefLoop
public import Idealize.ShloMosaic.Lib.WordCmp
@[expose] public section
set_option maxRecDepth 16384

/-! # One trip of the reference, at an index -/

noncomputable section
namespace Cert.RefPIdeal.Chunk
open Cert.RefPIdeal Cert.RefPIdeal.Gen
open Idealize.ShloMosaic Idealize.ShloMosaic.TcCoe Idealize.ShloMosaic.Tactic Idealize.ShloMosaic.Pointwise
open Step WordCmp

/-- The slice a trip takes out of an array of chunks. -/
def piece (x : FVec Ideal S128x1x64x8x128 .f32) (j : Fin 128) : FVec Ideal S1x64x8x128 .f32 :=
  fun i => x (ix5 j (i 0) (i 1) (i 2) (i 3))

theorem trip_word : ∀ j : Fin 128, (BitVec.ofNat 32 j.val).toInt = (j.val : ℤ) := by decide

theorem fits (j : Fin 128) : S128x1x64x8x128.Slices ![j.val, 0, 0, 0, 0] S1x1x64x8x128 := by
  refine ⟨rfl, fun a => ?_⟩
  match a with
  | ⟨0, _⟩ => show j.val + 1 ≤ 128; have := j.isLt; omega
  | ⟨1, _⟩ => show 0 + 1 ≤ 1; omega
  | ⟨2, _⟩ => show 0 + 64 ≤ 64; omega
  | ⟨3, _⟩ => show 0 + 8 ≤ 8; omega
  | ⟨4, _⟩ => show 0 + 128 ≤ 128; omega

/-- Where a trip's slices start. -/
abbrev starts (j : Fin 128) : Fin 5 → ℤ := fun k =>
  ((![constantI S_ 32 (BitVec.ofNat 32 j.val), constantI S_ 32 0#32, constantI S_ 32 0#32, constantI S_ 32 0#32, constantI S_ 32 0#32] :
    Fin 5 → IVec S_ 32) k (Shape.Idx.first h_S_)).toInt

theorem starts_eq (j : Fin 128) (a : Fin 5) : starts j a = ((![j.val, 0, 0, 0, 0] : Fin 5 → ℕ) a : ℤ) := by
  match a with
  | ⟨0, _⟩ => exact trip_word j
  | ⟨1, _⟩ => rfl
  | ⟨2, _⟩ => rfl
  | ⟨3, _⟩ => rfl
  | ⟨4, _⟩ => rfl

theorem slice_piece (x : FVec Ideal S128x1x64x8x128 .f32) (j : Fin 128) (h : S128x1x64x8x128.Slices (fun _ => 0) S1x1x64x8x128) :
    shapeCast S1x64x8x128 (Host.dynamicSlice S1x1x64x8x128 x (starts j) h) shapeCasts_S1x1x64x8x128_S1x64x8x128 = piece x j := by
  rw [dynamicSlice_eq_extract S1x1x64x8x128 x (starts j) h ![j.val, 0, 0, 0, 0] (fits j) (starts_eq j)]
  funext i
  obtain ⟨a, b, d, e, rfl⟩ : ∃ a b d e, i = ix4 a b d e := ⟨i 0, i 1, i 2, i 3, eq_ix4 i⟩
  obtain rfl : a = 0 := Subsingleton.elim _ _
  pointwise [piece]

variable (j : Fin 128) (s : State Ideal)
theorem q_piece : b5 j.val s = piece s.main_v54_0 j := slice_piece _ j _
theorem k_piece : b11 j.val s = piece s.main_v54_1 j := slice_piece _ j _
theorem i_piece : b17 j.val s = piece s.main_v54_2 j := slice_piece _ j _
theorem f_piece : b23 j.val s = piece s.main_v54_3 j := slice_piece _ j _

/-- The chunk's arrays hold the rows `q`, `x`, `i` of every head; `lb` is the gates' lower bound. -/
structure Reads (lb : Fin 8 → Fin 128 → EReal) (x q i : Fin 8 → Hgrn.Rows) : Prop where
  q : ∀ h t k, (b5 j.val s : FVec Ideal S1x64x8x128 .f32) (ix4 0 t h k) = q h t k
  k : ∀ h t k, (b11 j.val s : FVec Ideal S1x64x8x128 .f32) (ix4 0 t h k) = Hgrn.key (lb h) (x h) t k
  i : ∀ h t k, (b17 j.val s : FVec Ideal S1x64x8x128 .f32) (ix4 0 t h k) = i h t k
  f : ∀ h t k, (b23 j.val s : FVec Ideal S1x64x8x128 .f32) (ix4 0 t h k) = Ideal.log (Hgrn.gate (lb h k) (x h t k))

variable {j s} {lb : Fin 8 → Fin 128 → EReal} {x q i : Fin 8 → Hgrn.Rows}

theorem decay_at (r : Reads j s lb x q i) (t : Fin 64) (h : Fin 8) (k : Fin 128) :
    (b26 j.val s : FVec Ideal S1x64x8x128 .f32) (ix4 0 t h k) = Hgrn.decay (lb h) (x h) t k := by
  refine (Hgrn.cumsum_at _ _ _ _ (fun _ => Ideal.ofBits_zero .f32) t h k).trans ?_
  refine Finset.sum_congr rfl fun n _ => ?_
  unfold Hgrn.logGate
  split
  · exact r.f h _ k
  · rfl

/-- The state after a trip. -/
theorem new_at (r : Reads j s lb x q i) (h : Fin 8) (k v : Fin 128) :
    (b60 j.val s : FVec Ideal S1x8x128x128 .f32) (ix4 0 h k v)
      = Hgrn.chunkState (lb h) (x h) (i h) (fun k v => (s.main_v54_6 : FVec Ideal S1x8x128x128 .f32) (ix4 0 h k v)) k v := by
  have hc := decay_at r
  have hk := r.k
  have hi := r.i
  generalize ec : (b26 j.val s : FVec Ideal S1x64x8x128 .f32) = cum at hc
  generalize ek : (b11 j.val s : FVec Ideal S1x64x8x128 .f32) = kc at hk
  generalize ei : (b17 j.val s : FVec Ideal S1x64x8x128 .f32) = ic at hi
  unfold Hgrn.chunkState
  pointwise [b60, b53, b52, b51, b50, b49, b48, ec, b59, b58, b57, b56, b55, b54, ek, ei]
  simp only [hc, hk, hi]
  rw [mul_comm]
  exact congrArg _ (Finset.sum_congr rfl fun t _ => mul_comm _ _)

theorem sge_bit : ∀ a b : Fin 64, IntOp.cmpi CmpIPredicate.sge (IntOp.addi (BitVec.ofNat 32 a) 0#32) (BitVec.ofNat 32 b.val) = if b ≤ a then 1#1 else 0#1 := by
  decide +kernel
theorem floor_bot : Ideal.ofBits FTy.f32 0xFF800000#32 = ⊥ := by simp [Ideal.ofBits, Ideal.ieee]

/-- A trip's outputs. -/
theorem read_at (r : Reads j s lb x q i) (t : Fin 64) (h : Fin 8) (v : Fin 128) :
    (b61 j.val s : FVec Ideal S1x64x8x128 .f32) (ix4 0 t h v)
      = Hgrn.chunkOut (lb h) (x h) (q h) (i h) (fun k v => (s.main_v54_6 : FVec Ideal S1x8x128x128 .f32) (ix4 0 h k v)) t v := by
  have hc := decay_at r
  have hk := r.k
  have hi := r.i
  have hq := r.q
  generalize ec : (b26 j.val s : FVec Ideal S1x64x8x128 .f32) = cum at hc
  generalize ek : (b11 j.val s : FVec Ideal S1x64x8x128 .f32) = kc at hk
  generalize ei : (b17 j.val s : FVec Ideal S1x64x8x128 .f32) = ic at hi
  generalize eq : (b5 j.val s : FVec Ideal S1x64x8x128 .f32) = qc at hq
  unfold Hgrn.chunkOut
  pointwise [b61, b30, b29, b28, b27, b47, b46, b45, b44, b43, b42, b41, b40, b39, b38, b37, b36, b35, b34, b33, b32, b31, ec, ek, ei, eq, K_main_v44, K_main_v43, K_main_call1_v5, K_main_call1_c_0, K_main_call1_v4, K_main_call1_v3, K_main_call1_v2, K_main_call1_v1, K_main_call1_v0, K_main_call1_c, K_main_v42, K_main_c]
  simp only [hc, hk, hi, hq, sge_bit]
  refine congr (congrArg HAdd.hAdd (Finset.sum_congr rfl fun k _ => mul_comm _ _)) (Finset.sum_congr rfl fun n _ => ?_)
  by_cases c : n ≤ t
  · simp only [if_pos c]
    refine (mul_comm _ _).trans (congrArg (· * i h n v) (Finset.sum_congr rfl fun k _ => ?_))
    refine (mul_comm _ _).trans (congrArg (q h t k * ·) (mul_comm _ _))
  · simp only [if_neg c]
    refine (congrArg (i h n v * ·) (Finset.sum_eq_zero fun k _ => ?_)).trans (mul_zero _)
    show Ideal.exp (Ideal.ofBits FTy.f32 0xFF800000#32) * _ * _ = 0
    rw [floor_bot, Ideal.exp_bot, zero_mul, zero_mul]

/-- A block of one chunk put into the chunks' array. -/
theorem put_piece (x : FVec Ideal S128x1x64x8x128 .f32) (y : FVec Ideal S1x1x64x8x128 .f32) (j n : Fin 128) (t : Fin 64) (h : Fin 8) (v : Fin 128) :
    updateSlice x y ![j.val, 0, 0, 0, 0] (fits j) (ix5 n 0 t h v) = if n = j then y (ix5 0 0 t h v) else x (ix5 n 0 t h v) := by
  unfold updateSlice
  by_cases c : n = j
  · subst c
    rw [if_pos rfl, dif_pos]
    · refine congrArg y ?_
      funext a; apply Fin.ext
      match a with
      | ⟨0, _⟩ => show n.val - n.val = 0; omega
      | ⟨1, _⟩ => rfl
      | ⟨2, _⟩ => rfl
      | ⟨3, _⟩ => rfl
      | ⟨4, _⟩ => rfl
    · intro a
      match a with
      | ⟨0, _⟩ => show n.val ≤ n.val ∧ n.val < n.val + 1; omega
      | ⟨1, _⟩ => show 0 ≤ 0 ∧ 0 < 0 + 1; omega
      | ⟨2, _⟩ => show 0 ≤ t.val ∧ t.val < 0 + 64; have := t.isLt; omega
      | ⟨3, _⟩ => show 0 ≤ h.val ∧ h.val < 0 + 8; have := h.isLt; omega
      | ⟨4, _⟩ => show 0 ≤ v.val ∧ v.val < 0 + 128; have := v.isLt; omega
  · rw [if_neg c, dif_neg]
    intro hall
    have e0 : j.val ≤ n.val ∧ n.val < j.val + 1 := hall (0 : Fin 5)
    exact c (Fin.ext (by omega))

theorem dus_eq (x : FVec Ideal S128x1x64x8x128 .f32) (y : FVec Ideal S1x1x64x8x128 .f32) (j : Fin 128) (h : S128x1x64x8x128.Slices (fun _ => 0) S1x1x64x8x128) :
    Host.dynamicUpdateSlice x y (starts j) h = updateSlice x y ![j.val, 0, 0, 0, 0] (fits j) :=
  dynamicUpdateSlice_eq_update x y (starts j) h ![j.val, 0, 0, 0, 0] (fits j) (starts_eq j)

/-- The trip puts its outputs at its own chunk and keeps the others. -/
theorem put_at (j n : Fin 128) (s : State Ideal) (t : Fin 64) (h : Fin 8) (v : Fin 128) :
    (b67 j.val s : FVec Ideal S128x1x64x8x128 .f32) (ix5 n 0 t h v)
      = if n = j then (b61 j.val s : FVec Ideal S1x64x8x128 .f32) (ix4 0 t h v) else (s.main_v54_7 : FVec Ideal S128x1x64x8x128 .f32) (ix5 n 0 t h v) := by
  have eb : (b62 j.val s : FVec Ideal S1x1x64x8x128 .f32) (ix5 0 0 t h v) = (b61 j.val s : FVec Ideal S1x64x8x128 .f32) (ix4 0 t h v) := by
    unfold b62
    generalize (b61 j.val s : FVec Ideal S1x64x8x128 .f32) = o
    pointwise []
  unfold b67
  generalize (b62 j.val s : FVec Ideal S1x1x64x8x128 .f32) = y at eb
  rw [← eb]
  refine Eq.trans ?_ (put_piece s.main_v54_7 y j n t h v)
  exact congrFun (dus_eq s.main_v54_7 y j _) _

end Cert.RefPIdeal.Chunk
end
end
-- ==== Proof.RefValue.lean ====
module
public import proofs.«01_k».proof.Proof.RefChunk
@[expose] public section
set_option maxRecDepth 16384

/-! # The reference's two results -/

noncomputable section
namespace Cert.RefPIdeal.Chunk
open Cert.RefPIdeal Cert.RefPIdeal.Gen
open Idealize.ShloMosaic Idealize.ShloMosaic.TcCoe Idealize.ShloMosaic.Tactic Idealize.ShloMosaic.Pointwise
open Step

section Head
variable (z : FVec Ideal S8704x23040 .f32) (L : FVec Ideal S2x1024 .f32)

/-- An element of the projected array where its coordinates are such sums. -/
theorem chunk_cell (b : ℕ) (n : Fin 128) (t : Fin 64) (h : Fin 8) (k : Fin 128) (i : S8704x23040.Idx)
    (h0 : (i 0).val = n.val * 64 + t.val) (h1 : (i 1).val = 1024 * b + (h.val * 128 + k.val)) :
    z i = Hgrn.chunk z b n.val h t k := by
  unfold Hgrn.chunk
  have e0 : (i 0).val < 8704 := (i 0).isLt
  have e1 : (i 1).val < 23040 := (i 1).isLt
  rw [Hgrn.cell_eq z (r := 64 * n.val + t.val) (k := 1024 * b + 128 * h.val + k.val) (by omega) (by omega)]
  refine congrArg z (funext fun a => Fin.ext ?_)
  match a with
  | ⟨0, _⟩ => exact h0.trans (congrArg (· + t.val) (Nat.mul_comm _ _))
  | ⟨1, _⟩ => exact h1.trans (by show _ = 1024 * b + 128 * h.val + k.val; omega)

/-- The reference's lower bound of the gate. -/
theorem lower_at (h : Fin 8) (k : Fin 128) : (A_main_v14 (F := Ideal) z L : FVec Ideal S8x128 .f32) (ix2 h k) = Hgrn.lower L h k := by
  have e : ∀ q : Fin 1024, (A_main_v11 (F := Ideal) z L : FVec Ideal S2x1024 .f32) (ix2 0 q)
      = Ideal.div (Ideal.exp (L (ix2 0 q) - Hgrn.peak L q)) (∑ r : Fin 2, Ideal.exp (L (ix2 r q) - Hgrn.peak L q)) := by
    intro q
    refine (Hgrn.first_row _ _ _ _ (fun _ => Ideal.ofBits_zero .f32) q).trans ?_
    unfold Hgrn.peak
    pointwise [A_main_v10, A_main_v9, A_main_v8, A_main_v7, A_main_v6, A_main_v5, A_main_v4, A_main_v3, A_main_v2, A_main_v0, K_main_v1, K_main_cst, K_main_cst_0, K_main_cst_1]
    rw [floor_bot, max_eq_right bot_le]
  generalize ew : (A_main_v11 (F := Ideal) z L : FVec Ideal S2x1024 .f32) = w at e
  pointwise [A_main_v14, A_main_v13, A_main_v12, ew]
  refine (e _).trans ?_
  unfold Hgrn.lower
  have hq : (⟨h.val * 128 + k.val, by have := h.isLt; have := k.isLt; omega⟩ : Fin 1024)
      = ⟨128 * h.val + k.val, by have := h.isLt; have := k.isLt; omega⟩ := Fin.ext (congrArg (· + k.val) (Nat.mul_comm _ _))
  rw [hq]

theorem query_at (n : Fin 128) (t : Fin 64) (h : Fin 8) (k : Fin 128) :
    (A_main_v46 (F := Ideal) z L : FVec Ideal S128x1x64x8x128 .f32) (ix5 n 0 t h k) = Hgrn.chunk z 5 n.val h t k := by
  pointwise [A_main_v46, A_main_v45, A_main_v18, A_main_v17, A_main_v16]
  exact chunk_cell z 5 n t h k _ rfl rfl
theorem value_at (n : Fin 128) (t : Fin 64) (h : Fin 8) (k : Fin 128) :
    (A_main_v50 (F := Ideal) z L : FVec Ideal S128x1x64x8x128 .f32) (ix5 n 0 t h k) = Hgrn.chunk z 7 n.val h t k := by
  pointwise [A_main_v50, A_main_v49, A_main_v24, A_main_v23, A_main_v22]
  exact chunk_cell z 7 n t h k _ rfl rfl
theorem gate_log_at (n : Fin 128) (t : Fin 64) (h : Fin 8) (k : Fin 128) :
    (A_main_v52 (F := Ideal) z L : FVec Ideal S128x1x64x8x128 .f32) (ix5 n 0 t h k)
      = Ideal.log (Hgrn.gate (Hgrn.lower L h k) (Hgrn.chunk z 6 n.val h t k)) := by
  have hl := lower_at z L
  generalize el : (A_main_v14 (F := Ideal) z L : FVec Ideal S8x128 .f32) = lb at hl
  pointwise [A_main_v52, A_main_v51, A_main_v41, A_main_v38, A_main_v37, A_main_v36, el, A_main_v35, A_main_v34, A_main_v33, A_main_v26, K_main_v25, K_main_cst_3, A_main_v32, K_main_v31, K_main_cst_5, A_main_v30, K_main_v29, K_main_cst_4, A_main_v28, A_main_v27, A_main_v21, A_main_v20, A_main_v19]
  rw [hl, chunk_cell z 6 n t h k _ rfl rfl]
  rfl
theorem key_at (n : Fin 128) (t : Fin 64) (h : Fin 8) (k : Fin 128) :
    (A_main_v48 (F := Ideal) z L : FVec Ideal S128x1x64x8x128 .f32) (ix5 n 0 t h k)
      = Hgrn.key (Hgrn.lower L h) (Hgrn.chunk z 6 n.val h) t k := by
  have hl := lower_at z L
  generalize el : (A_main_v14 (F := Ideal) z L : FVec Ideal S8x128 .f32) = lb at hl
  pointwise [A_main_v48, A_main_v47, A_main_v40, K_main_v39, K_main_cst_6, A_main_v38, A_main_v37, A_main_v36, el, A_main_v35, A_main_v34, A_main_v33, A_main_v26, K_main_v25, K_main_cst_3, A_main_v32, K_main_v31, K_main_cst_5, A_main_v30, K_main_v29, K_main_cst_4, A_main_v28, A_main_v27, A_main_v21, A_main_v20, A_main_v19]
  rw [hl, chunk_cell z 6 n t h k _ rfl rfl]
  rfl
end Head

variable (m : (ℓ : Loc nD τ sig) → Buf (Elt Ideal) ℓ) (c : Dev nD)
/-- The call's three arguments. -/
abbrev z : Hgrn.Projected := m ((c.tc : Thread nD τ).loc main_arg0)
abbrev bounds : Hgrn.Bounds := m ((c.tc : Thread nD τ).loc main_arg1)
abbrev scale : FVec Ideal (⟨2, ![1, 128]⟩ : Shape) .f32 := m ((c.tc : Thread nD τ).loc main_arg2)
abbrev lb : Fin 8 → Fin 128 → EReal := Hgrn.lower (bounds m c)

/-- The chunks' arrays stay as they were. -/
theorem kept : ∀ n, (Loop.states m c n).main_v54_0 = A_main_v46 (z m c) (bounds m c) ∧ (Loop.states m c n).main_v54_1 = A_main_v48 (z m c) (bounds m c)
    ∧ (Loop.states m c n).main_v54_2 = A_main_v50 (z m c) (bounds m c) ∧ (Loop.states m c n).main_v54_3 = A_main_v52 (z m c) (bounds m c)
  | 0 => ⟨rfl, rfl, rfl, rfl⟩
  | n + 1 => kept n

theorem reads (n : Fin 128) : Reads n (Loop.states m c n.val) (lb m c) (Hgrn.chunk (z m c) 6 n.val) (Hgrn.chunk (z m c) 5 n.val) (Hgrn.chunk (z m c) 7 n.val) := by
  obtain ⟨e0, e1, e2, e3⟩ := kept m c n.val
  refine ⟨fun h t k => ?_, fun h t k => ?_, fun h t k => ?_, fun h t k => ?_⟩
  · rw [q_piece, e0]; exact query_at _ _ n t h k
  · rw [k_piece, e1]; exact key_at _ _ n t h k
  · rw [i_piece, e2]; exact value_at _ _ n t h k
  · rw [f_piece, e3]; exact gate_log_at _ _ n t h k

/-- The state before trip `n`. -/
theorem state_at (h : Fin 8) : ∀ n ≤ 128, (fun k v => ((Loop.states m c n).main_v54_6 : FVec Ideal S1x8x128x128 .f32) (ix4 0 h k v))
    = Hgrn.stateAt (z m c) (lb m c) h n
  | 0, _ => by
    funext k v
    exact Ideal.ofBits_zero .f32
  | n + 1, hn => by
    funext k v
    refine (new_at (reads m c ⟨n, hn⟩) h k v).trans ?_
    rw [state_at h n (Nat.le_of_succ_le hn)]
    rfl

/-- The outputs of the chunks done before trip `n`. -/
theorem output_at (b : Fin 128) (t : Fin 64) (h : Fin 8) (v : Fin 128) : ∀ n ≤ 128, b.val < n →
    ((Loop.states m c n).main_v54_7 : FVec Ideal S128x1x64x8x128 .f32) (ix5 b 0 t h v) = Hgrn.readAt (z m c) (lb m c) h b.val t v
  | 0, _, hb => absurd hb (Nat.not_lt_zero _)
  | n + 1, hn, hb => by
    refine (put_at ⟨n, hn⟩ b (Loop.states m c n) t h v).trans ?_
    by_cases e : b = ⟨n, hn⟩
    · rw [if_pos e]
      subst e
      refine (read_at (reads m c ⟨n, hn⟩) t h v).trans ?_
      rw [state_at m c h n (Nat.le_of_succ_le hn)]
      rfl
    · rw [if_neg e]
      exact output_at b t h v n (Nat.le_of_succ_le hn) (by
        have : b.val ≠ n := fun q => e (Fin.ext q)
        omega)

theorem result_of (s : State Ideal) (g : FVec Ideal S1x128 .f32) (zz : FVec Ideal S8704x23040 .f32) (n : Fin 128) (t : Fin 64) (h : Fin 8) (v : Fin 128)
    (i : S8192x1024.Idx) (h0 : (i 0).val = 64 * n.val + t.val) (h1 : (i 1).val = 128 * h.val + v.val) :
    (R_main_v77 s zz g : FVec Ideal S8192x1024 .bf16) i
      = Hgrn.gated (fun k => g (ix2 0 k)) (fun v => (s.main_v54_7 : FVec Ideal S128x1x64x8x128 .f32) (ix5 n 0 t h v)) (Hgrn.chunk zz 8 n.val h t v) v := by
  have l0 : 64 * n.val + t.val < 8192 := by have := n.isLt; have := t.isLt; omega
  have l1 : 128 * h.val + v.val < 1024 := by have := h.isLt; have := v.isLt; omega
  have hi : i = ix2 ⟨64 * n.val + t.val, l0⟩ ⟨128 * h.val + v.val, l1⟩ := by
    funext a; apply Fin.ext
    match a with
    | ⟨0, _⟩ => exact h0
    | ⟨1, _⟩ => exact h1
  rw [hi]
  unfold Hgrn.gated
  pointwise [R_main_v77]
  rw [chunk_cell zz 8 n t h v _ (congrArg (· + t.val) (Nat.mul_comm 64 n.val)) rfl]
  rfl

/-- The first result at row `64 n + t`, column `128 h + v`. -/
theorem result7 (n : Fin 128) (t : Fin 64) (h : Fin 8) (v : Fin 128) (i : S8192x1024.Idx)
    (h0 : (i 0).val = 64 * n.val + t.val) (h1 : (i 1).val = 128 * h.val + v.val) :
    (R_main_v77 (Loop.states m c 128) (z m c) (scale m c) : FVec Ideal S8192x1024 .bf16) i
      = Hgrn.resultAt (z m c) (lb m c) (fun k => scale m c (ix2 0 k)) h n.val t v := by
  refine (result_of _ _ _ n t h v i h0 h1).trans ?_
  unfold Hgrn.resultAt
  have e : (fun v => ((Loop.states m c 128).main_v54_7 : FVec Ideal S128x1x64x8x128 .f32) (ix5 n 0 t h v)) = Hgrn.readAt (z m c) (lb m c) h n.val t := by
    funext v; exact output_at m c n t h v 128 le_rfl n.isLt
  rw [e]

/-- The second result. -/
theorem result8 (h : Fin 8) (k v : Fin 128) : ((Loop.states m c 128).main_v54_6 : FVec Ideal S1x8x128x128 .f32) (ix4 0 h k v)
    = Hgrn.stateAt (z m c) (lb m c) h 128 k v :=
  congrFun (congrFun (state_at m c h 128 le_rfl) k) v

end Cert.RefPIdeal.Chunk
end
end
-- ==== Proof.LowerBound.lean ====
module
public import proofs.«01_k».proof.Proof.Decay
public import proofs.«01_k».proof.Proof.Sequence
public import proofs.«01_k».proof.Pre_decay_bounded
public import Idealize.ShloMosaic.Lib.ReduceAll
public import Idealize.ShloMosaic.Lib.Pointwise
@[expose] public section
set_option maxRecDepth 16384

/-! # What the precondition gives

Both rows of the gate's logits lie within 2.375 of zero, so their difference is at most 4.75 and the softmax of the
two is at least `exp (-5)`. -/

noncomputable section
namespace Cert.Hgrn
open Idealize.ShloMosaic Idealize.ShloMosaic.Pointwise

theorem limit : Ideal.ofBits .f32 1075314688#32 = ((2.375 : ℝ) : EReal) := by
  simp [Ideal.ofBits, Ideal.ieee, -EReal.coe_mul]; norm_num

/-- An extended real within a real distance of zero is real. -/
theorem real_of_abs (x : EReal) (b : ℝ) (h : max x (-x) ≤ (b : EReal)) : ∃ r : ℝ, x = (r : EReal) ∧ -b ≤ r ∧ r ≤ b := by
  obtain ⟨h1, h2⟩ := max_le_iff.mp h
  induction x using EReal.rec with
  | bot =>
    rw [EReal.neg_bot] at h2
    exact absurd (le_antisymm h2 le_top).symm (EReal.coe_ne_top b).symm.symm
  | top => exact absurd (le_antisymm h1 le_top).symm (EReal.coe_ne_top b).symm.symm
  | coe r =>
    rw [← EReal.coe_neg] at h2
    have a1 : r ≤ b := by exact_mod_cast h1
    have a2 : -r ≤ b := by exact_mod_cast h2
    exact ⟨r, rfl, by linarith, a1⟩

/-- The precondition says so of every logit. -/
theorem logits_real [Cert.Pre_decay_bounded.Facts] (z : Projected) (L : Bounds) (g : FVec Ideal (⟨2, ![1, 128]⟩ : Shape) .f32)
    (h : Cert.Pre_decay_bounded.fn (F := Ideal) z L g = fun _ => 1#1) (i : (⟨2, ![2, 1024]⟩ : Shape).Idx) :
    ∃ r : ℝ, L i = (r : EReal) ∧ -2.375 ≤ r ∧ r ≤ 2.375 := by
  have hs : Subsingleton (Cert.Pre_decay_bounded.S_).Idx := ⟨fun a b => funext fun k => k.elim0⟩
  have e := Host.reduce_andi_all _ _ _ _ (Shape.Idx.first Cert.Pre_decay_bounded.Facts.h_S_) (congrFun h _) i
  have e2 : BitVec.ofBool (decide (max (L i) (-L i) ≤ Ideal.ofBits .f32 1075314688#32)) = 1#1 := e
  have e3 : max (L i) (-L i) ≤ Ideal.ofBits .f32 1075314688#32 := by
    by_contra hc
    rw [decide_eq_false hc] at e2
    exact absurd e2 (by decide)
  rw [limit] at e3
  exact real_of_abs _ _ e3

/-- So the gates' lower bounds are real numbers between `exp (-5)` and one. -/
theorem bounded_of [Cert.Pre_decay_bounded.Facts] (z : Projected) (L : Bounds) (g : FVec Ideal (⟨2, ![1, 128]⟩ : Shape) .f32)
    (h : Cert.Pre_decay_bounded.fn (F := Ideal) z L g = fun _ => 1#1) (n : Fin 8) : Bounded (lower L n) := by
  intro k
  unfold lower
  generalize hc : (⟨128 * n.val + k.val, _⟩ : Fin 1024) = c
  obtain ⟨a, ha, ha0, ha1⟩ := logits_real z L g h (ix2 0 c)
  obtain ⟨b, hb, hb0, hb1⟩ := logits_real z L g h (ix2 1 c)
  have hm : peak L c = ((max a b : ℝ) : EReal) := by
    unfold peak
    have hu : (Finset.univ : Finset (Fin 2)) = {0, 1} := rfl
    have hbot : Ideal.ofBits FTy.f32 0xFF800000#32 = ⊥ := by simp [Ideal.ofBits, Ideal.ieee]
    rw [hu, Finset.fold_insert (by decide), Finset.fold_singleton, ha, hb, hbot, max_eq_left (bot_le : ⊥ ≤ (b : EReal))]
    exact (EReal.coe_strictMono.monotone.map_max).symm
  generalize max a b = m at hm
  have hp : 0 < Real.exp (a - m) + Real.exp (b - m) := by positivity
  refine ⟨Real.exp (a - m) / (Real.exp (a - m) + Real.exp (b - m)), ?_, softmax_bound a b (by linarith) m⟩
  show Ideal.div (Ideal.exp (L (ix2 0 c) - peak L c)) (∑ r : Fin 2, Ideal.exp (L (ix2 r c) - peak L c)) = _
  rw [Fin.sum_univ_two, hm, ha, hb, ← EReal.coe_sub, ← EReal.coe_sub, exp_coe, exp_coe, ← EReal.coe_add, div_coe _ _ hp.ne']

end Cert.Hgrn
end
end
-- ==== Proof.Equal.lean ====
module
public import proofs.«01_k».proof.Proof.KernelValue
public import proofs.«01_k».proof.Proof.RefValue
public import proofs.«01_k».proof.Proof.LowerBound
@[expose] public section
set_option maxRecDepth 16384

/-! # The recurrence's kernel and its reference give the same two results -/

noncomputable section
namespace Cert.Hgrn
open Idealize.ShloMosaic Idealize.ShloMosaic.TcCoe Idealize.ShloMosaic.Pointwise
open Cert.RefPIdeal.Gen

variable (m : (ℓ : Loc Cert.HgrnPIdeal.nD Cert.HgrnPIdeal.τ Cert.HgrnPIdeal.sig) → Buf (Elt Ideal) ℓ)
  (m' : (ℓ : Loc Cert.RefPIdeal.nD Cert.RefPIdeal.τ Cert.RefPIdeal.sig) → Buf (Elt Ideal) ℓ) (c : Dev Cert.HgrnPIdeal.nD)
  (ez : Cert.RefPIdeal.Chunk.z m' c = Cert.HgrnPIdeal.Inputs.z m c)
  (eL : Cert.RefPIdeal.Chunk.bounds m' c = Cert.HgrnPIdeal.Inputs.bounds m c)
  (eg : Cert.RefPIdeal.Chunk.scale m' c = Cert.HgrnPIdeal.Inputs.scale m c)

include ez eL eg in
theorem equal7 (hb : ∀ h, Bounded (lower (Cert.HgrnPIdeal.Inputs.bounds m c) h)) :
    (Cert.RefPIdeal.Step.R_main_v77 (Cert.RefPIdeal.Loop.states m' c 128) (Cert.RefPIdeal.Chunk.z m' c) (Cert.RefPIdeal.Chunk.scale m' c)
      : FVec Ideal (⟨2, ![8192, 1024]⟩ : Shape) .bf16) = Cert.HgrnPIdeal.Value.G7 m c := by
  funext i
  have l0 : (i 0).val < 8192 := (i 0).isLt
  have l1 : (i 1).val < 1024 := (i 1).isLt
  have d0 : (i 0).val = 64 * ((i 0).val / 64) + (i 0).val % 64 := (Nat.div_add_mod _ _).symm
  have d1 : (i 1).val = 128 * ((i 1).val / 128) + (i 1).val % 128 := (Nat.div_add_mod _ _).symm
  have r0 : (i 0).val / 64 < 128 := by omega
  have r1 : (i 0).val % 64 < 64 := by omega
  have r2 : (i 1).val / 128 < 8 := by omega
  have r3 : (i 1).val % 128 < 128 := by omega
  have a := Cert.RefPIdeal.Chunk.result7 m' c ⟨(i 0).val / 64, r0⟩ ⟨(i 0).val % 64, r1⟩ ⟨(i 1).val / 128, r2⟩ ⟨(i 1).val % 128, r3⟩ i d0 d1
  have b := Cert.HgrnPIdeal.Inputs.result7 m c hb ⟨(i 0).val / 64, r0⟩ ⟨(i 1).val / 128, r2⟩ ⟨(i 0).val % 64, r1⟩ ⟨(i 1).val % 128, r3⟩ i d0 d1
  refine a.trans (Eq.trans ?_ b.symm)
  unfold Cert.RefPIdeal.Chunk.lb
  rw [ez, eL, eg]

include ez eL in
theorem equal8 : ((Cert.RefPIdeal.Loop.states m' c 128).main_v54_6 : FVec Ideal (⟨4, ![1, 8, 128, 128]⟩ : Shape) .f32) = Cert.HgrnPIdeal.Value.G8 m c := by
  funext i
  obtain ⟨p, h, k, v, rfl⟩ : ∃ p h k v, i = ix4 p h k v := ⟨i 0, i 1, i 2, i 3, eq_ix4 i⟩
  obtain rfl : p = 0 := Subsingleton.elim _ _
  refine (Cert.RefPIdeal.Chunk.result8 m' c h k v).trans (Eq.trans ?_ (Cert.HgrnPIdeal.Inputs.result8 m c h k v).symm)
  unfold Cert.RefPIdeal.Chunk.lb
  rw [ez, eL]

end Cert.Hgrn
end
end
-- ==== Proof.MemKvValue.lean ====
module
public import proofs.«01_k».proof.Proof.Gen.MemKvIdeal.Value
public import proofs.«01_k».proof.Proof.Gen.RefMemKvIdeal.Run
public import Idealize.ShloMosaic.Lib.Pointwise
@[expose] public section
set_option maxRecDepth 16384

/-! # The memory's keys and values: the tiled product and the plain one -/

noncomputable section
namespace Cert.MemKvIdeal.Product
open Cert.MemKvIdeal Cert.MemKvIdeal.Gen
open Idealize.ShloMosaic Idealize.ShloMosaic.TcCoe Idealize.ShloMosaic.Tactic Idealize.ShloMosaic.Pointwise
open Idealize.ShloMosaic.Pipeline (Dat)

variable (m : (ℓ : Loc nD τ sig) → Buf (Elt Ideal) ℓ) (c : Dev nD)

/-- The call's two arguments. -/
def memory : FVec Ideal S1x256x4096 .f32 := m ((c : Thread nD τ).loc main_arg0)
def weight : FVec Ideal S1x4096x2048 .f32 := m ((c : Thread nD τ).loc main_arg1)

/-- The product, entry by entry. -/
def product (x : FVec Ideal S1x256x4096 .f32) (w : FVec Ideal S1x4096x2048 .f32) : FVec Ideal S256x2048 .f32 :=
  fun i => (∑ k : Fin 4096, (x (ix3 0 (i 0) k) * w (ix3 0 k (i 1)) : EReal) : EReal)

theorem tile_at (x : FVec Ideal S256x4096 .bf16) (w : FVec Ideal S4096x512 .bf16) (r : Fin 256) (s : Fin 512) :
    (k0_pay1 (F := Ideal) x w (ix2 r s) : EReal) = ∑ k : Fin 4096, x (ix2 r k) * w (ix2 k s) := by
  pointwise [k0_pay1]

theorem rows_entry (r : Fin 256) (k : Fin 4096) : (V m c main_v1 : FVec Ideal S256x4096 .bf16) (ix2 r k) = memory m c (ix3 0 r k) := by
  have e : (V m c main_v1 : FVec Ideal S256x4096 .bf16) = truncf .bf16 (shapeCast S256x4096 (memory m c) shapeCasts_S1x256x4096_S256x4096) bitsLt_bf16_f32 := by
    unfold_abbrev_sides
    after_results
    rfl
  rw [e]
  pointwise []
theorem cols_entry (k : Fin 4096) (s : Fin 2048) : (V m c main_v3 : FVec Ideal S4096x2048 .bf16) (ix2 k s) = weight m c (ix3 0 k s) := by
  have e : (V m c main_v3 : FVec Ideal S4096x2048 .bf16) = truncf .bf16 (shapeCast S4096x2048 (weight m c) shapeCasts_S1x4096x2048_S4096x2048) bitsLt_bf16_f32 := by
    unfold_abbrev_sides
    after_results
    rfl
  rw [e]
  pointwise []

theorem place0 : ∀ t : Fin cfg0.N, win0_0.index t (0 : Fin 2) = 0 ∧ win0_0.index t (1 : Fin 2) = 0 :=
  (by decide +kernel : ∀ t : Fin grid0.N, _)
theorem place1 : ∀ t : Fin cfg0.N, win0_1.index t (0 : Fin 2) = 0 ∧ win0_1.index t (1 : Fin 2) = t.val :=
  (by decide +kernel : ∀ t : Fin grid0.N, _)
theorem place2 : ∀ t : Fin cfg0.N, win0_2.index t (0 : Fin 2) = 0 ∧ win0_2.index t (1 : Fin 2) = t.val :=
  (by decide +kernel : ∀ t : Fin grid0.N, _)

theorem rows_at (t : Fin cfg0.N) (r : Fin 256) (k : Fin 4096) (r' : Fin 256) (h : r'.val = r.val) :
    (iblk m c 0 t : FVec Ideal S256x4096 .bf16) (ix2 r k) = memory m c (ix3 0 r' k) := by
  obtain ⟨e0, e1⟩ := place0 t
  refine Eq.trans (congrArg (V m c main_v1 : FVec Ideal S256x4096 .bf16) (funext fun a => Fin.ext ?_)) (rows_entry m c r' k)
  refine (Pipeline.Window.rect_emb_val win0_0 t (ix2 r k) a).trans ?_
  match a with
  | ⟨0, _⟩ => show win0_0.index t (0 : Fin 2) * 256 + r.val = r'.val; rw [e0]; omega
  | ⟨1, _⟩ => show win0_0.index t (1 : Fin 2) * 4096 + k.val = k.val; rw [e1]; omega
theorem cols_at (t : Fin cfg0.N) (k : Fin 4096) (s : Fin 512) (s' : Fin 2048) (h : s'.val = t.val * 512 + s.val) :
    (iblk m c 1 t : FVec Ideal S4096x512 .bf16) (ix2 k s) = weight m c (ix3 0 k s') := by
  obtain ⟨e0, e1⟩ := place1 t
  refine Eq.trans (congrArg (V m c main_v3 : FVec Ideal S4096x2048 .bf16) (funext fun a => Fin.ext ?_)) (cols_entry m c k s')
  refine (Pipeline.Window.rect_emb_val win0_1 t (ix2 k s) a).trans ?_
  match a with
  | ⟨0, _⟩ => show win0_1.index t (0 : Fin 2) * 4096 + k.val = k.val; rw [e0]; omega
  | ⟨1, _⟩ => show win0_1.index t (1 : Fin 2) * 512 + s.val = s'.val; rw [e1]; omega

theorem point (t : Fin cfg0.N) (r R : Fin 256) (s : Fin 512) (S : Fin 2048) (hR : R.val = r.val) (hS : S.val = t.val * 512 + s.val) :
    (k0_pay1 (F := Ideal) (iblk m c 0 t) (iblk m c 1 t) (ix2 r s) : EReal) = ∑ k : Fin 4096, memory m c (ix3 0 R k) * weight m c (ix3 0 k S) := by
  rw [tile_at]
  refine Finset.sum_congr rfl fun k _ => ?_
  rw [rows_at m c t r k R hR, cols_at m c t k s S hS]

/-- What a point writes back is its block of the product. -/
theorem written (t : Fin cfg0.N) : (dats m 0 c).flushed 2 t = ((cfg0.win 2).blk t).view.read (Elt Ideal) (product (memory m c) (weight m c)) := by
  obtain ⟨e0, e1⟩ := place2 t
  rw [Value.flushed2]
  funext y
  have e : out0_2 (F := Ideal) (iblk m c 0 t) (iblk m c 1 t) = k0_pay1 (iblk m c 0 t) (iblk m c 1 t) := by
    unfold out0_2
    rw [View.canon_unit_zero (by decide), View.ld_unit_zero (by decide), View.ld_unit_zero (by decide)]
  rw [e]
  obtain ⟨r, s, rfl⟩ : ∃ (r : Fin 256) (s : Fin 512), y = ix2 r s := ⟨y 0, y 1, eq_ix2 y⟩
  show (k0_pay1 (F := Ideal) (iblk m c 0 t) (iblk m c 1 t) (ix2 r s) : EReal) = product (memory m c) (weight m c) (((cfg0.win 2).blk t).view.emb (ix2 r s))
  refine point m c t r _ s _ ?_ ?_
  · refine (Pipeline.Window.rect_emb_val win0_2 t (ix2 r s) (0 : Fin 2)).trans ?_
    show win0_2.index t (0 : Fin 2) * 256 + r.val = r.val; rw [e0]; omega
  · refine (Pipeline.Window.rect_emb_val win0_2 t (ix2 r s) (1 : Fin 2)).trans ?_
    show win0_2.index t (1 : Fin 2) * 512 + s.val = t.val * 512 + s.val; rw [e1]

theorem covered (i : S256x2048.Idx) : ∃ t : Fin cfg0.N, (cfg0.win 2).flush t = true ∧ i ∈ ((cfg0.win 2).blk t).view.set := by
  have h0 : (i 0).val < 256 := (i 0).isLt
  have h1 : (i 1).val < 2048 := (i 1).isLt
  have hN : (i 1).val / 512 < cfg0.N := lt_of_lt_of_eq (by omega) (N_0.symm)
  obtain ⟨e0, e1⟩ := place2 ⟨(i 1).val / 512, hN⟩
  refine ⟨⟨(i 1).val / 512, hN⟩, flush0_2 _, ?_⟩
  have e : ((cfg0.win 2).blk ⟨(i 1).val / 512, hN⟩).view.emb (ix2 ⟨(i 0).val, h0⟩ ⟨(i 1).val % 512, by omega⟩ : S256x512.Idx) = i := by
    funext a
    refine Fin.ext ((Pipeline.Window.rect_emb_val win0_2 _ _ a).trans ?_)
    match a with
    | ⟨0, _⟩ => show win0_2.index _ (0 : Fin 2) * 256 + (i 0).val = (i 0).val; rw [e0]; omega
    | ⟨1, _⟩ => show win0_2.index _ (1 : Fin 2) * 512 + (i 1).val % 512 = (i 1).val; rw [e1]; dsimp only; omega
  have hm := View.emb_mem_set ((cfg0.win 2).blk ⟨(i 1).val / 512, hN⟩).view (ix2 ⟨(i 0).val, h0⟩ ⟨(i 1).val % 512, by omega⟩ : S256x512.Idx)
  rwa [e] at hm

/-- The kernel's array is the product. -/
theorem final : (dats m 0 c).arrAt 2 cfg0.N = product (memory m c) (weight m c) :=
  (dats m 0 c).arrAt_eq_of_cover 2 _ (fun t _ => written m c t) covered

/-- And so is the reference's. -/
theorem plain (x : FVec Ideal S1x256x4096 .f32) (w : FVec Ideal S1x4096x2048 .f32) :
    (shapeCast _ (Host.dotGeneral Cert.RefMemKvIdeal.dot_S1x256x4096_S4096x2048_S1x256x2048_2_0_01_1_n_n none x
      (shapeCast _ w Cert.RefMemKvIdeal.Facts₀.shapeCasts_S1x4096x2048_S4096x2048)) Cert.RefMemKvIdeal.Facts₀.shapeCasts_S1x256x2048_S256x2048 : FVec Ideal S256x2048 .f32) = product x w := by
  funext i
  obtain ⟨r, s, rfl⟩ : ∃ (r : Fin 256) (s : Fin 2048), i = ix2 r s := ⟨i 0, i 1, eq_ix2 i⟩
  unfold product
  pointwise []

end Cert.MemKvIdeal.Product
end
end
-- ==== Proof.ProjInValue.lean ====
module
public import proofs.«01_k».proof.Proof.Gen.ProjInIdeal.Value
public import proofs.«01_k».proof.Proof.Gen.RefProjInIdeal.Run
public import Idealize.ShloMosaic.Lib.Pointwise
@[expose] public section
set_option maxRecDepth 16384

/-! # The input projection: the tiled product over the padded rows, and the plain products -/

noncomputable section
namespace Cert.ProjInIdeal.Product
open Cert.ProjInIdeal Cert.ProjInIdeal.Gen
open Idealize.ShloMosaic Idealize.ShloMosaic.TcCoe Idealize.ShloMosaic.Tactic Idealize.ShloMosaic.Pointwise
open Idealize.ShloMosaic.Pipeline (Dat)

variable (m : (ℓ : Loc nD τ sig) → Buf (Elt Ideal) ℓ) (c : Dev nD)

/-- The call's arguments. -/
def prompt : FVec Ideal S1x8192x4096 .f32 := m ((c : Thread nD τ).loc main_arg0)
def sample : FVec Ideal S32x4x4096 .f32 := m ((c : Thread nD τ).loc main_arg1)
def weight : FVec Ideal S23040x4096 .bf16 := m ((c : Thread nD τ).loc main_arg2)
def tableU : FVec Ideal S1x16384x4096 .f32 := m ((c : Thread nD τ).loc main_arg3)
def tableV : FVec Ideal S1x16384x4096 .f32 := m ((c : Thread nD τ).loc main_arg4)

/-- Row `r` of the tokens: the prompt's, then the samples', then zeros. -/
def token (x : FVec Ideal S1x8192x4096 .f32) (y : FVec Ideal S32x4x4096 .f32) (r : Fin 8704) (k : Fin 4096) : EReal :=
  if h : r.val < 8192 then x (ix3 0 ⟨r.val, h⟩ k)
  else if h' : r.val < 8320 then y (ix3 ⟨(r.val - 8192) / 4, by omega⟩ ⟨(r.val - 8192) % 4, by omega⟩ k) else 0

/-- The projection, entry by entry. -/
def product (x : FVec Ideal S1x8192x4096 .f32) (y : FVec Ideal S32x4x4096 .f32) (w : FVec Ideal S23040x4096 .bf16) : FVec Ideal S8704x23040 .f32 :=
  fun i => (∑ k : Fin 4096, (token x y (i 0) k * w (ix2 (i 1) k) : EReal) : EReal)
/-- A table without its leading axis. -/
def table (u : FVec Ideal S1x16384x4096 .f32) : FVec Ideal S16384x4096 .bf16 := fun i => u (ix3 0 (i 0) (i 1))

theorem tile_at (x : FVec Ideal S512x4096 .bf16) (w : FVec Ideal S1536x4096 .bf16) (r : Fin 512) (s : Fin 1536) :
    (k0_pay1 (F := Ideal) x w (ix2 r s) : EReal) = ∑ k : Fin 4096, x (ix2 r k) * w (ix2 s k) := by
  pointwise [k0_pay1]
theorem cast2_at (u : FVec Ideal S128x4096 .f32) (r : Fin 128) (k : Fin 4096) : k0_pay2 (F := Ideal) u (ix2 r k) = (u (ix2 r k) : EReal) := by
  pointwise [k0_pay2]
theorem cast3_at (u : FVec Ideal S128x4096 .f32) (r : Fin 128) (k : Fin 4096) : k0_pay3 (F := Ideal) u (ix2 r k) = (u (ix2 r k) : EReal) := by
  pointwise [k0_pay3]

theorem zero_of_int : (FloatOps.sitofp .bf16 (0#32 : BitVec 32) : Ideal .bf16) = (0 : EReal) := by
  show (((0#32 : BitVec 32).toInt : ℝ) : EReal) = 0
  simp

/-- The host's padded rows. -/
theorem rows_entry (r : Fin 8704) (k : Fin 4096) : (V m c main_v5 : FVec Ideal S8704x4096 .bf16) (ix2 r k) = token (prompt m c) (sample m c) r k := by
  have e : (V m c main_v5 : FVec Ideal S8704x4096 .bf16)
      = pad S8704x4096 ![0, 0] ![384, 0] ![0, 0] (concatenate S8320x4096 0
          [⟨S8192x4096, (truncf .bf16 (shapeCast S8192x4096 (prompt m c) shapeCasts_S1x8192x4096_S8192x4096) bitsLt_bf16_f32 : FVec Ideal S8192x4096 .bf16)⟩,
           ⟨S128x4096, (truncf .bf16 (shapeCast S128x4096 (sample m c) shapeCasts_S32x4x4096_S128x4096) bitsLt_bf16_f32 : FVec Ideal S128x4096 .bf16)⟩]
          concatenates_S8192x4096_S128x4096_S8320x4096_d0 : FVec Ideal S8320x4096 .bf16) (sitofp .bf16 (constantI S_ 32 0#32) : FVec Ideal S_ .bf16)
          pads_S8320x4096_S8704x4096_03840_000 h_S_ := by
    simp only [V, hostOps0, hostOps0_1, hostOps0_2, List.flatten_cons, List.flatten_nil, List.append_nil, List.cons_append, List.nil_append]
    after_results
    rfl
  rw [e]
  unfold token
  pointwise []
  have hr := r.isLt
  by_cases h : r.val < 8192
  · rw [dif_pos (show r.val < 8320 by omega), dif_pos h, dif_pos h]
  · rw [dif_neg h]
    by_cases h' : r.val < 8320
    · rw [dif_pos h', dif_neg h, dif_pos h']
    · rw [dif_neg h', dif_neg h']
      exact zero_of_int

theorem tableU_entry (r : Fin 16384) (k : Fin 4096) : (V m c main_v6 : FVec Ideal S16384x4096 .f32) (ix2 r k) = tableU m c (ix3 0 r k) := by
  have e : (V m c main_v6 : FVec Ideal S16384x4096 .f32) = shapeCast S16384x4096 (tableU m c) shapeCasts_S1x16384x4096_S16384x4096 := by
    simp only [V, hostOps0, hostOps0_1, hostOps0_2, List.flatten_cons, List.flatten_nil, List.append_nil, List.cons_append, List.nil_append]
    after_results
    rfl
  rw [e]
  pointwise []
theorem tableV_entry (r : Fin 16384) (k : Fin 4096) : (V m c main_v7 : FVec Ideal S16384x4096 .f32) (ix2 r k) = tableV m c (ix3 0 r k) := by
  have e : (V m c main_v7 : FVec Ideal S16384x4096 .f32) = shapeCast S16384x4096 (tableV m c) shapeCasts_S1x16384x4096_S16384x4096 := by
    simp only [V, hostOps0, hostOps0_1, hostOps0_2, List.flatten_cons, List.flatten_nil, List.append_nil, List.cons_append, List.nil_append]
    after_results
    rfl
  rw [e]
  pointwise []

theorem place0 : ∀ t : Fin cfg0.N, win0_0.index t (0 : Fin 2) = t.val % 17 ∧ win0_0.index t (1 : Fin 2) = 0 :=
  (by decide +kernel : ∀ t : Fin grid0.N, _)
theorem place1 : ∀ t : Fin cfg0.N, win0_1.index t (0 : Fin 2) = t.val / 17 ∧ win0_1.index t (1 : Fin 2) = 0 :=
  (by decide +kernel : ∀ t : Fin grid0.N, _)
theorem place2 : ∀ t : Fin cfg0.N, win0_2.index t (0 : Fin 2) = min t.val 127 ∧ win0_2.index t (1 : Fin 2) = 0 :=
  (by decide +kernel : ∀ t : Fin grid0.N, _)
theorem place3 : ∀ t : Fin cfg0.N, win0_3.index t (0 : Fin 2) = min t.val 127 ∧ win0_3.index t (1 : Fin 2) = 0 :=
  (by decide +kernel : ∀ t : Fin grid0.N, _)
theorem place4 : ∀ t : Fin cfg0.N, win0_4.index t (0 : Fin 2) = t.val % 17 ∧ win0_4.index t (1 : Fin 2) = t.val / 17 :=
  (by decide +kernel : ∀ t : Fin grid0.N, _)
theorem place5 : ∀ t : Fin cfg0.N, win0_5.index t (0 : Fin 2) = min t.val 127 ∧ win0_5.index t (1 : Fin 2) = 0 :=
  (by decide +kernel : ∀ t : Fin grid0.N, _)
theorem place6 : ∀ t : Fin cfg0.N, win0_6.index t (0 : Fin 2) = min t.val 127 ∧ win0_6.index t (1 : Fin 2) = 0 :=
  (by decide +kernel : ∀ t : Fin grid0.N, _)
/-- The tables' last blocks are written back at the last point only. -/
theorem flush5 : ∀ t : Fin cfg0.N, t.val < 127 ∨ t.val = 254 → (cfg0.win 5).flush t = true :=
  (by decide +kernel : ∀ t : Fin grid0.N, t.val < 127 ∨ t.val = 254 → win0_5.flush t = true)
theorem flush6 : ∀ t : Fin cfg0.N, t.val < 127 ∨ t.val = 254 → (cfg0.win 6).flush t = true :=
  (by decide +kernel : ∀ t : Fin grid0.N, t.val < 127 ∨ t.val = 254 → win0_6.flush t = true)

theorem rows_at (t : Fin cfg0.N) (r : Fin 512) (k : Fin 4096) (R : Fin 8704) (h : R.val = t.val % 17 * 512 + r.val) :
    (iblk m c 0 t : FVec Ideal S512x4096 .bf16) (ix2 r k) = token (prompt m c) (sample m c) R k := by
  obtain ⟨e0, e1⟩ := place0 t
  refine Eq.trans (congrArg (V m c main_v5 : FVec Ideal S8704x4096 .bf16) (funext fun a => Fin.ext ?_)) (rows_entry m c R k)
  refine (Pipeline.Window.rect_emb_val win0_0 t (ix2 r k) a).trans ?_
  match a with
  | ⟨0, _⟩ => show win0_0.index t (0 : Fin 2) * 512 + r.val = R.val; rw [e0]; omega
  | ⟨1, _⟩ => show win0_0.index t (1 : Fin 2) * 4096 + k.val = k.val; rw [e1]; omega
theorem cols_at (t : Fin cfg0.N) (s : Fin 1536) (k : Fin 4096) (S : Fin 23040) (h : S.val = t.val / 17 * 1536 + s.val) :
    (iblk m c 1 t : FVec Ideal S1536x4096 .bf16) (ix2 s k) = weight m c (ix2 S k) := by
  obtain ⟨e0, e1⟩ := place1 t
  refine (congrFun (V_main_arg2 m c) _).trans (congrArg (weight m c) (funext fun a => Fin.ext ?_))
  refine (Pipeline.Window.rect_emb_val win0_1 t (ix2 s k) a).trans ?_
  match a with
  | ⟨0, _⟩ => show win0_1.index t (0 : Fin 2) * 1536 + s.val = S.val; rw [e0]; omega
  | ⟨1, _⟩ => show win0_1.index t (1 : Fin 2) * 4096 + k.val = k.val; rw [e1]; omega
theorem tableU_at (t : Fin cfg0.N) (r : Fin 128) (k K : Fin 4096) (R : Fin 16384) (h : R.val = min t.val 127 * 128 + r.val) (hK : K.val = k.val) :
    (iblk m c 2 t : FVec Ideal S128x4096 .f32) (ix2 r k) = tableU m c (ix3 0 R K) := by
  obtain ⟨e0, e1⟩ := place2 t
  refine Eq.trans (congrArg (V m c main_v6 : FVec Ideal S16384x4096 .f32) (funext fun a => Fin.ext ?_)) (tableU_entry m c R K)
  refine (Pipeline.Window.rect_emb_val win0_2 t (ix2 r k) a).trans ?_
  match a with
  | ⟨0, _⟩ => show win0_2.index t (0 : Fin 2) * 128 + r.val = R.val; rw [e0]; omega
  | ⟨1, _⟩ => show win0_2.index t (1 : Fin 2) * 4096 + k.val = K.val; rw [e1]; omega
theorem tableV_at (t : Fin cfg0.N) (r : Fin 128) (k K : Fin 4096) (R : Fin 16384) (h : R.val = min t.val 127 * 128 + r.val) (hK : K.val = k.val) :
    (iblk m c 3 t : FVec Ideal S128x4096 .f32) (ix2 r k) = tableV m c (ix3 0 R K) := by
  obtain ⟨e0, e1⟩ := place3 t
  refine Eq.trans (congrArg (V m c main_v7 : FVec Ideal S16384x4096 .f32) (funext fun a => Fin.ext ?_)) (tableV_entry m c R K)
  refine (Pipeline.Window.rect_emb_val win0_3 t (ix2 r k) a).trans ?_
  match a with
  | ⟨0, _⟩ => show win0_3.index t (0 : Fin 2) * 128 + r.val = R.val; rw [e0]; omega
  | ⟨1, _⟩ => show win0_3.index t (1 : Fin 2) * 4096 + k.val = K.val; rw [e1]; omega

theorem point (t : Fin cfg0.N) (r : Fin 512) (R : Fin 8704) (s : Fin 1536) (S : Fin 23040) (hR : R.val = t.val % 17 * 512 + r.val) (hS : S.val = t.val / 17 * 1536 + s.val) :
    (k0_pay1 (F := Ideal) (iblk m c 0 t) (iblk m c 1 t) (ix2 r s) : EReal) = ∑ k : Fin 4096, token (prompt m c) (sample m c) R k * weight m c (ix2 S k) := by
  rw [tile_at]
  refine Finset.sum_congr rfl fun k _ => ?_
  rw [rows_at m c t r k R hR, cols_at m c t s k S hS]

/-- Where a point's blocks lie in the results. -/
theorem lies4 (t : Fin cfg0.N) (r : Fin 512) (s : Fin 1536) (a : Fin 2) :
    (((cfg0.win 4).blk t).view.emb (ix2 r s : S512x1536.Idx) a).val = (![t.val % 17 * 512 + r.val, t.val / 17 * 1536 + s.val] : Fin 2 → ℕ) a := by
  obtain ⟨e0, e1⟩ := place4 t
  refine (Pipeline.Window.rect_emb_val win0_4 t (ix2 r s) a).trans ?_
  match a with
  | ⟨0, _⟩ => show win0_4.index t (0 : Fin 2) * 512 + r.val = t.val % 17 * 512 + r.val; rw [e0]
  | ⟨1, _⟩ => show win0_4.index t (1 : Fin 2) * 1536 + s.val = t.val / 17 * 1536 + s.val; rw [e1]
theorem lies5 (t : Fin cfg0.N) (r : Fin 128) (k : Fin 4096) (a : Fin 2) :
    (((cfg0.win 5).blk t).view.emb (ix2 r k : S128x4096.Idx) a).val = (![min t.val 127 * 128 + r.val, k.val] : Fin 2 → ℕ) a := by
  obtain ⟨e0, e1⟩ := place5 t
  refine (Pipeline.Window.rect_emb_val win0_5 t (ix2 r k) a).trans ?_
  match a with
  | ⟨0, _⟩ => show win0_5.index t (0 : Fin 2) * 128 + r.val = min t.val 127 * 128 + r.val; rw [e0]
  | ⟨1, _⟩ => show win0_5.index t (1 : Fin 2) * 4096 + k.val = k.val; rw [e1]; omega
theorem lies6 (t : Fin cfg0.N) (r : Fin 128) (k : Fin 4096) (a : Fin 2) :
    (((cfg0.win 6).blk t).view.emb (ix2 r k : S128x4096.Idx) a).val = (![min t.val 127 * 128 + r.val, k.val] : Fin 2 → ℕ) a := by
  obtain ⟨e0, e1⟩ := place6 t
  refine (Pipeline.Window.rect_emb_val win0_6 t (ix2 r k) a).trans ?_
  match a with
  | ⟨0, _⟩ => show win0_6.index t (0 : Fin 2) * 128 + r.val = min t.val 127 * 128 + r.val; rw [e0]
  | ⟨1, _⟩ => show win0_6.index t (1 : Fin 2) * 4096 + k.val = k.val; rw [e1]; omega

/-- What a point writes back is its block of each result. -/
theorem written4 (t : Fin cfg0.N) : (dats m 0 c).flushed 4 t = ((cfg0.win 4).blk t).view.read (Elt Ideal) (product (prompt m c) (sample m c) (weight m c)) := by
  rw [Value.flushed4]
  funext y
  have e : out0_4 (F := Ideal) (iblk m c 0 t) (iblk m c 1 t) (iblk m c 2 t) (iblk m c 3 t) = k0_pay1 (iblk m c 0 t) (iblk m c 1 t) := by
    unfold out0_4
    rw [View.canon_unit_zero (by decide), View.ld_unit_zero (by decide), View.ld_unit_zero (by decide)]
  rw [e]
  obtain ⟨r, s, rfl⟩ : ∃ (r : Fin 512) (s : Fin 1536), y = ix2 r s := ⟨y 0, y 1, eq_ix2 y⟩
  show (k0_pay1 (F := Ideal) (iblk m c 0 t) (iblk m c 1 t) (ix2 r s) : EReal) = product (prompt m c) (sample m c) (weight m c) (((cfg0.win 4).blk t).view.emb (ix2 r s))
  exact point m c t r _ s _ (lies4 t r s 0) (lies4 t r s 1)
theorem written5 (t : Fin cfg0.N) : (dats m 0 c).flushed 5 t = ((cfg0.win 5).blk t).view.read (Elt Ideal) (table (tableU m c)) := by
  rw [Value.flushed5]
  funext y
  have e : out0_5 (F := Ideal) (iblk m c 0 t) (iblk m c 1 t) (iblk m c 2 t) (iblk m c 3 t) = k0_pay2 (iblk m c 2 t) := by
    unfold out0_5
    rw [View.canon_unit_zero (by decide), View.ld_unit_zero (by decide)]
  rw [e]
  obtain ⟨r, k, rfl⟩ : ∃ (r : Fin 128) (k : Fin 4096), y = ix2 r k := ⟨y 0, y 1, eq_ix2 y⟩
  show (k0_pay2 (F := Ideal) (iblk m c 2 t) (ix2 r k) : EReal) = table (tableU m c) (((cfg0.win 5).blk t).view.emb (ix2 r k))
  exact (cast2_at _ r k).trans (tableU_at m c t r k _ _ (lies5 t r k 0) (lies5 t r k 1))
theorem written6 (t : Fin cfg0.N) : (dats m 0 c).flushed 6 t = ((cfg0.win 6).blk t).view.read (Elt Ideal) (table (tableV m c)) := by
  rw [Value.flushed6]
  funext y
  have e : out0_6 (F := Ideal) (iblk m c 0 t) (iblk m c 1 t) (iblk m c 2 t) (iblk m c 3 t) = k0_pay3 (iblk m c 3 t) := by
    unfold out0_6
    rw [View.canon_unit_zero (by decide), View.ld_unit_zero (by decide)]
  rw [e]
  obtain ⟨r, k, rfl⟩ : ∃ (r : Fin 128) (k : Fin 4096), y = ix2 r k := ⟨y 0, y 1, eq_ix2 y⟩
  show (k0_pay3 (F := Ideal) (iblk m c 3 t) (ix2 r k) : EReal) = table (tableV m c) (((cfg0.win 6).blk t).view.emb (ix2 r k))
  exact (cast3_at _ r k).trans (tableV_at m c t r k _ _ (lies6 t r k 0) (lies6 t r k 1))

theorem covered4 (i : S8704x23040.Idx) : ∃ t : Fin cfg0.N, (cfg0.win 4).flush t = true ∧ i ∈ ((cfg0.win 4).blk t).view.set := by
  have h0 : (i 0).val < 8704 := (i 0).isLt
  have h1 : (i 1).val < 23040 := (i 1).isLt
  obtain ⟨t, ht⟩ : ∃ t : Fin cfg0.N, t.val = (i 1).val / 1536 * 17 + (i 0).val / 512 :=
    ⟨⟨(i 1).val / 1536 * 17 + (i 0).val / 512, lt_of_lt_of_eq (by omega) N_0.symm⟩, rfl⟩
  refine ⟨t, flush0_4 t, ?_⟩
  have e : ((cfg0.win 4).blk t).view.emb (ix2 ⟨(i 0).val % 512, by omega⟩ ⟨(i 1).val % 1536, by omega⟩ : S512x1536.Idx) = i := by
    funext a
    refine Fin.ext ((lies4 t _ _ a).trans ?_)
    match a with
    | ⟨0, _⟩ => show t.val % 17 * 512 + (i 0).val % 512 = (i 0).val; omega
    | ⟨1, _⟩ => show t.val / 17 * 1536 + (i 1).val % 1536 = (i 1).val; omega
  have hm := View.emb_mem_set ((cfg0.win 4).blk t).view (ix2 ⟨(i 0).val % 512, by omega⟩ ⟨(i 1).val % 1536, by omega⟩ : S512x1536.Idx)
  rwa [e] at hm
/-- A point that writes back the block of a table's row. -/
theorem row_point (n : ℕ) (hn : n < 16384) : ∃ t : Fin cfg0.N, (t.val < 127 ∨ t.val = 254) ∧ min t.val 127 * 128 + n % 128 = n := by
  by_cases h : n / 128 < 127
  · exact ⟨⟨n / 128, lt_of_lt_of_eq (by omega) N_0.symm⟩, .inl h, by dsimp only; omega⟩
  · exact ⟨⟨254, lt_of_lt_of_eq (by omega) N_0.symm⟩, .inr rfl, by dsimp only; omega⟩
theorem covered5 (i : S16384x4096.Idx) : ∃ t : Fin cfg0.N, (cfg0.win 5).flush t = true ∧ i ∈ ((cfg0.win 5).blk t).view.set := by
  have h1 : (i 1).val < 4096 := (i 1).isLt
  obtain ⟨t, hf, ht⟩ := row_point (i 0).val (i 0).isLt
  refine ⟨t, flush5 t hf, ?_⟩
  have e : ((cfg0.win 5).blk t).view.emb (ix2 ⟨(i 0).val % 128, by omega⟩ ⟨(i 1).val, h1⟩ : S128x4096.Idx) = i := by
    funext a
    refine Fin.ext ((lies5 t _ _ a).trans ?_)
    match a with
    | ⟨0, _⟩ => exact ht
    | ⟨1, _⟩ => rfl
  have hm := View.emb_mem_set ((cfg0.win 5).blk t).view (ix2 ⟨(i 0).val % 128, by omega⟩ ⟨(i 1).val, h1⟩ : S128x4096.Idx)
  rwa [e] at hm
theorem covered6 (i : S16384x4096.Idx) : ∃ t : Fin cfg0.N, (cfg0.win 6).flush t = true ∧ i ∈ ((cfg0.win 6).blk t).view.set := by
  have h1 : (i 1).val < 4096 := (i 1).isLt
  obtain ⟨t, hf, ht⟩ := row_point (i 0).val (i 0).isLt
  refine ⟨t, flush6 t hf, ?_⟩
  have e : ((cfg0.win 6).blk t).view.emb (ix2 ⟨(i 0).val % 128, by omega⟩ ⟨(i 1).val, h1⟩ : S128x4096.Idx) = i := by
    funext a
    refine Fin.ext ((lies6 t _ _ a).trans ?_)
    match a with
    | ⟨0, _⟩ => exact ht
    | ⟨1, _⟩ => rfl
  have hm := View.emb_mem_set ((cfg0.win 6).blk t).view (ix2 ⟨(i 0).val % 128, by omega⟩ ⟨(i 1).val, h1⟩ : S128x4096.Idx)
  rwa [e] at hm

/-- The kernel's three arrays. -/
theorem final4 : (dats m 0 c).arrAt 4 cfg0.N = product (prompt m c) (sample m c) (weight m c) :=
  (dats m 0 c).arrAt_eq_of_cover 4 _ (fun t _ => written4 m c t) covered4
theorem final5 : (dats m 0 c).arrAt 5 cfg0.N = table (tableU m c) :=
  (dats m 0 c).arrAt_eq_of_cover 5 _ (fun t _ => written5 m c t) covered5
theorem final6 : (dats m 0 c).arrAt 6 cfg0.N = table (tableV m c) :=
  (dats m 0 c).arrAt_eq_of_cover 6 _ (fun t _ => written6 m c t) covered6

/-- The reference's three arrays. -/
theorem plain (x : FVec Ideal S1x8192x4096 .f32) (y : FVec Ideal S32x4x4096 .f32) (w : FVec Ideal S23040x4096 .bf16) :
    (concatenate Cert.RefProjInIdeal.S8704x23040 0
      [⟨Cert.RefProjInIdeal.S8192x23040, (Host.dotGeneral Cert.RefProjInIdeal.dot_S8192x4096_S4096x23040_S8192x23040_1_0_0_1_n_n none
          (shapeCast _ x Cert.RefProjInIdeal.Facts₀.shapeCasts_S1x8192x4096_S8192x4096)
          (transpose Cert.RefProjInIdeal.S4096x23040 [1, 0] (extf .f32 w Cert.RefProjInIdeal.Facts₀.bitsLt_bf16_f32) Cert.RefProjInIdeal.Facts₀.transposes_S23040x4096_S4096x23040_1_0) : FVec Ideal Cert.RefProjInIdeal.S8192x23040 .f32)⟩,
       ⟨Cert.RefProjInIdeal.S128x23040, (Host.dotGeneral Cert.RefProjInIdeal.dot_S128x4096_S4096x23040_S128x23040_1_0_0_1_n_n none
          (shapeCast _ y Cert.RefProjInIdeal.Facts₀.shapeCasts_S32x4x4096_S128x4096)
          (transpose Cert.RefProjInIdeal.S4096x23040 [1, 0] (extf .f32 w Cert.RefProjInIdeal.Facts₀.bitsLt_bf16_f32) Cert.RefProjInIdeal.Facts₀.transposes_S23040x4096_S4096x23040_1_0) : FVec Ideal Cert.RefProjInIdeal.S128x23040 .f32)⟩,
       ⟨Cert.RefProjInIdeal.S384x23040, (broadcastInDim Cert.RefProjInIdeal.S384x23040 ![] Cert.RefProjInIdeal.Facts₀.bcast_S_S384x23040 (constant Cert.RefProjInIdeal.S_ .f32 0x00000000#32) : FVec Ideal Cert.RefProjInIdeal.S384x23040 .f32)⟩]
      Cert.RefProjInIdeal.Facts₀.concatenates_S8192x23040_S128x23040_S384x23040_S8704x23040_d0 : FVec Ideal S8704x23040 .f32) = product x y w := by
  funext i
  obtain ⟨r, s, rfl⟩ : ∃ (r : Fin 8704) (s : Fin 23040), i = ix2 r s := ⟨i 0, i 1, eq_ix2 i⟩
  unfold product token
  pointwise []
  have hr := r.isLt
  by_cases h : r.val < 8192
  · rw [dif_pos h]
    exact Finset.sum_congr rfl fun k _ => by rw [dif_pos h]
  · rw [dif_neg h]
    by_cases h' : r.val < 8320
    · rw [dif_pos (show r.val - 8192 < 128 by omega)]
      exact Finset.sum_congr rfl fun k _ => by rw [dif_neg h, dif_pos h']
    · rw [dif_neg (show ¬ r.val - 8192 < 128 by omega)]
      exact (Finset.sum_eq_zero fun k _ => by rw [dif_neg h, dif_neg h', zero_mul]).symm
theorem plain_table (u : FVec Ideal S1x16384x4096 .f32) :
    (truncf .bf16 (shapeCast _ u Cert.RefProjInIdeal.Facts₀.shapeCasts_S1x16384x4096_S16384x4096) Cert.RefProjInIdeal.Facts₀.bitsLt_bf16_f32 : FVec Ideal S16384x4096 .bf16) = table u := by
  funext i
  obtain ⟨r, s, rfl⟩ : ∃ (r : Fin 16384) (s : Fin 4096), i = ix2 r s := ⟨i 0, i 1, eq_ix2 i⟩
  unfold table
  pointwise []

end Cert.ProjInIdeal.Product
end
end
-- ==== Proof.PeerQueryValue.lean ====
module
public import proofs.«01_k».proof.Proof.Gen.PeerQueryIdeal.Value
public import proofs.«01_k».proof.Proof.Gen.RefPeerQueryIdeal.Run
public import Idealize.ShloMosaic.Lib.Pointwise
@[expose] public section
set_option maxRecDepth 16384

/-! # The retrieval queries: the tiled product and the plain one -/

noncomputable section
namespace Cert.PeerQueryIdeal.Product
open Cert.PeerQueryIdeal Cert.PeerQueryIdeal.Gen
open Idealize.ShloMosaic Idealize.ShloMosaic.TcCoe Idealize.ShloMosaic.Tactic Idealize.ShloMosaic.Pointwise
open Idealize.ShloMosaic.Pipeline (Dat)

variable (m : (ℓ : Loc nD τ sig) → Buf (Elt Ideal) ℓ) (c : Dev nD)

/-- The call's two arguments. -/
def hidden : FVec Ideal S8704x4096 .bf16 := m ((c : Thread nD τ).loc main_arg0)
def weight : FVec Ideal S1x4096x2048 .f32 := m ((c : Thread nD τ).loc main_arg1)

/-- The product, entry by entry. -/
def product (x : FVec Ideal S8704x4096 .bf16) (w : FVec Ideal S1x4096x2048 .f32) : FVec Ideal S8704x2048 .f32 :=
  fun i => (∑ k : Fin 4096, (x (ix2 (i 0) k) * w (ix3 0 k (i 1)) : EReal) : EReal)

theorem tile_at (x : FVec Ideal S512x4096 .bf16) (w : FVec Ideal S4096x512 .bf16) (r s : Fin 512) :
    (k0_pay1 (F := Ideal) x w (ix2 r s) : EReal) = ∑ k : Fin 4096, x (ix2 r k) * w (ix2 k s) := by
  pointwise [k0_pay1]

theorem cols_entry (k : Fin 4096) (s : Fin 2048) : (V m c main_v1 : FVec Ideal S4096x2048 .bf16) (ix2 k s) = weight m c (ix3 0 k s) := by
  have e : (V m c main_v1 : FVec Ideal S4096x2048 .bf16) = truncf .bf16 (shapeCast S4096x2048 (weight m c) shapeCasts_S1x4096x2048_S4096x2048) bitsLt_bf16_f32 := by
    unfold_abbrev_sides
    after_results
    rfl
  rw [e]
  pointwise []

theorem place0 : ∀ t : Fin cfg0.N, win0_0.index t (0 : Fin 2) = t.val / 4 ∧ win0_0.index t (1 : Fin 2) = 0 :=
  (by decide +kernel : ∀ t : Fin grid0.N, _)
theorem place1 : ∀ t : Fin cfg0.N, win0_1.index t (0 : Fin 2) = 0 ∧ win0_1.index t (1 : Fin 2) = t.val % 4 :=
  (by decide +kernel : ∀ t : Fin grid0.N, _)
theorem place2 : ∀ t : Fin cfg0.N, win0_2.index t (0 : Fin 2) = t.val / 4 ∧ win0_2.index t (1 : Fin 2) = t.val % 4 :=
  (by decide +kernel : ∀ t : Fin grid0.N, _)

theorem rows_at (t : Fin cfg0.N) (r : Fin 512) (k : Fin 4096) (R : Fin 8704) (h : R.val = t.val / 4 * 512 + r.val) :
    (iblk m c 0 t : FVec Ideal S512x4096 .bf16) (ix2 r k) = hidden m c (ix2 R k) := by
  obtain ⟨e0, e1⟩ := place0 t
  refine (congrFun (V_main_arg0 m c) _).trans (congrArg (hidden m c) (funext fun a => Fin.ext ?_))
  refine (Pipeline.Window.rect_emb_val win0_0 t (ix2 r k) a).trans ?_
  match a with
  | ⟨0, _⟩ => show win0_0.index t (0 : Fin 2) * 512 + r.val = R.val; rw [e0]; omega
  | ⟨1, _⟩ => show win0_0.index t (1 : Fin 2) * 4096 + k.val = k.val; rw [e1]; omega
theorem cols_at (t : Fin cfg0.N) (k : Fin 4096) (s : Fin 512) (S : Fin 2048) (h : S.val = t.val % 4 * 512 + s.val) :
    (iblk m c 1 t : FVec Ideal S4096x512 .bf16) (ix2 k s) = weight m c (ix3 0 k S) := by
  obtain ⟨e0, e1⟩ := place1 t
  refine Eq.trans (congrArg (V m c main_v1 : FVec Ideal S4096x2048 .bf16) (funext fun a => Fin.ext ?_)) (cols_entry m c k S)
  refine (Pipeline.Window.rect_emb_val win0_1 t (ix2 k s) a).trans ?_
  match a with
  | ⟨0, _⟩ => show win0_1.index t (0 : Fin 2) * 4096 + k.val = k.val; rw [e0]; omega
  | ⟨1, _⟩ => show win0_1.index t (1 : Fin 2) * 512 + s.val = S.val; rw [e1]; omega

theorem point (t : Fin cfg0.N) (r : Fin 512) (R : Fin 8704) (s : Fin 512) (S : Fin 2048) (hR : R.val = t.val / 4 * 512 + r.val) (hS : S.val = t.val % 4 * 512 + s.val) :
    (k0_pay1 (F := Ideal) (iblk m c 0 t) (iblk m c 1 t) (ix2 r s) : EReal) = ∑ k : Fin 4096, hidden m c (ix2 R k) * weight m c (ix3 0 k S) := by
  rw [tile_at]
  refine Finset.sum_congr rfl fun k _ => ?_
  rw [rows_at m c t r k R hR, cols_at m c t k s S hS]

/-- Where a point's block lies in the result. -/
theorem lies (t : Fin cfg0.N) (r s : Fin 512) (a : Fin 2) :
    (((cfg0.win 2).blk t).view.emb (ix2 r s : S512x512.Idx) a).val = (![t.val / 4 * 512 + r.val, t.val % 4 * 512 + s.val] : Fin 2 → ℕ) a := by
  obtain ⟨e0, e1⟩ := place2 t
  refine (Pipeline.Window.rect_emb_val win0_2 t (ix2 r s) a).trans ?_
  match a with
  | ⟨0, _⟩ => show win0_2.index t (0 : Fin 2) * 512 + r.val = t.val / 4 * 512 + r.val; rw [e0]
  | ⟨1, _⟩ => show win0_2.index t (1 : Fin 2) * 512 + s.val = t.val % 4 * 512 + s.val; rw [e1]

/-- What a point writes back is its block of the product. -/
theorem written (t : Fin cfg0.N) : (dats m 0 c).flushed 2 t = ((cfg0.win 2).blk t).view.read (Elt Ideal) (product (hidden m c) (weight m c)) := by
  rw [Value.flushed2]
  funext y
  have e : out0_2 (F := Ideal) (iblk m c 0 t) (iblk m c 1 t) = k0_pay1 (iblk m c 0 t) (iblk m c 1 t) := by
    unfold out0_2
    rw [View.canon_unit_zero (by decide), View.ld_unit_zero (by decide), View.ld_unit_zero (by decide)]
  rw [e]
  obtain ⟨r, s, rfl⟩ : ∃ (r s : Fin 512), y = ix2 r s := ⟨y 0, y 1, eq_ix2 y⟩
  show (k0_pay1 (F := Ideal) (iblk m c 0 t) (iblk m c 1 t) (ix2 r s) : EReal) = product (hidden m c) (weight m c) (((cfg0.win 2).blk t).view.emb (ix2 r s))
  exact point m c t r _ s _ (lies t r s 0) (lies t r s 1)

theorem covered (i : S8704x2048.Idx) : ∃ t : Fin cfg0.N, (cfg0.win 2).flush t = true ∧ i ∈ ((cfg0.win 2).blk t).view.set := by
  have h0 : (i 0).val < 8704 := (i 0).isLt
  have h1 : (i 1).val < 2048 := (i 1).isLt
  obtain ⟨t, ht⟩ : ∃ t : Fin cfg0.N, t.val = (i 0).val / 512 * 4 + (i 1).val / 512 :=
    ⟨⟨(i 0).val / 512 * 4 + (i 1).val / 512, lt_of_lt_of_eq (by omega) N_0.symm⟩, rfl⟩
  refine ⟨t, flush0_2 t, ?_⟩
  have e : ((cfg0.win 2).blk t).view.emb (ix2 ⟨(i 0).val % 512, by omega⟩ ⟨(i 1).val % 512, by omega⟩ : S512x512.Idx) = i := by
    funext a
    refine Fin.ext ((lies t _ _ a).trans ?_)
    match a with
    | ⟨0, _⟩ => show t.val / 4 * 512 + (i 0).val % 512 = (i 0).val; omega
    | ⟨1, _⟩ => show t.val % 4 * 512 + (i 1).val % 512 = (i 1).val; omega
  have hm := View.emb_mem_set ((cfg0.win 2).blk t).view (ix2 ⟨(i 0).val % 512, by omega⟩ ⟨(i 1).val % 512, by omega⟩ : S512x512.Idx)
  rwa [e] at hm

/-- The kernel's array is the product. -/
theorem final : (dats m 0 c).arrAt 2 cfg0.N = product (hidden m c) (weight m c) :=
  (dats m 0 c).arrAt_eq_of_cover 2 _ (fun t _ => written m c t) covered

/-- And so is the reference's. -/
theorem plain (x : FVec Ideal S8704x4096 .bf16) (w : FVec Ideal S1x4096x2048 .f32) :
    (Host.dotGeneral Cert.RefPeerQueryIdeal.dot_S8704x4096_S4096x2048_S8704x2048_1_0_0_1_n_n none (extf .f32 x Cert.RefPeerQueryIdeal.Facts₀.bitsLt_bf16_f32)
      (shapeCast _ w Cert.RefPeerQueryIdeal.Facts₀.shapeCasts_S1x4096x2048_S4096x2048) : FVec Ideal S8704x2048 .f32) = product x w := by
  funext i
  obtain ⟨r, s, rfl⟩ : ∃ (r : Fin 8704) (s : Fin 2048), i = ix2 r s := ⟨i 0, i 1, eq_ix2 i⟩
  unfold product
  pointwise []

end Cert.PeerQueryIdeal.Product
end
end
-- ==== Proof.MergeValue.lean ====
module
public import proofs.«01_k».proof.Proof.Gen.MergeIdeal.Value
public import proofs.«01_k».proof.Proof.Gen.RefMergeIdeal.Run
public import Idealize.ShloMosaic.Lib.Pipeline.ValueKit.Acc
public import Idealize.ShloMosaic.Lib.Pointwise
@[expose] public section
set_option maxRecDepth 16384

/-! # The gated merge of the three branches: the tiled sum of products and the plain one -/

noncomputable section
namespace Cert.MergeIdeal.Product
open Cert.MergeIdeal Cert.MergeIdeal.Gen
open Idealize.ShloMosaic Idealize.ShloMosaic.TcCoe Idealize.ShloMosaic.Tactic Idealize.ShloMosaic.Pointwise
open Idealize.ShloMosaic.Pipeline (Dat)

variable (m : (ℓ : Loc nD τ sig) → Buf (Elt Ideal) ℓ) (c : Dev nD)

/-- The call's arguments: the branches' outputs, their weights and the projected array that holds the gates. -/
def actA : FVec Ideal S8704x2048 .bf16 := m ((c : Thread nD τ).loc main_arg0)
def actB : FVec Ideal S8704x1024 .bf16 := m ((c : Thread nD τ).loc main_arg1)
def actM : FVec Ideal S8704x1024 .bf16 := m ((c : Thread nD τ).loc main_arg2)
def weightA : FVec Ideal S1x2048x4096 .f32 := m ((c : Thread nD τ).loc main_arg3)
def weightB : FVec Ideal S1x1024x4096 .f32 := m ((c : Thread nD τ).loc main_arg4)
def weightM : FVec Ideal S1x1024x4096 .f32 := m ((c : Thread nD τ).loc main_arg5)
def z : FVec Ideal S8704x23040 .f32 := m ((c : Thread nD τ).loc main_arg6)

/-- A branch's gate at row `r` and column `s`, its columns starting at `o`. -/
def gate (z : FVec Ideal S8704x23040 .f32) (o : ℕ) (ho : o + 4096 ≤ 23040) (r : Fin 8704) (s : Fin 4096) : EReal :=
  Ideal.logistic (z (ix2 r ⟨o + s.val, by omega⟩))

/-- The gated sum, entry by entry. -/
def merged (a : FVec Ideal S8704x2048 .bf16) (b u : FVec Ideal S8704x1024 .bf16) (wa : FVec Ideal S1x2048x4096 .f32) (wb wu : FVec Ideal S1x1024x4096 .f32)
    (z : FVec Ideal S8704x23040 .f32) : FVec Ideal S8704x4096 .bf16 :=
  fun i => (gate z 10240 (by omega) (i 0) (i 1) * (∑ k : Fin 2048, (a (ix2 (i 0) k) * wa (ix3 0 k (i 1)) : EReal))
    + gate z 14336 (by omega) (i 0) (i 1) * (∑ k : Fin 1024, (b (ix2 (i 0) k) * wb (ix3 0 k (i 1)) : EReal))
    + gate z 18432 (by omega) (i 0) (i 1) * (∑ k : Fin 1024, (u (ix2 (i 0) k) * wu (ix3 0 k (i 1)) : EReal)) : EReal)

theorem tile_at (ga : FVec Ideal S512x1024 .f32) (a : FVec Ideal S512x2048 .bf16) (wa : FVec Ideal S2048x1024 .bf16)
    (gb : FVec Ideal S512x1024 .f32) (b : FVec Ideal S512x1024 .bf16) (wb : FVec Ideal S1024x1024 .bf16)
    (gu : FVec Ideal S512x1024 .f32) (u : FVec Ideal S512x1024 .bf16) (wu : FVec Ideal S1024x1024 .bf16) (r : Fin 512) (s : Fin 1024) :
    (k0_pay1 (F := Ideal) ga a wa gb b wb gu u wu (ix2 r s) : EReal)
      = Ideal.logistic (ga (ix2 r s)) * (∑ k : Fin 2048, a (ix2 r k) * wa (ix2 k s))
        + Ideal.logistic (gb (ix2 r s)) * (∑ k : Fin 1024, b (ix2 r k) * wb (ix2 k s))
        + Ideal.logistic (gu (ix2 r s)) * (∑ k : Fin 1024, u (ix2 r k) * wu (ix2 k s)) := by
  pointwise [k0_pay1]

theorem block_eq (t : Fin cfg0.N) : outsAt0 m c t
    = k0_pay1 (F := Ideal) (X0_6 m c t) (iblk m c 0 t) (iblk m c 3 t) (X0_7 m c t) (iblk m c 1 t) (iblk m c 4 t) (X0_8 m c t) (iblk m c 2 t) (iblk m c 5 t) := by
  unfold outsAt0
  frame_out

theorem entryA (k : Fin 2048) (s : Fin 4096) : (V m c main_v1 : FVec Ideal S2048x4096 .bf16) (ix2 k s) = weightA m c (ix3 0 k s) := by
  have e : (V m c main_v1 : FVec Ideal S2048x4096 .bf16) = truncf .bf16 (shapeCast S2048x4096 (weightA m c) shapeCasts_S1x2048x4096_S2048x4096) bitsLt_bf16_f32 := by
    unfold_abbrev_sides
    after_results
    rfl
  rw [e]
  pointwise []
theorem entryB (k : Fin 1024) (s : Fin 4096) : (V m c main_v3 : FVec Ideal S1024x4096 .bf16) (ix2 k s) = weightB m c (ix3 0 k s) := by
  have e : (V m c main_v3 : FVec Ideal S1024x4096 .bf16) = truncf .bf16 (shapeCast S1024x4096 (weightB m c) shapeCasts_S1x1024x4096_S1024x4096) bitsLt_bf16_f32 := by
    unfold_abbrev_sides
    after_results
    rfl
  rw [e]
  pointwise []
theorem entryM (k : Fin 1024) (s : Fin 4096) : (V m c main_v5 : FVec Ideal S1024x4096 .bf16) (ix2 k s) = weightM m c (ix3 0 k s) := by
  have e : (V m c main_v5 : FVec Ideal S1024x4096 .bf16) = truncf .bf16 (shapeCast S1024x4096 (weightM m c) shapeCasts_S1x1024x4096_S1024x4096) bitsLt_bf16_f32 := by
    unfold_abbrev_sides
    after_results
    rfl
  rw [e]
  pointwise []

theorem place0 : ∀ t : Fin cfg0.N, win0_0.index t (0 : Fin 2) = t.val % 17 ∧ win0_0.index t (1 : Fin 2) = 0 :=
  (by decide +kernel : ∀ t : Fin grid0.N, _)
theorem place1 : ∀ t : Fin cfg0.N, win0_1.index t (0 : Fin 2) = t.val % 17 ∧ win0_1.index t (1 : Fin 2) = 0 :=
  (by decide +kernel : ∀ t : Fin grid0.N, _)
theorem place2 : ∀ t : Fin cfg0.N, win0_2.index t (0 : Fin 2) = t.val % 17 ∧ win0_2.index t (1 : Fin 2) = 0 :=
  (by decide +kernel : ∀ t : Fin grid0.N, _)
theorem place3 : ∀ t : Fin cfg0.N, win0_3.index t (0 : Fin 2) = 0 ∧ win0_3.index t (1 : Fin 2) = t.val / 17 :=
  (by decide +kernel : ∀ t : Fin grid0.N, _)
theorem place4 : ∀ t : Fin cfg0.N, win0_4.index t (0 : Fin 2) = 0 ∧ win0_4.index t (1 : Fin 2) = t.val / 17 :=
  (by decide +kernel : ∀ t : Fin grid0.N, _)
theorem place5 : ∀ t : Fin cfg0.N, win0_5.index t (0 : Fin 2) = 0 ∧ win0_5.index t (1 : Fin 2) = t.val / 17 :=
  (by decide +kernel : ∀ t : Fin grid0.N, _)
theorem place6 : ∀ t : Fin cfg0.N, win0_6.index t (0 : Fin 2) = t.val % 17 ∧ win0_6.index t (1 : Fin 2) = 10 + t.val / 17 :=
  (by decide +kernel : ∀ t : Fin grid0.N, _)
theorem place7 : ∀ t : Fin cfg0.N, win0_7.index t (0 : Fin 2) = t.val % 17 ∧ win0_7.index t (1 : Fin 2) = 14 + t.val / 17 :=
  (by decide +kernel : ∀ t : Fin grid0.N, _)
theorem place8 : ∀ t : Fin cfg0.N, win0_8.index t (0 : Fin 2) = t.val % 17 ∧ win0_8.index t (1 : Fin 2) = 18 + t.val / 17 :=
  (by decide +kernel : ∀ t : Fin grid0.N, _)
theorem place9 : ∀ t : Fin cfg0.N, win0_9.index t (0 : Fin 2) = t.val % 17 ∧ win0_9.index t (1 : Fin 2) = t.val / 17 :=
  (by decide +kernel : ∀ t : Fin grid0.N, _)

theorem actA_at (t : Fin cfg0.N) (r : Fin 512) (k : Fin 2048) (R : Fin 8704) (h : R.val = t.val % 17 * 512 + r.val) :
    (iblk m c 0 t : FVec Ideal S512x2048 .bf16) (ix2 r k) = actA m c (ix2 R k) := by
  obtain ⟨e0, e1⟩ := place0 t
  refine (congrFun (V_main_arg0 m c) _).trans (congrArg (actA m c) (funext fun a => Fin.ext ?_))
  refine (Pipeline.Window.rect_emb_val win0_0 t (ix2 r k) a).trans ?_
  match a with
  | ⟨0, _⟩ => show win0_0.index t (0 : Fin 2) * 512 + r.val = R.val; rw [e0]; omega
  | ⟨1, _⟩ => show win0_0.index t (1 : Fin 2) * 2048 + k.val = k.val; rw [e1]; omega
theorem actB_at (t : Fin cfg0.N) (r : Fin 512) (k : Fin 1024) (R : Fin 8704) (h : R.val = t.val % 17 * 512 + r.val) :
    (iblk m c 1 t : FVec Ideal S512x1024 .bf16) (ix2 r k) = actB m c (ix2 R k) := by
  obtain ⟨e0, e1⟩ := place1 t
  refine (congrFun (V_main_arg1 m c) _).trans (congrArg (actB m c) (funext fun a => Fin.ext ?_))
  refine (Pipeline.Window.rect_emb_val win0_1 t (ix2 r k) a).trans ?_
  match a with
  | ⟨0, _⟩ => show win0_1.index t (0 : Fin 2) * 512 + r.val = R.val; rw [e0]; omega
  | ⟨1, _⟩ => show win0_1.index t (1 : Fin 2) * 1024 + k.val = k.val; rw [e1]; omega
theorem actM_at (t : Fin cfg0.N) (r : Fin 512) (k : Fin 1024) (R : Fin 8704) (h : R.val = t.val % 17 * 512 + r.val) :
    (iblk m c 2 t : FVec Ideal S512x1024 .bf16) (ix2 r k) = actM m c (ix2 R k) := by
  obtain ⟨e0, e1⟩ := place2 t
  refine (congrFun (V_main_arg2 m c) _).trans (congrArg (actM m c) (funext fun a => Fin.ext ?_))
  refine (Pipeline.Window.rect_emb_val win0_2 t (ix2 r k) a).trans ?_
  match a with
  | ⟨0, _⟩ => show win0_2.index t (0 : Fin 2) * 512 + r.val = R.val; rw [e0]; omega
  | ⟨1, _⟩ => show win0_2.index t (1 : Fin 2) * 1024 + k.val = k.val; rw [e1]; omega
theorem weightA_at (t : Fin cfg0.N) (k : Fin 2048) (s : Fin 1024) (S : Fin 4096) (h : S.val = t.val / 17 * 1024 + s.val) :
    (iblk m c 3 t : FVec Ideal S2048x1024 .bf16) (ix2 k s) = weightA m c (ix3 0 k S) := by
  obtain ⟨e0, e1⟩ := place3 t
  refine Eq.trans (congrArg (V m c main_v1 : FVec Ideal S2048x4096 .bf16) (funext fun a => Fin.ext ?_)) (entryA m c k S)
  refine (Pipeline.Window.rect_emb_val win0_3 t (ix2 k s) a).trans ?_
  match a with
  | ⟨0, _⟩ => show win0_3.index t (0 : Fin 2) * 2048 + k.val = k.val; rw [e0]; omega
  | ⟨1, _⟩ => show win0_3.index t (1 : Fin 2) * 1024 + s.val = S.val; rw [e1]; omega
theorem weightB_at (t : Fin cfg0.N) (k : Fin 1024) (s : Fin 1024) (S : Fin 4096) (h : S.val = t.val / 17 * 1024 + s.val) :
    (iblk m c 4 t : FVec Ideal S1024x1024 .bf16) (ix2 k s) = weightB m c (ix3 0 k S) := by
  obtain ⟨e0, e1⟩ := place4 t
  refine Eq.trans (congrArg (V m c main_v3 : FVec Ideal S1024x4096 .bf16) (funext fun a => Fin.ext ?_)) (entryB m c k S)
  refine (Pipeline.Window.rect_emb_val win0_4 t (ix2 k s) a).trans ?_
  match a with
  | ⟨0, _⟩ => show win0_4.index t (0 : Fin 2) * 1024 + k.val = k.val; rw [e0]; omega
  | ⟨1, _⟩ => show win0_4.index t (1 : Fin 2) * 1024 + s.val = S.val; rw [e1]; omega
theorem weightM_at (t : Fin cfg0.N) (k : Fin 1024) (s : Fin 1024) (S : Fin 4096) (h : S.val = t.val / 17 * 1024 + s.val) :
    (iblk m c 5 t : FVec Ideal S1024x1024 .bf16) (ix2 k s) = weightM m c (ix3 0 k S) := by
  obtain ⟨e0, e1⟩ := place5 t
  refine Eq.trans (congrArg (V m c main_v5 : FVec Ideal S1024x4096 .bf16) (funext fun a => Fin.ext ?_)) (entryM m c k S)
  refine (Pipeline.Window.rect_emb_val win0_5 t (ix2 k s) a).trans ?_
  match a with
  | ⟨0, _⟩ => show win0_5.index t (0 : Fin 2) * 1024 + k.val = k.val; rw [e0]; omega
  | ⟨1, _⟩ => show win0_5.index t (1 : Fin 2) * 1024 + s.val = S.val; rw [e1]; omega
/-- An element of the projected array, its coordinates given as numbers. -/
theorem cell (i : S8704x23040.Idx) (R : Fin 8704) (C : Fin 23040) (h0 : (i 0).val = R.val) (h1 : (i 1).val = C.val) : z m c i = z m c (ix2 R C) :=
  congrArg (z m c) (funext fun a => Fin.ext (by match a with | ⟨0, _⟩ => exact h0 | ⟨1, _⟩ => exact h1))
theorem gateA_at (t : Fin cfg0.N) (r : Fin 512) (R : Fin 8704) (s : Fin 1024) (S : Fin 4096) (hR : R.val = t.val % 17 * 512 + r.val)
    (hS : S.val = t.val / 17 * 1024 + s.val) : Ideal.logistic ((X0_6 m c t : FVec Ideal S512x1024 .f32) (ix2 r s)) = gate (z m c) 10240 (by omega) R S := by
  obtain ⟨e0, e1⟩ := place6 t
  unfold X0_6 Pipeline.Window.fill gate
  rw [dif_pos (moved0_6 t _)]
  refine congrArg Ideal.logistic ((congrFun (V_main_arg6 m c) _).trans (cell m c _ _ _ ?_ ?_))
  · show win0_6.index t (0 : Fin 2) * 512 + 1 * r.val = R.val
    rw [e0]; omega
  · show win0_6.index t (1 : Fin 2) * 1024 + 1 * s.val = 10240 + S.val
    rw [e1]; omega
theorem gateB_at (t : Fin cfg0.N) (r : Fin 512) (R : Fin 8704) (s : Fin 1024) (S : Fin 4096) (hR : R.val = t.val % 17 * 512 + r.val)
    (hS : S.val = t.val / 17 * 1024 + s.val) : Ideal.logistic ((X0_7 m c t : FVec Ideal S512x1024 .f32) (ix2 r s)) = gate (z m c) 14336 (by omega) R S := by
  obtain ⟨e0, e1⟩ := place7 t
  unfold X0_7 Pipeline.Window.fill gate
  rw [dif_pos (moved0_7 t _)]
  refine congrArg Ideal.logistic ((congrFun (V_main_arg6 m c) _).trans (cell m c _ _ _ ?_ ?_))
  · show win0_7.index t (0 : Fin 2) * 512 + 1 * r.val = R.val
    rw [e0]; omega
  · show win0_7.index t (1 : Fin 2) * 1024 + 1 * s.val = 14336 + S.val
    rw [e1]; omega
theorem gateM_at (t : Fin cfg0.N) (r : Fin 512) (R : Fin 8704) (s : Fin 1024) (S : Fin 4096) (hR : R.val = t.val % 17 * 512 + r.val)
    (hS : S.val = t.val / 17 * 1024 + s.val) : Ideal.logistic ((X0_8 m c t : FVec Ideal S512x1024 .f32) (ix2 r s)) = gate (z m c) 18432 (by omega) R S := by
  obtain ⟨e0, e1⟩ := place8 t
  unfold X0_8 Pipeline.Window.fill gate
  rw [dif_pos (moved0_8 t _)]
  refine congrArg Ideal.logistic ((congrFun (V_main_arg6 m c) _).trans (cell m c _ _ _ ?_ ?_))
  · show win0_8.index t (0 : Fin 2) * 512 + 1 * r.val = R.val
    rw [e0]; omega
  · show win0_8.index t (1 : Fin 2) * 1024 + 1 * s.val = 18432 + S.val
    rw [e1]; omega

theorem point (t : Fin cfg0.N) (r : Fin 512) (R : Fin 8704) (s : Fin 1024) (S : Fin 4096) (hR : R.val = t.val % 17 * 512 + r.val) (hS : S.val = t.val / 17 * 1024 + s.val) :
    (outsAt0 m c t (ix2 r s) : EReal) = merged (actA m c) (actB m c) (actM m c) (weightA m c) (weightB m c) (weightM m c) (z m c) (ix2 R S) := by
  rw [block_eq, tile_at, gateA_at m c t r R s S hR hS, gateB_at m c t r R s S hR hS, gateM_at m c t r R s S hR hS]
  unfold merged
  refine congrArg₂ (· + ·) (congrArg₂ (· + ·) (congrArg (_ * ·) (Finset.sum_congr rfl fun k _ => ?_)) (congrArg (_ * ·) (Finset.sum_congr rfl fun k _ => ?_)))
    (congrArg (_ * ·) (Finset.sum_congr rfl fun k _ => ?_))
  · rw [actA_at m c t r k R hR, weightA_at m c t k s S hS]
    rfl
  · rw [actB_at m c t r k R hR, weightB_at m c t k s S hS]
    rfl
  · rw [actM_at m c t r k R hR, weightM_at m c t k s S hS]
    rfl

/-- Where a point's block lies in the result. -/
theorem lies (t : Fin cfg0.N) (r : Fin 512) (s : Fin 1024) (a : Fin 2) :
    (((cfg0.win 9).blk t).view.emb (ix2 r s : S512x1024.Idx) a).val = (![t.val % 17 * 512 + r.val, t.val / 17 * 1024 + s.val] : Fin 2 → ℕ) a := by
  obtain ⟨e0, e1⟩ := place9 t
  refine (Pipeline.Window.rect_emb_val win0_9 t (ix2 r s) a).trans ?_
  match a with
  | ⟨0, _⟩ => show win0_9.index t (0 : Fin 2) * 512 + r.val = t.val % 17 * 512 + r.val; rw [e0]
  | ⟨1, _⟩ => show win0_9.index t (1 : Fin 2) * 1024 + s.val = t.val / 17 * 1024 + s.val; rw [e1]

/-- What a point writes back is its block of the sum. -/
theorem written (t : Fin cfg0.N) : (dats m 0 c).flushed 9 t = ((cfg0.win 9).blk t).view.read (Elt Ideal)
    (merged (actA m c) (actB m c) (actM m c) (weightA m c) (weightB m c) (weightM m c) (z m c)) := by
  rw [Value.flushed9]
  funext y
  obtain ⟨r, s, rfl⟩ : ∃ (r : Fin 512) (s : Fin 1024), y = ix2 r s := ⟨y 0, y 1, eq_ix2 y⟩
  show (outsAt0 m c t (ix2 r s) : EReal)
    = merged (actA m c) (actB m c) (actM m c) (weightA m c) (weightB m c) (weightM m c) (z m c) (((cfg0.win 9).blk t).view.emb (ix2 r s))
  exact (point m c t r _ s _ (lies t r s 0) (lies t r s 1)).trans (congrArg _ (eq_ix2 _).symm)

theorem covered (i : S8704x4096.Idx) : ∃ t : Fin cfg0.N, (cfg0.win 9).flush t = true ∧ i ∈ ((cfg0.win 9).blk t).view.set := by
  have h0 : (i 0).val < 8704 := (i 0).isLt
  have h1 : (i 1).val < 4096 := (i 1).isLt
  obtain ⟨t, ht⟩ : ∃ t : Fin cfg0.N, t.val = (i 1).val / 1024 * 17 + (i 0).val / 512 :=
    ⟨⟨(i 1).val / 1024 * 17 + (i 0).val / 512, lt_of_lt_of_eq (by omega) N_0.symm⟩, rfl⟩
  refine ⟨t, flush0_9 t, ?_⟩
  have e : ((cfg0.win 9).blk t).view.emb (ix2 ⟨(i 0).val % 512, by omega⟩ ⟨(i 1).val % 1024, by omega⟩ : S512x1024.Idx) = i := by
    funext a
    refine Fin.ext ((lies t _ _ a).trans ?_)
    match a with
    | ⟨0, _⟩ => show t.val % 17 * 512 + (i 0).val % 512 = (i 0).val; omega
    | ⟨1, _⟩ => show t.val / 17 * 1024 + (i 1).val % 1024 = (i 1).val; omega
  have hm := View.emb_mem_set ((cfg0.win 9).blk t).view (ix2 ⟨(i 0).val % 512, by omega⟩ ⟨(i 1).val % 1024, by omega⟩ : S512x1024.Idx)
  rwa [e] at hm

/-- The kernel's array is the gated sum. -/
theorem final : (dats m 0 c).arrAt 9 cfg0.N = merged (actA m c) (actB m c) (actM m c) (weightA m c) (weightB m c) (weightM m c) (z m c) :=
  (dats m 0 c).arrAt_eq_of_cover 9 _ (fun t _ => written m c t) covered

/-- And so is the reference's. -/
theorem plain (a : FVec Ideal S8704x2048 .bf16) (b u : FVec Ideal S8704x1024 .bf16) (wa : FVec Ideal S1x2048x4096 .f32) (wb wu : FVec Ideal S1x1024x4096 .f32)
    (z : FVec Ideal S8704x23040 .f32) :
    (truncf .bf16 (addf (addf (mulf (Host.divf (broadcastInDim Cert.RefMergeIdeal.S8704x4096 ![] Cert.RefMergeIdeal.Facts₀.bcast_S_S8704x4096 (constant Cert.RefMergeIdeal.S_ .f32 0x3F800000#32)) (addf (broadcastInDim Cert.RefMergeIdeal.S8704x4096 ![] Cert.RefMergeIdeal.Facts₀.bcast_S_S8704x4096 (constant Cert.RefMergeIdeal.S_ .f32 0x3F800000#32)) (Host.exp (Host.negf (extractStridedSlice Cert.RefMergeIdeal.S8704x4096 ![0, 10240] z Cert.RefMergeIdeal.Facts₀.slices_S8704x23040_S8704x4096_0_10240))))) (Host.dotGeneral Cert.RefMergeIdeal.dot_S8704x2048_S2048x4096_S8704x4096_1_0_0_1_n_n none (extf .f32 a Cert.RefMergeIdeal.Facts₀.bitsLt_bf16_f32) (shapeCast _ wa Cert.RefMergeIdeal.Facts₀.shapeCasts_S1x2048x4096_S2048x4096))) (mulf (Host.divf (broadcastInDim Cert.RefMergeIdeal.S8704x4096 ![] Cert.RefMergeIdeal.Facts₀.bcast_S_S8704x4096 (constant Cert.RefMergeIdeal.S_ .f32 0x3F800000#32)) (addf (broadcastInDim Cert.RefMergeIdeal.S8704x4096 ![] Cert.RefMergeIdeal.Facts₀.bcast_S_S8704x4096 (constant Cert.RefMergeIdeal.S_ .f32 0x3F800000#32)) (Host.exp (Host.negf (extractStridedSlice Cert.RefMergeIdeal.S8704x4096 ![0, 14336] z Cert.RefMergeIdeal.Facts₀.slices_S8704x23040_S8704x4096_0_14336))))) (Host.dotGeneral Cert.RefMergeIdeal.dot_S8704x1024_S1024x4096_S8704x4096_1_0_0_1_n_n none (extf .f32 b Cert.RefMergeIdeal.Facts₀.bitsLt_bf16_f32) (shapeCast _ wb Cert.RefMergeIdeal.Facts₀.shapeCasts_S1x1024x4096_S1024x4096)))) (mulf (Host.divf (broadcastInDim Cert.RefMergeIdeal.S8704x4096 ![] Cert.RefMergeIdeal.Facts₀.bcast_S_S8704x4096 (constant Cert.RefMergeIdeal.S_ .f32 0x3F800000#32)) (addf (broadcastInDim Cert.RefMergeIdeal.S8704x4096 ![] Cert.RefMergeIdeal.Facts₀.bcast_S_S8704x4096 (constant Cert.RefMergeIdeal.S_ .f32 0x3F800000#32)) (Host.exp (Host.negf (extractStridedSlice Cert.RefMergeIdeal.S8704x4096 ![0, 18432] z Cert.RefMergeIdeal.Facts₀.slices_S8704x23040_S8704x4096_0_18432))))) (Host.dotGeneral Cert.RefMergeIdeal.dot_S8704x1024_S1024x4096_S8704x4096_1_0_0_1_n_n none (extf .f32 u Cert.RefMergeIdeal.Facts₀.bitsLt_bf16_f32) (shapeCast _ wu Cert.RefMergeIdeal.Facts₀.shapeCasts_S1x1024x4096_S1024x4096)))) Cert.RefMergeIdeal.Facts₀.bitsLt_bf16_f32 : FVec Ideal S8704x4096 .bf16) = merged a b u wa wb wu z := by
  funext i
  obtain ⟨r, s, rfl⟩ : ∃ (r : Fin 8704) (s : Fin 4096), i = ix2 r s := ⟨i 0, i 1, eq_ix2 i⟩
  unfold merged gate
  pointwise []
  rfl

end Cert.MergeIdeal.Product
end
end
-- ==== Proof.ResidValue.lean ====
module
public import proofs.«01_k».proof.Proof.Gen.ResidIdeal.Value
public import proofs.«01_k».proof.Proof.Gen.RefResidIdeal.Run
public import Idealize.ShloMosaic.Lib.Pointwise
@[expose] public section
set_option maxRecDepth 16384

/-! # The output projection and its residual: the tiled sum and the plain one -/

noncomputable section
namespace Cert.ResidIdeal.Product
open Cert.ResidIdeal Cert.ResidIdeal.Gen
open Idealize.ShloMosaic Idealize.ShloMosaic.TcCoe Idealize.ShloMosaic.Tactic Idealize.ShloMosaic.Pointwise
open Idealize.ShloMosaic.Pipeline (Dat)

variable (m : (ℓ : Loc nD τ sig) → Buf (Elt Ideal) ℓ) (c : Dev nD)

/-- The call's arguments. -/
def merged : FVec Ideal S8704x4096 .bf16 := m ((c : Thread nD τ).loc main_arg0)
def weight : FVec Ideal S1x4096x4096 .f32 := m ((c : Thread nD τ).loc main_arg1)
def prompt : FVec Ideal S1x8192x4096 .f32 := m ((c : Thread nD τ).loc main_arg2)
def sample : FVec Ideal S32x4x4096 .f32 := m ((c : Thread nD τ).loc main_arg3)

/-- Row `r` of the tokens: the prompt's, then the samples', then zeros. -/
def token (x : FVec Ideal S1x8192x4096 .f32) (y : FVec Ideal S32x4x4096 .f32) (r : Fin 8704) (k : Fin 4096) : EReal :=
  if h : r.val < 8192 then x (ix3 0 ⟨r.val, h⟩ k)
  else if h' : r.val < 8320 then y (ix3 ⟨(r.val - 8192) / 4, by omega⟩ ⟨(r.val - 8192) % 4, by omega⟩ k) else 0

/-- The residual's factor. -/
def alpha : EReal := (Scalar.ofBits .f32 0x3F9837F0#32 : Ideal .f32)

/-- The scaled token plus the projection, entry by entry. -/
def total (g : FVec Ideal S8704x4096 .bf16) (w : FVec Ideal S1x4096x4096 .f32) (x : FVec Ideal S1x8192x4096 .f32) (y : FVec Ideal S32x4x4096 .f32) :
    FVec Ideal S8704x4096 .f32 :=
  fun i => (alpha * token x y (i 0) (i 1) + ∑ k : Fin 4096, (g (ix2 (i 0) k) * w (ix3 0 k (i 1)) : EReal) : EReal)

/-- The tile's choice between the two token blocks. -/
def inside (i : grid0.Coords) : BitVec 1 := Scalar.cmpi .slt (BitVec.ofNat 32 (i 1).val) 16#32

theorem inside_at : ∀ t : Fin cfg0.N, inside (grid0.coords t) = if t.val % 17 < 16 then 1#1 else 0#1 :=
  (by decide +kernel : ∀ t : Fin grid0.N, _)

theorem select_at (b : BitVec 1) (u v : FVec Ideal S512x1024 .f32) (j : S512x1024.Idx) : Scalar.select b u v j = Scalar.select b (u j) (v j) := by
  unfold Scalar.select
  split <;> rfl

theorem tile_at (i : grid0.Coords) (u v : FVec Ideal S512x1024 .f32) (x : FVec Ideal S512x4096 .bf16) (w : FVec Ideal S4096x1024 .bf16) (r : Fin 512) (s : Fin 1024) :
    (k0_pay1 (F := Ideal) i u v x w (ix2 r s) : EReal)
      = alpha * (Scalar.select (inside i) (u (ix2 r s)) (v (ix2 r s)) : EReal) + ∑ k : Fin 4096, x (ix2 r k) * w (ix2 k s) := by
  pointwise [k0_pay1]
  rfl

theorem zero_of_int : (FloatOps.sitofp .f32 (0#32 : BitVec 32) : Ideal .f32) = (0 : EReal) := by
  show (((0#32 : BitVec 32).toInt : ℝ) : EReal) = 0
  simp

theorem cols_entry (k s : Fin 4096) : (V m c main_v3 : FVec Ideal S4096x4096 .bf16) (ix2 k s) = weight m c (ix3 0 k s) := by
  have e : (V m c main_v3 : FVec Ideal S4096x4096 .bf16) = truncf .bf16 (shapeCast S4096x4096 (weight m c) shapeCasts_S1x4096x4096_S4096x4096) bitsLt_bf16_f32 := by
    simp only [V, hostOps0, hostOps0_1, List.flatten_cons, List.flatten_nil, List.append_nil, List.cons_append, List.nil_append]
    after_results
    rfl
  rw [e]
  pointwise []
theorem prompt_entry (r : Fin 8192) (k : Fin 4096) : (V m c main_v0 : FVec Ideal S8192x4096 .f32) (ix2 r k) = prompt m c (ix3 0 r k) := by
  have e : (V m c main_v0 : FVec Ideal S8192x4096 .f32) = shapeCast S8192x4096 (prompt m c) shapeCasts_S1x8192x4096_S8192x4096 := by
    simp only [V, hostOps0, hostOps0_1, List.flatten_cons, List.flatten_nil, List.append_nil, List.cons_append, List.nil_append]
    after_results
    rfl
  rw [e]
  pointwise []
/-- The rows after the prompt's. -/
theorem tail_entry (r : Fin 512) (k : Fin 4096) (R : Fin 8704) (h : R.val = 8192 + r.val) :
    (V m c main_v4 : FVec Ideal S512x4096 .f32) (ix2 r k) = token (prompt m c) (sample m c) R k := by
  have e : (V m c main_v4 : FVec Ideal S512x4096 .f32)
      = pad S512x4096 ![0, 0] ![384, 0] ![0, 0] (shapeCast S128x4096 (sample m c) shapeCasts_S32x4x4096_S128x4096 : FVec Ideal S128x4096 .f32)
          (sitofp .f32 (constantI S_ 32 0#32) : FVec Ideal S_ .f32) pads_S128x4096_S512x4096_03840_000 h_S_ := by
    simp only [V, hostOps0, hostOps0_1, List.flatten_cons, List.flatten_nil, List.append_nil, List.cons_append, List.nil_append]
    after_results
    rfl
  rw [e]
  unfold token
  pointwise []
  have q : R.val - 8192 = r.val := by omega
  rw [dif_neg (show ¬ R.val < 8192 by omega)]
  by_cases h' : r.val < 128
  · rw [dif_pos h', dif_pos (show R.val < 8320 by omega)]
    simp only [q]
  · rw [dif_neg h', dif_neg (show ¬ R.val < 8320 by omega)]
    exact zero_of_int

theorem place0 : ∀ t : Fin cfg0.N, win0_0.index t (0 : Fin 2) = t.val % 17 ∧ win0_0.index t (1 : Fin 2) = 0 :=
  (by decide +kernel : ∀ t : Fin grid0.N, _)
theorem place1 : ∀ t : Fin cfg0.N, win0_1.index t (0 : Fin 2) = 0 ∧ win0_1.index t (1 : Fin 2) = t.val / 17 :=
  (by decide +kernel : ∀ t : Fin grid0.N, _)
theorem place2 : ∀ t : Fin cfg0.N, win0_2.index t (0 : Fin 2) = min (t.val % 17) 15 ∧ win0_2.index t (1 : Fin 2) = t.val / 17 :=
  (by decide +kernel : ∀ t : Fin grid0.N, _)
theorem place3 : ∀ t : Fin cfg0.N, win0_3.index t (0 : Fin 2) = 0 ∧ win0_3.index t (1 : Fin 2) = t.val / 17 :=
  (by decide +kernel : ∀ t : Fin grid0.N, _)
theorem place4 : ∀ t : Fin cfg0.N, win0_4.index t (0 : Fin 2) = t.val % 17 ∧ win0_4.index t (1 : Fin 2) = t.val / 17 :=
  (by decide +kernel : ∀ t : Fin grid0.N, _)

theorem rows_at (t : Fin cfg0.N) (r : Fin 512) (k : Fin 4096) (R : Fin 8704) (h : R.val = t.val % 17 * 512 + r.val) :
    (iblk m c 0 t : FVec Ideal S512x4096 .bf16) (ix2 r k) = merged m c (ix2 R k) := by
  obtain ⟨e0, e1⟩ := place0 t
  refine (congrFun (V_main_arg0 m c) _).trans (congrArg (merged m c) (funext fun a => Fin.ext ?_))
  refine (Pipeline.Window.rect_emb_val win0_0 t (ix2 r k) a).trans ?_
  match a with
  | ⟨0, _⟩ => show win0_0.index t (0 : Fin 2) * 512 + r.val = R.val; rw [e0]; omega
  | ⟨1, _⟩ => show win0_0.index t (1 : Fin 2) * 4096 + k.val = k.val; rw [e1]; omega
theorem cols_at (t : Fin cfg0.N) (k : Fin 4096) (s : Fin 1024) (S : Fin 4096) (h : S.val = t.val / 17 * 1024 + s.val) :
    (iblk m c 1 t : FVec Ideal S4096x1024 .bf16) (ix2 k s) = weight m c (ix3 0 k S) := by
  obtain ⟨e0, e1⟩ := place1 t
  refine Eq.trans (congrArg (V m c main_v3 : FVec Ideal S4096x4096 .bf16) (funext fun a => Fin.ext ?_)) (cols_entry m c k S)
  refine (Pipeline.Window.rect_emb_val win0_1 t (ix2 k s) a).trans ?_
  match a with
  | ⟨0, _⟩ => show win0_1.index t (0 : Fin 2) * 4096 + k.val = k.val; rw [e0]; omega
  | ⟨1, _⟩ => show win0_1.index t (1 : Fin 2) * 1024 + s.val = S.val; rw [e1]; omega
theorem prompt_at (t : Fin cfg0.N) (ht : t.val % 17 < 16) (r : Fin 512) (R : Fin 8704) (h : R.val = t.val % 17 * 512 + r.val)
    (s : Fin 1024) (S : Fin 4096) (hS : S.val = t.val / 17 * 1024 + s.val) :
    (iblk m c 2 t : FVec Ideal S512x1024 .f32) (ix2 r s) = token (prompt m c) (sample m c) R S := by
  obtain ⟨e0, e1⟩ := place2 t
  have hR : R.val < 8192 := by omega
  refine Eq.trans (congrArg (V m c main_v0 : FVec Ideal S8192x4096 .f32) (funext fun a => Fin.ext ?_)) ((prompt_entry m c ⟨R.val, hR⟩ S).trans ?_)
  · refine (Pipeline.Window.rect_emb_val win0_2 t (ix2 r s) a).trans ?_
    match a with
    | ⟨0, _⟩ => show win0_2.index t (0 : Fin 2) * 512 + r.val = R.val; rw [e0]; omega
    | ⟨1, _⟩ => show win0_2.index t (1 : Fin 2) * 1024 + s.val = S.val; rw [e1]; omega
  · unfold token
    rw [dif_pos hR]
theorem tail_at (t : Fin cfg0.N) (ht : ¬ t.val % 17 < 16) (r : Fin 512) (R : Fin 8704) (h : R.val = t.val % 17 * 512 + r.val)
    (s : Fin 1024) (S : Fin 4096) (hS : S.val = t.val / 17 * 1024 + s.val) :
    (iblk m c 3 t : FVec Ideal S512x1024 .f32) (ix2 r s) = token (prompt m c) (sample m c) R S := by
  obtain ⟨e0, e1⟩ := place3 t
  refine Eq.trans (congrArg (V m c main_v4 : FVec Ideal S512x4096 .f32) (funext fun a => Fin.ext ?_)) (tail_entry m c r S R (by omega))
  refine (Pipeline.Window.rect_emb_val win0_3 t (ix2 r s) a).trans ?_
  match a with
  | ⟨0, _⟩ => show win0_3.index t (0 : Fin 2) * 512 + r.val = r.val; rw [e0]; omega
  | ⟨1, _⟩ => show win0_3.index t (1 : Fin 2) * 1024 + s.val = S.val; rw [e1]; omega

/-- Whichever block a tile takes its tokens from, they are the tokens of its rows. -/
theorem chosen_at (t : Fin cfg0.N) (r : Fin 512) (R : Fin 8704) (h : R.val = t.val % 17 * 512 + r.val)
    (s : Fin 1024) (S : Fin 4096) (hS : S.val = t.val / 17 * 1024 + s.val) :
    (Scalar.select (inside (grid0.coords t)) ((iblk m c 2 t : FVec Ideal S512x1024 .f32) (ix2 r s)) ((iblk m c 3 t : FVec Ideal S512x1024 .f32) (ix2 r s)) : EReal)
      = token (prompt m c) (sample m c) R S := by
  rw [inside_at]
  by_cases ht : t.val % 17 < 16
  · rw [if_pos ht]
    exact prompt_at m c t ht r R h s S hS
  · rw [if_neg ht]
    exact tail_at m c t ht r R h s S hS

theorem point (t : Fin cfg0.N) (r : Fin 512) (R : Fin 8704) (s : Fin 1024) (S : Fin 4096) (hR : R.val = t.val % 17 * 512 + r.val) (hS : S.val = t.val / 17 * 1024 + s.val) :
    (k0_pay1 (F := Ideal) (grid0.coords t) (iblk m c 2 t) (iblk m c 3 t) (iblk m c 0 t) (iblk m c 1 t) (ix2 r s) : EReal)
      = alpha * token (prompt m c) (sample m c) R S + ∑ k : Fin 4096, merged m c (ix2 R k) * weight m c (ix3 0 k S) := by
  rw [tile_at, chosen_at m c t r R hR s S hS]
  refine congrArg _ (Finset.sum_congr rfl fun k _ => ?_)
  rw [rows_at m c t r k R hR, cols_at m c t k s S hS]

/-- Where a point's block lies in the result. -/
theorem lies (t : Fin cfg0.N) (r : Fin 512) (s : Fin 1024) (a : Fin 2) :
    (((cfg0.win 4).blk t).view.emb (ix2 r s : S512x1024.Idx) a).val = (![t.val % 17 * 512 + r.val, t.val / 17 * 1024 + s.val] : Fin 2 → ℕ) a := by
  obtain ⟨e0, e1⟩ := place4 t
  refine (Pipeline.Window.rect_emb_val win0_4 t (ix2 r s) a).trans ?_
  match a with
  | ⟨0, _⟩ => show win0_4.index t (0 : Fin 2) * 512 + r.val = t.val % 17 * 512 + r.val; rw [e0]
  | ⟨1, _⟩ => show win0_4.index t (1 : Fin 2) * 1024 + s.val = t.val / 17 * 1024 + s.val; rw [e1]

/-- What a point writes back is its block of the sum. -/
theorem written (t : Fin cfg0.N) : (dats m 0 c).flushed 4 t
    = ((cfg0.win 4).blk t).view.read (Elt Ideal) (total (merged m c) (weight m c) (prompt m c) (sample m c)) := by
  rw [Value.flushed4]
  funext y
  have e : out0_4 (F := Ideal) (grid0.coords t) (iblk m c 0 t) (iblk m c 1 t) (iblk m c 2 t) (iblk m c 3 t)
      = k0_pay1 (grid0.coords t) (iblk m c 2 t) (iblk m c 3 t) (iblk m c 0 t) (iblk m c 1 t) := by
    unfold out0_4
    rw [View.canon_unit_zero (by decide), View.ld_unit_zero (by decide), View.ld_unit_zero (by decide), View.ld_unit_zero (by decide), View.ld_unit_zero (by decide)]
  rw [e]
  obtain ⟨r, s, rfl⟩ : ∃ (r : Fin 512) (s : Fin 1024), y = ix2 r s := ⟨y 0, y 1, eq_ix2 y⟩
  show (k0_pay1 (F := Ideal) (grid0.coords t) (iblk m c 2 t) (iblk m c 3 t) (iblk m c 0 t) (iblk m c 1 t) (ix2 r s) : EReal)
    = total (merged m c) (weight m c) (prompt m c) (sample m c) (((cfg0.win 4).blk t).view.emb (ix2 r s))
  exact point m c t r _ s _ (lies t r s 0) (lies t r s 1)

theorem covered (i : S8704x4096.Idx) : ∃ t : Fin cfg0.N, (cfg0.win 4).flush t = true ∧ i ∈ ((cfg0.win 4).blk t).view.set := by
  have h0 : (i 0).val < 8704 := (i 0).isLt
  have h1 : (i 1).val < 4096 := (i 1).isLt
  obtain ⟨t, ht⟩ : ∃ t : Fin cfg0.N, t.val = (i 1).val / 1024 * 17 + (i 0).val / 512 :=
    ⟨⟨(i 1).val / 1024 * 17 + (i 0).val / 512, lt_of_lt_of_eq (by omega) N_0.symm⟩, rfl⟩
  refine ⟨t, flush0_4 t, ?_⟩
  have e : ((cfg0.win 4).blk t).view.emb (ix2 ⟨(i 0).val % 512, by omega⟩ ⟨(i 1).val % 1024, by omega⟩ : S512x1024.Idx) = i := by
    funext a
    refine Fin.ext ((lies t _ _ a).trans ?_)
    match a with
    | ⟨0, _⟩ => show t.val % 17 * 512 + (i 0).val % 512 = (i 0).val; omega
    | ⟨1, _⟩ => show t.val / 17 * 1024 + (i 1).val % 1024 = (i 1).val; omega
  have hm := View.emb_mem_set ((cfg0.win 4).blk t).view (ix2 ⟨(i 0).val % 512, by omega⟩ ⟨(i 1).val % 1024, by omega⟩ : S512x1024.Idx)
  rwa [e] at hm

/-- The kernel's array is the sum. -/
theorem final : (dats m 0 c).arrAt 4 cfg0.N = total (merged m c) (weight m c) (prompt m c) (sample m c) :=
  (dats m 0 c).arrAt_eq_of_cover 4 _ (fun t _ => written m c t) covered

/-- And so is the reference's. -/
theorem plain (g : FVec Ideal S8704x4096 .bf16) (w : FVec Ideal S1x4096x4096 .f32) (x : FVec Ideal S1x8192x4096 .f32) (y : FVec Ideal S32x4x4096 .f32) :
    (addf (mulf (broadcastInDim Cert.RefResidIdeal.S8704x4096 ![] Cert.RefResidIdeal.Facts₀.bcast_S_S8704x4096 (constant Cert.RefResidIdeal.S_ .f32 0x3F9837F0#32))
        (concatenate Cert.RefResidIdeal.S8704x4096 0
          [⟨Cert.RefResidIdeal.S8192x4096, (shapeCast _ x Cert.RefResidIdeal.Facts₀.shapeCasts_S1x8192x4096_S8192x4096 : FVec Ideal Cert.RefResidIdeal.S8192x4096 .f32)⟩,
           ⟨Cert.RefResidIdeal.S128x4096, (shapeCast _ y Cert.RefResidIdeal.Facts₀.shapeCasts_S32x4x4096_S128x4096 : FVec Ideal Cert.RefResidIdeal.S128x4096 .f32)⟩,
           ⟨Cert.RefResidIdeal.S384x4096, (broadcastInDim Cert.RefResidIdeal.S384x4096 ![] Cert.RefResidIdeal.Facts₀.bcast_S_S384x4096 (constant Cert.RefResidIdeal.S_ .f32 0x00000000#32) : FVec Ideal Cert.RefResidIdeal.S384x4096 .f32)⟩]
          Cert.RefResidIdeal.Facts₀.concatenates_S8192x4096_S128x4096_S384x4096_S8704x4096_d0 : FVec Ideal Cert.RefResidIdeal.S8704x4096 .f32))
      (Host.dotGeneral Cert.RefResidIdeal.dot_S8704x4096_S4096x4096_S8704x4096_1_0_0_1_n_n none (extf .f32 g Cert.RefResidIdeal.Facts₀.bitsLt_bf16_f32)
        (shapeCast _ w Cert.RefResidIdeal.Facts₀.shapeCasts_S1x4096x4096_S4096x4096)) : FVec Ideal S8704x4096 .f32) = total g w x y := by
  funext i
  obtain ⟨r, s, rfl⟩ : ∃ (r : Fin 8704) (s : Fin 4096), i = ix2 r s := ⟨i 0, i 1, eq_ix2 i⟩
  unfold total token alpha
  pointwise []
  have hr := r.isLt
  refine congrArg (· + _) (congrArg (_ * ·) ?_)
  by_cases h : r.val < 8192
  · rw [dif_pos h, dif_pos h]
  · rw [dif_neg h, dif_neg h]
    by_cases h' : r.val < 8320
    · rw [dif_pos (show r.val - 8192 < 128 by omega), dif_pos h']
    · rw [dif_neg (show ¬ r.val - 8192 < 128 by omega), dif_neg h']

end Cert.ResidIdeal.Product
end
end
-- ==== Proof.NormValue.lean ====
module
public import proofs.«01_k».proof.Proof.Gen.NormIdeal.Value
public import proofs.«01_k».proof.Proof.Gen.RefNormIdeal.Run
public import Idealize.ShloMosaic.Lib.Pointwise
@[expose] public section
set_option maxRecDepth 16384

/-! # The first layer norm: row blocks of the kernel and the plain rows -/

noncomputable section
namespace Cert.NormIdeal.Rows
open Cert.NormIdeal Cert.NormIdeal.Gen
open Idealize.ShloMosaic Idealize.ShloMosaic.TcCoe Idealize.ShloMosaic.Tactic Idealize.ShloMosaic.Pointwise
open Idealize.ShloMosaic.Pipeline (Dat)

variable (m : (ℓ : Loc nD τ sig) → Buf (Elt Ideal) ℓ) (c : Dev nD)

/-- The call's arguments. -/
def hidden : FVec Ideal S8704x4096 .f32 := m ((c : Thread nD τ).loc main_arg0)
def scale : FVec Ideal S1x4096 .f32 := m ((c : Thread nD τ).loc main_arg1)
def shift : FVec Ideal S1x4096 .f32 := m ((c : Thread nD τ).loc main_arg2)

/-- A row's mean, and its elements normalised, scaled and shifted. -/
def mean (x : Fin 4096 → EReal) : EReal := Ideal.div (∑ k : Fin 4096, x k) (Ideal.ofBits .f32 0x45800000#32)
def normRow (x : Fin 4096 → EReal) (g b : EReal) (s : Fin 4096) : EReal :=
  (x s - mean x) * Ideal.rsqrt (mean (fun k => (x k - mean x) * (x k - mean x)) + Ideal.ofBits .f32 0x3727C5AC#32) * g + b

/-- The norm, entry by entry; both results hold it. -/
def normed (e : FTy) (x : FVec Ideal S8704x4096 .f32) (g b : FVec Ideal S1x4096 .f32) : FVec Ideal S8704x4096 e :=
  fun i => normRow (fun k => x (ix2 (i 0) k)) (g (ix2 0 (i 1))) (b (ix2 0 (i 1))) (i 1)

theorem tile_at (x : FVec Ideal S256x4096 .f32) (g b : FVec Ideal S1x4096 .f32) (r : Fin 256) (s : Fin 4096) :
    (k0_pay1 (F := Ideal) x g b (ix2 r s) : EReal) = normRow (fun k => x (ix2 r k)) (g (ix2 0 s)) (b (ix2 0 s)) s := by
  unfold normRow mean
  pointwise [k0_pay1]
theorem tile_at' (x : FVec Ideal S256x4096 .f32) (g b : FVec Ideal S1x4096 .f32) (r : Fin 256) (s : Fin 4096) :
    (k0_pay2 (F := Ideal) x g b (ix2 r s) : EReal) = normRow (fun k => x (ix2 r k)) (g (ix2 0 s)) (b (ix2 0 s)) s :=
  tile_at x g b r s

theorem scale_entry (k : Fin 4096) : (V m c main_v1 : FVec Ideal S1x4096 .f32) (ix2 0 k) = scale m c (ix2 0 k) := by
  have e : (V m c main_v1 : FVec Ideal S1x4096 .f32) = broadcastInDim S1x4096 ![1] bcast_S4096_S1x4096_1 (shapeCast S4096 (scale m c) shapeCasts_S1x4096_S4096) := by
    unfold_abbrev_sides
    after_results
    rfl
  rw [e]
  pointwise []
theorem shift_entry (k : Fin 4096) : (V m c main_v3 : FVec Ideal S1x4096 .f32) (ix2 0 k) = shift m c (ix2 0 k) := by
  have e : (V m c main_v3 : FVec Ideal S1x4096 .f32) = broadcastInDim S1x4096 ![1] bcast_S4096_S1x4096_1 (shapeCast S4096 (shift m c) shapeCasts_S1x4096_S4096) := by
    unfold_abbrev_sides
    after_results
    rfl
  rw [e]
  pointwise []
theorem place0 : ∀ t : Fin cfg0.N, win0_0.index t (0 : Fin 2) = t.val ∧ win0_0.index t (1 : Fin 2) = 0 :=
  (by decide +kernel : ∀ t : Fin grid0.N, _)
theorem place1 : ∀ t : Fin cfg0.N, win0_1.index t (0 : Fin 2) = 0 ∧ win0_1.index t (1 : Fin 2) = 0 :=
  (by decide +kernel : ∀ t : Fin grid0.N, _)
theorem place2 : ∀ t : Fin cfg0.N, win0_2.index t (0 : Fin 2) = 0 ∧ win0_2.index t (1 : Fin 2) = 0 :=
  (by decide +kernel : ∀ t : Fin grid0.N, _)
theorem place3 : ∀ t : Fin cfg0.N, win0_3.index t (0 : Fin 2) = t.val ∧ win0_3.index t (1 : Fin 2) = 0 :=
  (by decide +kernel : ∀ t : Fin grid0.N, _)
theorem place4 : ∀ t : Fin cfg0.N, win0_4.index t (0 : Fin 2) = t.val ∧ win0_4.index t (1 : Fin 2) = 0 :=
  (by decide +kernel : ∀ t : Fin grid0.N, _)

theorem rows_at (t : Fin cfg0.N) (r : Fin 256) (k : Fin 4096) (R : Fin 8704) (h : R.val = t.val * 256 + r.val) :
    (iblk m c 0 t : FVec Ideal S256x4096 .f32) (ix2 r k) = hidden m c (ix2 R k) := by
  obtain ⟨e0, e1⟩ := place0 t
  refine (congrFun (V_main_arg0 m c) _).trans (congrArg (hidden m c) (funext fun a => Fin.ext ?_))
  refine (Pipeline.Window.rect_emb_val win0_0 t (ix2 r k) a).trans ?_
  match a with
  | ⟨0, _⟩ => show win0_0.index t (0 : Fin 2) * 256 + r.val = R.val; rw [e0]; omega
  | ⟨1, _⟩ => show win0_0.index t (1 : Fin 2) * 4096 + k.val = k.val; rw [e1]; omega
theorem scale_at (t : Fin cfg0.N) (k : Fin 4096) : (iblk m c 1 t : FVec Ideal S1x4096 .f32) (ix2 0 k) = scale m c (ix2 0 k) := by
  obtain ⟨e0, e1⟩ := place1 t
  refine Eq.trans (congrArg (V m c main_v1 : FVec Ideal S1x4096 .f32) (funext fun a => Fin.ext ?_)) (scale_entry m c k)
  refine (Pipeline.Window.rect_emb_val win0_1 t (ix2 0 k) a).trans ?_
  match a with
  | ⟨0, _⟩ => show win0_1.index t (0 : Fin 2) * 1 + 0 = 0; rw [e0]
  | ⟨1, _⟩ => show win0_1.index t (1 : Fin 2) * 4096 + k.val = k.val; rw [e1]; omega
theorem shift_at (t : Fin cfg0.N) (k : Fin 4096) : (iblk m c 2 t : FVec Ideal S1x4096 .f32) (ix2 0 k) = shift m c (ix2 0 k) := by
  obtain ⟨e0, e1⟩ := place2 t
  refine Eq.trans (congrArg (V m c main_v3 : FVec Ideal S1x4096 .f32) (funext fun a => Fin.ext ?_)) (shift_entry m c k)
  refine (Pipeline.Window.rect_emb_val win0_2 t (ix2 0 k) a).trans ?_
  match a with
  | ⟨0, _⟩ => show win0_2.index t (0 : Fin 2) * 1 + 0 = 0; rw [e0]
  | ⟨1, _⟩ => show win0_2.index t (1 : Fin 2) * 4096 + k.val = k.val; rw [e1]; omega

theorem point (t : Fin cfg0.N) (r : Fin 256) (R : Fin 8704) (s S : Fin 4096) (hR : R.val = t.val * 256 + r.val) (hS : S.val = s.val) :
    normRow (fun k => (iblk m c 0 t : FVec Ideal S256x4096 .f32) (ix2 r k)) ((iblk m c 1 t : FVec Ideal S1x4096 .f32) (ix2 0 s)) ((iblk m c 2 t : FVec Ideal S1x4096 .f32) (ix2 0 s)) s
      = normRow (fun k => hidden m c (ix2 R k)) (scale m c (ix2 0 S)) (shift m c (ix2 0 S)) S := by
  obtain rfl : S = s := Fin.ext hS
  rw [show (fun k => (iblk m c 0 t : FVec Ideal S256x4096 .f32) (ix2 r k)) = fun k => hidden m c (ix2 R k) from funext fun k => rows_at m c t r k R hR,
    scale_at, shift_at]

theorem cover_index (i : S8704x4096.Idx) : ∃ t : Fin cfg0.N, t.val = (i 0).val / 256 := by
  have h0 : (i 0).val < 8704 := (i 0).isLt
  exact ⟨⟨(i 0).val / 256, lt_of_lt_of_eq (by omega) N_0.symm⟩, rfl⟩

/-- Where a point's block lies in the result of window 3. -/
theorem lies3 (t : Fin cfg0.N) (r : Fin 256) (s : Fin 4096) (a : Fin 2) :
    (((cfg0.win 3).blk t).view.emb (ix2 r s : S256x4096.Idx) a).val = (![t.val * 256 + r.val, s.val] : Fin 2 → ℕ) a := by
  obtain ⟨e0, e1⟩ := place3 t
  refine (Pipeline.Window.rect_emb_val win0_3 t (ix2 r s) a).trans ?_
  match a with
  | ⟨0, _⟩ => show win0_3.index t (0 : Fin 2) * 256 + r.val = t.val * 256 + r.val; rw [e0]
  | ⟨1, _⟩ => show win0_3.index t (1 : Fin 2) * 4096 + s.val = s.val; rw [e1]; omega
theorem written3 (t : Fin cfg0.N) : (dats m 0 c).flushed 3 t = ((cfg0.win 3).blk t).view.read (Elt Ideal) (normed .f32 (hidden m c) (scale m c) (shift m c)) := by
  rw [Value.flushed3]
  funext y
  have e : out0_3 (F := Ideal) (iblk m c 0 t) (iblk m c 1 t) (iblk m c 2 t) = k0_pay1 (iblk m c 0 t) (iblk m c 1 t) (iblk m c 2 t) := by
    unfold out0_3
    rw [View.canon_unit_zero (by decide), View.ld_unit_zero (by decide), View.ld_unit_zero (by decide), View.ld_unit_zero (by decide)]
  rw [e]
  obtain ⟨r, s, rfl⟩ : ∃ (r : Fin 256) (s : Fin 4096), y = ix2 r s := ⟨y 0, y 1, eq_ix2 y⟩
  show (k0_pay1 (F := Ideal) (iblk m c 0 t) (iblk m c 1 t) (iblk m c 2 t) (ix2 r s) : EReal)
    = normed .f32 (hidden m c) (scale m c) (shift m c) (((cfg0.win 3).blk t).view.emb (ix2 r s))
  exact (tile_at _ _ _ r s).trans (point m c t r _ s _ (lies3 t r s 0) (lies3 t r s 1))
theorem covered3 (i : S8704x4096.Idx) : ∃ t : Fin cfg0.N, (cfg0.win 3).flush t = true ∧ i ∈ ((cfg0.win 3).blk t).view.set := by
  obtain ⟨t, ht⟩ := cover_index i
  refine ⟨t, flush0_3 t, ?_⟩
  have e : ((cfg0.win 3).blk t).view.emb (ix2 ⟨(i 0).val % 256, by omega⟩ (i 1) : S256x4096.Idx) = i := by
    funext a
    refine Fin.ext ((lies3 t _ _ a).trans ?_)
    match a with
    | ⟨0, _⟩ => show t.val * 256 + (i 0).val % 256 = (i 0).val; omega
    | ⟨1, _⟩ => rfl
  have hm := View.emb_mem_set ((cfg0.win 3).blk t).view (ix2 ⟨(i 0).val % 256, by omega⟩ (i 1) : S256x4096.Idx)
  rwa [e] at hm
/-- The kernel's array of window 3 is the norm. -/
theorem final3 : (dats m 0 c).arrAt 3 cfg0.N = normed .f32 (hidden m c) (scale m c) (shift m c) :=
  (dats m 0 c).arrAt_eq_of_cover 3 _ (fun t _ => written3 m c t) covered3

/-- Where a point's block lies in the result of window 4. -/
theorem lies4 (t : Fin cfg0.N) (r : Fin 256) (s : Fin 4096) (a : Fin 2) :
    (((cfg0.win 4).blk t).view.emb (ix2 r s : S256x4096.Idx) a).val = (![t.val * 256 + r.val, s.val] : Fin 2 → ℕ) a := by
  obtain ⟨e0, e1⟩ := place4 t
  refine (Pipeline.Window.rect_emb_val win0_4 t (ix2 r s) a).trans ?_
  match a with
  | ⟨0, _⟩ => show win0_4.index t (0 : Fin 2) * 256 + r.val = t.val * 256 + r.val; rw [e0]
  | ⟨1, _⟩ => show win0_4.index t (1 : Fin 2) * 4096 + s.val = s.val; rw [e1]; omega
theorem written4 (t : Fin cfg0.N) : (dats m 0 c).flushed 4 t = ((cfg0.win 4).blk t).view.read (Elt Ideal) (normed .bf16 (hidden m c) (scale m c) (shift m c)) := by
  rw [Value.flushed4]
  funext y
  have e : out0_4 (F := Ideal) (iblk m c 0 t) (iblk m c 1 t) (iblk m c 2 t) = k0_pay2 (iblk m c 0 t) (iblk m c 1 t) (iblk m c 2 t) := by
    unfold out0_4
    rw [View.canon_unit_zero (by decide), View.ld_unit_zero (by decide), View.ld_unit_zero (by decide), View.ld_unit_zero (by decide)]
  rw [e]
  obtain ⟨r, s, rfl⟩ : ∃ (r : Fin 256) (s : Fin 4096), y = ix2 r s := ⟨y 0, y 1, eq_ix2 y⟩
  show (k0_pay2 (F := Ideal) (iblk m c 0 t) (iblk m c 1 t) (iblk m c 2 t) (ix2 r s) : EReal)
    = normed .bf16 (hidden m c) (scale m c) (shift m c) (((cfg0.win 4).blk t).view.emb (ix2 r s))
  exact (tile_at' _ _ _ r s).trans (point m c t r _ s _ (lies4 t r s 0) (lies4 t r s 1))
theorem covered4 (i : S8704x4096.Idx) : ∃ t : Fin cfg0.N, (cfg0.win 4).flush t = true ∧ i ∈ ((cfg0.win 4).blk t).view.set := by
  obtain ⟨t, ht⟩ := cover_index i
  refine ⟨t, flush0_4 t, ?_⟩
  have e : ((cfg0.win 4).blk t).view.emb (ix2 ⟨(i 0).val % 256, by omega⟩ (i 1) : S256x4096.Idx) = i := by
    funext a
    refine Fin.ext ((lies4 t _ _ a).trans ?_)
    match a with
    | ⟨0, _⟩ => show t.val * 256 + (i 0).val % 256 = (i 0).val; omega
    | ⟨1, _⟩ => rfl
  have hm := View.emb_mem_set ((cfg0.win 4).blk t).view (ix2 ⟨(i 0).val % 256, by omega⟩ (i 1) : S256x4096.Idx)
  rwa [e] at hm
/-- The kernel's array of window 4 is the norm. -/
theorem final4 : (dats m 0 c).arrAt 4 cfg0.N = normed .bf16 (hidden m c) (scale m c) (shift m c) :=
  (dats m 0 c).arrAt_eq_of_cover 4 _ (fun t _ => written4 m c t) covered4

/-- And so are the reference's rows. -/
theorem plain (x : FVec Ideal S8704x4096 .f32) (g b : FVec Ideal S1x4096 .f32) :
    (addf (mulf (mulf (subf x (broadcastInDim Cert.RefNormIdeal.S8704x4096 ![0, 1] Cert.RefNormIdeal.Facts₀.bcast_S8704x1_S8704x4096_0_1 (Host.divf (broadcastInDim Cert.RefNormIdeal.S8704x1 ![0] Cert.RefNormIdeal.Facts₀.bcast_S8704_S8704x1_0 (Host.reduceAdd x (constant Cert.RefNormIdeal.S_ .f32 0x00000000#32) Cert.RefNormIdeal.Facts₀.reducesTo_S8704x4096_S8704_d1 Cert.RefNormIdeal.Facts₀.h_S_)) (broadcastInDim Cert.RefNormIdeal.S8704x1 ![] Cert.RefNormIdeal.Facts₀.bcast_S_S8704x1 (constant Cert.RefNormIdeal.S_ .f32 0x45800000#32))))) (broadcastInDim Cert.RefNormIdeal.S8704x4096 ![0, 1] Cert.RefNormIdeal.Facts₀.bcast_S8704x1_S8704x4096_0_1 (Host.rsqrt (addf (Host.divf (broadcastInDim Cert.RefNormIdeal.S8704x1 ![0] Cert.RefNormIdeal.Facts₀.bcast_S8704_S8704x1_0 (Host.reduceAdd (mulf (subf x (broadcastInDim Cert.RefNormIdeal.S8704x4096 ![0, 1] Cert.RefNormIdeal.Facts₀.bcast_S8704x1_S8704x4096_0_1 (Host.divf (broadcastInDim Cert.RefNormIdeal.S8704x1 ![0] Cert.RefNormIdeal.Facts₀.bcast_S8704_S8704x1_0 (Host.reduceAdd x (constant Cert.RefNormIdeal.S_ .f32 0x00000000#32) Cert.RefNormIdeal.Facts₀.reducesTo_S8704x4096_S8704_d1 Cert.RefNormIdeal.Facts₀.h_S_)) (broadcastInDim Cert.RefNormIdeal.S8704x1 ![] Cert.RefNormIdeal.Facts₀.bcast_S_S8704x1 (constant Cert.RefNormIdeal.S_ .f32 0x45800000#32))))) (subf x (broadcastInDim Cert.RefNormIdeal.S8704x4096 ![0, 1] Cert.RefNormIdeal.Facts₀.bcast_S8704x1_S8704x4096_0_1 (Host.divf (broadcastInDim Cert.RefNormIdeal.S8704x1 ![0] Cert.RefNormIdeal.Facts₀.bcast_S8704_S8704x1_0 (Host.reduceAdd x (constant Cert.RefNormIdeal.S_ .f32 0x00000000#32) Cert.RefNormIdeal.Facts₀.reducesTo_S8704x4096_S8704_d1 Cert.RefNormIdeal.Facts₀.h_S_)) (broadcastInDim Cert.RefNormIdeal.S8704x1 ![] Cert.RefNormIdeal.Facts₀.bcast_S_S8704x1 (constant Cert.RefNormIdeal.S_ .f32 0x45800000#32)))))) (constant Cert.RefNormIdeal.S_ .f32 0x00000000#32) Cert.RefNormIdeal.Facts₀.reducesTo_S8704x4096_S8704_d1 Cert.RefNormIdeal.Facts₀.h_S_)) (broadcastInDim Cert.RefNormIdeal.S8704x1 ![] Cert.RefNormIdeal.Facts₀.bcast_S_S8704x1 (constant Cert.RefNormIdeal.S_ .f32 0x45800000#32))) (broadcastInDim Cert.RefNormIdeal.S8704x1 ![] Cert.RefNormIdeal.Facts₀.bcast_S_S8704x1 (constant Cert.RefNormIdeal.S_ .f32 0x3727C5AC#32)))))) (broadcastInDim Cert.RefNormIdeal.S8704x4096 ![0, 1] Cert.RefNormIdeal.Facts₀.bcast_S1x4096_S8704x4096_0_1 (broadcastInDim Cert.RefNormIdeal.S1x4096 ![1] Cert.RefNormIdeal.Facts₀.bcast_S4096_S1x4096_1 (shapeCast _ g Cert.RefNormIdeal.Facts₀.shapeCasts_S1x4096_S4096)))) (broadcastInDim Cert.RefNormIdeal.S8704x4096 ![0, 1] Cert.RefNormIdeal.Facts₀.bcast_S1x4096_S8704x4096_0_1 (broadcastInDim Cert.RefNormIdeal.S1x4096 ![1] Cert.RefNormIdeal.Facts₀.bcast_S4096_S1x4096_1 (shapeCast _ b Cert.RefNormIdeal.Facts₀.shapeCasts_S1x4096_S4096))) : FVec Ideal S8704x4096 .f32) = normed .f32 x g b := by
  funext i
  obtain ⟨r, s, rfl⟩ : ∃ (r : Fin 8704) (s : Fin 4096), i = ix2 r s := ⟨i 0, i 1, eq_ix2 i⟩
  unfold normed normRow mean
  pointwise []

end Cert.NormIdeal.Rows
end
end
-- ==== Proof.MemAttnValue.lean ====
module
public import proofs.«01_k».proof.Proof.Gen.MemAttnIdeal.Value
public import Idealize.ShloMosaic.Lib.Pipeline.ValueKit.Acc
public import Idealize.ShloMosaic.Lib.Pointwise
@[expose] public section
set_option maxRecDepth 16384

/-! # The memory attention of the prompt: four heads, block by block -/

noncomputable section
namespace Cert.MemAttnIdeal.Heads
open Cert.MemAttnIdeal Cert.MemAttnIdeal.Gen
open Idealize.ShloMosaic Idealize.ShloMosaic.TcCoe Idealize.ShloMosaic.Tactic Idealize.ShloMosaic.Pointwise
open Idealize.ShloMosaic.Pipeline (Dat)

variable (m : (ℓ : Loc nD τ sig) → Buf (Elt Ideal) ℓ) (c : Dev nD)

/-- The call's two arguments. -/
def z : FVec Ideal S8704x23040 .f32 := m ((c : Thread nD τ).loc main_arg0)
def memory : FVec Ideal S256x2048 .f32 := m ((c : Thread nD τ).loc main_arg1)

/-- A row of scores: the dot of the query with every key, scaled by 1/16. -/
def score (q : Fin 256 → EReal) (k : Fin 256 → Fin 256 → EReal) : Fin 256 → EReal :=
  fun x => (∑ e, q e * k x e) * Ideal.ofBits .f32 0x3D800000#32

/-- The greatest score of a row. -/
def top (s : Fin 256 → EReal) : EReal := Finset.univ.fold max (Ideal.ofBits .f32 0xFF800000#32) s

/-- The mean of the values `v` under the softmax of the scores `s`. -/
def soft (s v : Fin 256 → EReal) : EReal :=
  ∑ x, Ideal.div (Ideal.exp (s x - top s)) (∑ y, Ideal.exp (s y - top s)) * v x

/-- The attention, entry by entry: column `256 h + d` is entry `d` of head `h`. -/
def attention (z : FVec Ideal S8704x23040 .f32) (w : FVec Ideal S256x2048 .f32) : FVec Ideal S1x8192x1024 .bf16 :=
  fun i => soft (score (fun e => z (ix2 ⟨(i 1).val, Nat.lt_of_lt_of_le (i 1).isLt (by decide)⟩ ⟨9216 + ((i 2).val / 256 * 256 + e.val), by
      have h : (i 2).val < 1024 := (i 2).isLt
      omega⟩)) (fun x e => w (ix2 x ⟨(i 2).val / 256 * 256 + e.val, by
      have h : (i 2).val < 1024 := (i 2).isLt
      omega⟩))) (fun x => w (ix2 x ⟨1024 + (i 2).val, by
      have h : (i 2).val < 1024 := (i 2).isLt
      omega⟩))

theorem soft_congr {q q' : Fin 256 → EReal} {k k' : Fin 256 → Fin 256 → EReal} {v v' : Fin 256 → EReal}
    (hq : ∀ e, q e = q' e) (hk : ∀ x e, k x e = k' x e) (hv : ∀ x, v x = v' x) : soft (score q k) v = soft (score q' k') v' := by
  obtain rfl : q = q' := funext hq
  obtain rfl : k = k' := funext fun x => funext (hk x)
  obtain rfl : v = v' := funext hv
  rfl

/-- One head of a block, of its queries, keys and values. -/
def head (q : FVec Ideal S1x512x256 .f32) (k v : FVec Ideal S1x256x256 .f32) (r : Fin 512) (d : Fin 256) : EReal :=
  soft (score (fun e => q (ix3 0 r e)) (fun x e => k (ix3 0 x e))) (fun x => v (ix3 0 x d))

theorem head0 (q : FVec Ideal S1x512x256 .f32) (k v : FVec Ideal S1x256x256 .f32) (r : Fin 512) (d : Fin 256) :
    (k0_pay2 (F := Ideal) q k v (ix3 0 r d) : EReal) = head q k v r d := by
  unfold head soft top score
  pointwise [k0_pay2]
theorem head1 (q : FVec Ideal S1x512x256 .f32) (k v : FVec Ideal S1x256x256 .f32) (r : Fin 512) (d : Fin 256) :
    (k0_pay5 (F := Ideal) (k0_pay3 q) (k0_pay4 k) v (ix3 0 r d) : EReal) = head q k v r d := by
  unfold head soft top score
  pointwise [k0_pay5, k0_pay3, k0_pay4]
theorem head2 (q : FVec Ideal S1x512x256 .f32) (k v : FVec Ideal S1x256x256 .f32) (r : Fin 512) (d : Fin 256) :
    (k0_pay8 (F := Ideal) (k0_pay6 v) (k0_pay7 q k) (ix3 0 r d) : EReal) = head q k v r d := by
  unfold head soft top score
  pointwise [k0_pay8, k0_pay6, k0_pay7]
theorem head3 (q : FVec Ideal S1x512x256 .f32) (k v : FVec Ideal S1x256x256 .f32) (r : Fin 512) (d : Fin 256) :
    (k0_pay1 (F := Ideal) (k0_pay9 q k v) (ix3 0 r d) : EReal) = head q k v r d := by
  unfold head soft top score
  pointwise [k0_pay1, k0_pay9]

/-- A whole block of the result, of its block of queries and all keys and values. -/
def block (q : FVec Ideal S1x512x1024 .f32) (k v : FVec Ideal S1x256x1024 .f32) : S1x512x1024.Idx → EReal :=
  fun y => soft (score (fun e => q (ix3 0 (y 1) ⟨(y 2).val / 256 * 256 + e.val, by
      have h : (y 2).val < 1024 := (y 2).isLt
      omega⟩)) (fun x e => k (ix3 0 x ⟨(y 2).val / 256 * 256 + e.val, by
      have h : (y 2).val < 1024 := (y 2).isLt
      omega⟩))) (fun x => v (ix3 0 x (y 2)))

/-- A head computed from the columns at `o` is the block's columns at `o`. -/
theorem piece (o : ℕ) (ho : o % 256 = 0) (inq : ∀ a, (![0, 0, o] : Fin 3 → ℕ) a + S1x512x256.size a ≤ S1x512x1024.size a)
    (ink : ∀ a, (![0, 0, o] : Fin 3 → ℕ) a + S1x256x256.size a ≤ S1x256x1024.size a)
    (q : FVec Ideal S1x512x1024 .f32) (k v : FVec Ideal S1x256x1024 .f32) (r : Fin 512) (d : Fin 256) :
    head (View.ld (Val := Elt Ideal) (e' := .f32) q (Rect.unit (s := S1x512x1024) ![0, 0, o] S1x512x256.size inq)) (View.ld (Val := Elt Ideal) (e' := .f32) k (Rect.unit (s := S1x256x1024) ![0, 0, o] S1x256x256.size ink))
      (View.ld (Val := Elt Ideal) (e' := .f32) v (Rect.unit (s := S1x256x1024) ![0, 0, o] S1x256x256.size ink)) r d
    = block q k v ((Rect.unit (s := S1x512x1024) ![0, 0, o] S1x512x256.size inq).emb (ix3 0 r d : S1x512x256.Idx)) := by
  unfold head block
  refine soft_congr (fun e => congrArg q (funext fun a => Fin.ext ?_)) (fun x e => congrArg k (funext fun a => Fin.ext ?_)) (fun x => congrArg v (funext fun a => Fin.ext ?_))
  · match a with
    | ⟨0, _⟩ => rfl
    | ⟨1, _⟩ => rfl
    | ⟨2, _⟩ => show o + 1 * e.val = (o + 1 * d.val) / 256 * 256 + e.val; omega
  · match a with
    | ⟨0, _⟩ => rfl
    | ⟨1, _⟩ => show 0 + 1 * x.val = x.val; omega
    | ⟨2, _⟩ => show o + 1 * e.val = (o + 1 * d.val) / 256 * 256 + e.val; omega
  · match a with
    | ⟨0, _⟩ => rfl
    | ⟨1, _⟩ => show 0 + 1 * x.val = x.val; omega
    | ⟨2, _⟩ => rfl

theorem block_at (t : Fin cfg0.N) (y : S1x512x1024.Idx) : (outsAt0 m c t y : EReal) = block (X0_0 m c t) (iblk m c 1 t) (iblk m c 2 t) y := by
  unfold outsAt0
  frame_out
  refine View.canon_apply_of_pieces (Val := Elt Ideal) (e := .bf16) (block (X0_0 m c t) (iblk m c 1 t) (iblk m c 2 t)) _ ?_ y ?_
  · intro p hp x
    simp only [List.mem_cons, List.not_mem_nil, or_false] at hp
    rcases hp with rfl | rfl | rfl | rfl
    all_goals obtain ⟨r, d, rfl⟩ : ∃ (r : Fin 512) (d : Fin 256), x = (ix3 0 r d : S1x512x256.Idx) := ⟨x 1, x 2, (eq_ix3 x).trans (congrArg (fun u => ix3 u (x 1) (x 2)) (Subsingleton.elim (α := Fin 1) _ _))⟩
    · exact (head3 _ _ _ r d).trans (piece 768 rfl _ _ _ _ _ r d)
    · exact (head2 _ _ _ r d).trans (piece 512 rfl _ _ _ _ _ r d)
    · exact (head1 _ _ _ r d).trans (piece 256 rfl _ _ _ _ _ r d)
    · exact (head0 _ _ _ r d).trans (piece 0 rfl _ _ _ _ _ r d)
  · have h : (y 2).val < 1024 := (y 2).isLt
    have h0 : (y 0).val < 1 := (y 0).isLt
    have h1 : (y 1).val < 512 := (y 1).isLt
    have key : ∀ (o : ℕ) (inq : ∀ a, (![0, 0, o] : Fin 3 → ℕ) a + S1x512x256.size a ≤ S1x512x1024.size a), o ≤ (y 2).val → (y 2).val < o + 256 →
        y ∈ (Rect.unit (s := S1x512x1024) ![0, 0, o] S1x512x256.size inq).set := by
      intro o inq hl hu
      refine Rect.mem_set_unit.mpr fun a => ?_
      match a with
      | ⟨0, _⟩ => exact ⟨Nat.zero_le _, show (y 0).val < 0 + 1 by omega⟩
      | ⟨1, _⟩ => exact ⟨Nat.zero_le _, show (y 1).val < 0 + 512 by omega⟩
      | ⟨2, _⟩ => exact ⟨hl, hu⟩
    rcases (by omega : 768 ≤ (y 2).val ∨ (512 ≤ (y 2).val ∧ (y 2).val < 768) ∨ (256 ≤ (y 2).val ∧ (y 2).val < 512) ∨ (y 2).val < 256) with u | u | u | u
    · exact ⟨_, .head _, key 768 inb_S1x512x1024_S1x512x256_0_0_768 u (by omega)⟩
    · exact ⟨_, .tail _ (.head _), key 512 inb_S1x512x1024_S1x512x256_0_0_512 u.1 (by omega)⟩
    · exact ⟨_, .tail _ (.tail _ (.head _)), key 256 inb_S1x512x1024_S1x512x256_0_0_256 u.1 (by omega)⟩
    · exact ⟨_, .tail _ (.tail _ (.tail _ (.head _))), key 0 inb_S1x512x1024_S1x512x256_0_0_0 (Nat.zero_le _) (by omega)⟩

theorem query_entry (R : Fin 8704) (k : Fin 23040) : (V m c main_v0 : FVec Ideal S1x8704x23040 .f32) (ix3 0 R k) = z m c (ix2 R k) := by
  have e : (V m c main_v0 : FVec Ideal S1x8704x23040 .f32) = broadcastInDim S1x8704x23040 ![1, 2] bcast_S8704x23040_S1x8704x23040_1_2 (z m c) := by
    unfold_abbrev_sides
    after_results
    rfl
  rw [e]
  pointwise []
theorem key_entry (x : Fin 256) (k : Fin 2048) : (V m c main_v1 : FVec Ideal S1x256x2048 .f32) (ix3 0 x k) = memory m c (ix2 x k) := by
  have e : (V m c main_v1 : FVec Ideal S1x256x2048 .f32) = broadcastInDim S1x256x2048 ![1, 2] bcast_S256x2048_S1x256x2048_1_2 (memory m c) := by
    unfold_abbrev_sides
    after_results
    rfl
  rw [e]
  pointwise []
theorem value_entry (x : Fin 256) (k : Fin 2048) : (V m c main_v2 : FVec Ideal S1x256x2048 .f32) (ix3 0 x k) = memory m c (ix2 x k) := by
  have e : (V m c main_v2 : FVec Ideal S1x256x2048 .f32) = broadcastInDim S1x256x2048 ![1, 2] bcast_S256x2048_S1x256x2048_1_2 (memory m c) := by
    unfold_abbrev_sides
    after_results
    rfl
  rw [e]
  pointwise []

theorem place0 : ∀ t : Fin cfg0.N, win0_0.index t (0 : Fin 3) = 0 ∧ win0_0.index t (1 : Fin 3) = t.val ∧ win0_0.index t (2 : Fin 3) = 9 :=
  (by decide +kernel : ∀ t : Fin grid0.N, _)
theorem place1 : ∀ t : Fin cfg0.N, win0_1.index t (0 : Fin 3) = 0 ∧ win0_1.index t (1 : Fin 3) = 0 ∧ win0_1.index t (2 : Fin 3) = 0 :=
  (by decide +kernel : ∀ t : Fin grid0.N, _)
theorem place2 : ∀ t : Fin cfg0.N, win0_2.index t (0 : Fin 3) = 0 ∧ win0_2.index t (1 : Fin 3) = 0 ∧ win0_2.index t (2 : Fin 3) = 1 :=
  (by decide +kernel : ∀ t : Fin grid0.N, _)
theorem place3 : ∀ t : Fin cfg0.N, win0_3.index t (0 : Fin 3) = 0 ∧ win0_3.index t (1 : Fin 3) = t.val ∧ win0_3.index t (2 : Fin 3) = 0 :=
  (by decide +kernel : ∀ t : Fin grid0.N, _)

theorem query_at (t : Fin cfg0.N) (r : Fin 512) (k : Fin 1024) (R : Fin 8704) (K : Fin 23040) (h : R.val = t.val * 512 + r.val) (hK : K.val = 9216 + k.val) :
    X0_0 m c t (ix3 0 r k) = z m c (ix2 R K) := by
  obtain ⟨e0, e1, e2⟩ := place0 t
  unfold X0_0 Pipeline.Window.fill
  rw [dif_pos (moved0_0 t _)]
  refine Eq.trans (congrArg (V m c main_v0 : FVec Ideal S1x8704x23040 .f32) (funext fun a => Fin.ext ?_)) (query_entry m c R K)
  match a with
  | ⟨0, _⟩ => show win0_0.index t (0 : Fin 3) * 1 + 1 * 0 = 0; rw [e0]
  | ⟨1, _⟩ => show win0_0.index t (1 : Fin 3) * 512 + 1 * r.val = R.val; rw [e1]; omega
  | ⟨2, _⟩ => show win0_0.index t (2 : Fin 3) * 1024 + 1 * k.val = K.val; rw [e2]; omega
theorem key_at (t : Fin cfg0.N) (x : Fin 256) (k : Fin 1024) (K : Fin 2048) (hK : K.val = k.val) :
    (iblk m c 1 t : FVec Ideal S1x256x1024 .f32) (ix3 0 x k) = memory m c (ix2 x K) := by
  obtain ⟨e0, e1, e2⟩ := place1 t
  refine Eq.trans (congrArg (V m c main_v1 : FVec Ideal S1x256x2048 .f32) (funext fun a => Fin.ext ?_)) (key_entry m c x K)
  refine (Pipeline.Window.rect_emb_val win0_1 t (ix3 0 x k) a).trans ?_
  match a with
  | ⟨0, _⟩ => show win0_1.index t (0 : Fin 3) * 1 + 0 = 0; rw [e0]
  | ⟨1, _⟩ => show win0_1.index t (1 : Fin 3) * 256 + x.val = x.val; rw [e1]; omega
  | ⟨2, _⟩ => show win0_1.index t (2 : Fin 3) * 1024 + k.val = K.val; rw [e2]; omega
theorem value_at (t : Fin cfg0.N) (x : Fin 256) (k : Fin 1024) (K : Fin 2048) (hK : K.val = 1024 + k.val) :
    (iblk m c 2 t : FVec Ideal S1x256x1024 .f32) (ix3 0 x k) = memory m c (ix2 x K) := by
  obtain ⟨e0, e1, e2⟩ := place2 t
  refine Eq.trans (congrArg (V m c main_v2 : FVec Ideal S1x256x2048 .f32) (funext fun a => Fin.ext ?_)) (value_entry m c x K)
  refine (Pipeline.Window.rect_emb_val win0_2 t (ix3 0 x k) a).trans ?_
  match a with
  | ⟨0, _⟩ => show win0_2.index t (0 : Fin 3) * 1 + 0 = 0; rw [e0]
  | ⟨1, _⟩ => show win0_2.index t (1 : Fin 3) * 256 + x.val = x.val; rw [e1]; omega
  | ⟨2, _⟩ => show win0_2.index t (2 : Fin 3) * 1024 + k.val = K.val; rw [e2]; omega

/-- Where a point's block lies in the result. -/
theorem lies (t : Fin cfg0.N) (r : Fin 512) (s : Fin 1024) (a : Fin 3) :
    (((cfg0.win 3).blk t).view.emb (ix3 0 r s : S1x512x1024.Idx) a).val = (![0, t.val * 512 + r.val, s.val] : Fin 3 → ℕ) a := by
  obtain ⟨e0, e1, e2⟩ := place3 t
  refine (Pipeline.Window.rect_emb_val win0_3 t (ix3 0 r s) a).trans ?_
  match a with
  | ⟨0, _⟩ => show win0_3.index t (0 : Fin 3) * 1 + 0 = 0; rw [e0]
  | ⟨1, _⟩ => show win0_3.index t (1 : Fin 3) * 512 + r.val = t.val * 512 + r.val; rw [e1]
  | ⟨2, _⟩ => show win0_3.index t (2 : Fin 3) * 1024 + s.val = s.val; rw [e2]; omega

theorem point (t : Fin cfg0.N) (r : Fin 512) (s : Fin 1024) (i : S1x8192x1024.Idx) (h1 : (i 1).val = t.val * 512 + r.val) (h2 : (i 2).val = s.val) :
    block (X0_0 m c t) (iblk m c 1 t) (iblk m c 2 t) (ix3 0 r s) = attention (z m c) (memory m c) i := by
  unfold block attention
  refine soft_congr (fun e => query_at m c t r _ _ _ h1 ?_) (fun x e => key_at m c t x _ _ ?_) (fun x => value_at m c t x s _ ?_)
  · show 9216 + ((i 2).val / 256 * 256 + e.val) = 9216 + (s.val / 256 * 256 + e.val); rw [h2]
  · show (i 2).val / 256 * 256 + e.val = s.val / 256 * 256 + e.val; rw [h2]
  · show 1024 + (i 2).val = 1024 + s.val; rw [h2]

theorem unit_index {a b : ℕ} (y : (⟨3, ![1, a, b]⟩ : Shape).Idx) : y = ix3 0 (y 1) (y 2) :=
  (eq_ix3 y).trans (congrArg (fun u => ix3 u (y 1) (y 2)) (Subsingleton.elim (α := Fin 1) _ _))

theorem written (t : Fin cfg0.N) : (dats m 0 c).flushed 3 t = ((cfg0.win 3).blk t).view.read (Elt Ideal) (attention (z m c) (memory m c)) := by
  rw [Value.flushed3]
  funext y
  obtain ⟨r, s, rfl⟩ : ∃ (r : Fin 512) (s : Fin 1024), y = ix3 0 r s := ⟨y 1, y 2, unit_index y⟩
  show (outsAt0 m c t (ix3 0 r s) : EReal) = attention (z m c) (memory m c) (((cfg0.win 3).blk t).view.emb (ix3 0 r s))
  exact (block_at m c t _).trans (point m c t r s _ (lies t r s 1) (lies t r s 2))

theorem covered (i : S1x8192x1024.Idx) : ∃ t : Fin cfg0.N, (cfg0.win 3).flush t = true ∧ i ∈ ((cfg0.win 3).blk t).view.set := by
  have h0 : (i 0).val < 1 := (i 0).isLt
  have h1 : (i 1).val < 8192 := (i 1).isLt
  obtain ⟨t, ht⟩ : ∃ t : Fin cfg0.N, t.val = (i 1).val / 512 := ⟨⟨(i 1).val / 512, lt_of_lt_of_eq (by omega) N_0.symm⟩, rfl⟩
  refine ⟨t, flush0_3 t, ?_⟩
  have e : ((cfg0.win 3).blk t).view.emb (ix3 0 ⟨(i 1).val % 512, by omega⟩ (i 2) : S1x512x1024.Idx) = i := by
    funext a
    refine Fin.ext ((lies t _ _ a).trans ?_)
    match a with
    | ⟨0, _⟩ => show 0 = (i 0).val; omega
    | ⟨1, _⟩ => show t.val * 512 + (i 1).val % 512 = (i 1).val; omega
    | ⟨2, _⟩ => rfl
  have hm := View.emb_mem_set ((cfg0.win 3).blk t).view (ix3 0 ⟨(i 1).val % 512, by omega⟩ (i 2) : S1x512x1024.Idx)
  rwa [e] at hm

/-- The kernel's array is the attention. -/
theorem final : (dats m 0 c).arrAt 3 cfg0.N = attention (z m c) (memory m c) :=
  (dats m 0 c).arrAt_eq_of_cover 3 _ (fun t _ => written m c t) covered

theorem top_max (s : Fin 256 → EReal) : max (Ideal.ofBits .f32 0xFF800000#32) (top s) = top s :=
  max_eq_right ((Finset.le_fold_max _).mpr (Or.inl le_rfl))

/-- The softmax mean as the reference writes it: the weights on the right, and the greatest score once more against the least value. -/
theorem soft_plain (s v : Fin 256 → EReal) : soft s v = ∑ x, v x * Ideal.div (Ideal.exp (s x - max (Ideal.ofBits .f32 0xFF800000#32) (top s)))
    (∑ y, Ideal.exp (s y - max (Ideal.ofBits .f32 0xFF800000#32) (top s))) := by
  rw [top_max]
  exact Finset.sum_congr rfl fun x _ => mul_comm _ _

end Cert.MemAttnIdeal.Heads
end
end
-- ==== Proof.MemAttnPlain.lean ====
module
public import proofs.«01_k».proof.Proof.MemAttnValue
public import proofs.«01_k».proof.Proof.Gen.RefMemAttnIdeal.Run
public import Idealize.ShloMosaic.Lib.Pointwise
@[expose] public section
set_option maxRecDepth 16384

/-! # The memory attention of the prompt: the reference's softmax attention, step by step -/

noncomputable section
namespace Cert.RefMemAttnIdeal.Heads
open Cert.RefMemAttnIdeal Cert.RefMemAttnIdeal.Gen
open Idealize.ShloMosaic Idealize.ShloMosaic.TcCoe Idealize.ShloMosaic.Tactic Idealize.ShloMosaic.Pointwise
open Cert.MemAttnIdeal.Heads (score soft top attention soft_plain unit_index)

/-- The queries, by head, and the keys. -/
def queries (x : FVec Ideal S8704x23040 .f32) : FVec Ideal S1x8192x4x256 .f32 :=
  shapeCast _ (broadcastInDim S1x8192x1024 ![1, 2] bcast_S8192x1024_S1x8192x1024_1_2 (extractStridedSlice S8192x1024 ![0, 9216] x slices_S8704x23040_S8192x1024_0_9216)) shapeCasts_S1x8192x1024_S1x8192x4x256
def keys (w : FVec Ideal S256x2048 .f32) : FVec Ideal S1x256x4x256 .f32 :=
  shapeCast _ (broadcastInDim S1x256x1024 ![1, 2] bcast_S256x1024_S1x256x1024_1_2 (extractStridedSlice S256x1024 ![0, 0] w slices_S256x2048_S256x1024_0_0)) shapeCasts_S1x256x1024_S1x256x4x256

/-- The scaled scores of every head, query and key. -/
def scores (q : FVec Ideal S1x8192x4x256 .f32) (k : FVec Ideal S1x256x4x256 .f32) : FVec Ideal S1x4x8192x256 .f32 :=
  mulf (Host.dotGeneral dot_S1x8192x4x256_S1x256x4x256_S1x4x8192x256_3_3_1_1_02_02 none q k)
    (broadcastInDim S1x4x8192x256 ![] bcast_S_S1x4x8192x256 (constant S_ .f32 0x3D800000#32))

/-- The greatest score of every row. -/
def tops (s : FVec Ideal S1x4x8192x256 .f32) : FVec Ideal S1x4x8192 .f32 :=
  Host.reduce FloatOps.maximumf s (constant S_ .f32 0xFF800000#32) reducesTo_S1x4x8192x256_S1x4x8192_d3 h_S_

/-- The exponentials of the scores after a row's number, no less than -∞, is taken off. -/
def lifted (s : FVec Ideal S1x4x8192x256 .f32) (t : FVec Ideal S1x4x8192 .f32) : FVec Ideal S1x4x8192x256 .f32 :=
  Host.exp (subf s (broadcastInDim S1x4x8192x256 ![0, 1, 2, 3] bcast_S1x4x8192x1_S1x4x8192x256_0_1_2_3 (broadcastInDim S1x4x8192x1 ![0, 1, 2] bcast_S1x4x8192_S1x4x8192x1_0_1_2
    (maximumf (broadcastInDim S1x4x8192 ![] bcast_S_S1x4x8192 (constant S_ .f32 0xFF800000#32)) t))))

/-- The weights: each exponential over its row's sum. -/
def weights (u : FVec Ideal S1x4x8192x256 .f32) : FVec Ideal S1x4x8192x256 .f32 :=
  Host.divf u (broadcastInDim S1x4x8192x256 ![0, 1, 2, 3] bcast_S1x4x8192x1_S1x4x8192x256_0_1_2_3 (broadcastInDim S1x4x8192x1 ![0, 1, 2] bcast_S1x4x8192_S1x4x8192x1_0_1_2
    (Host.reduceAdd u (constant S_ .f32 0x00000000#32) reducesTo_S1x4x8192x256_S1x4x8192_d3 h_S_)))

/-- The weighted values, the heads side by side. -/
def mixed (p : FVec Ideal S1x4x8192x256 .f32) (w : FVec Ideal S256x2048 .f32) : FVec Ideal S1x8192x1024 .bf16 :=
  truncf .bf16 (shapeCast _ (transpose S1x8192x4x256 [0, 3, 1, 2] (Host.dotGeneral (F := Ideal) dot_S1x256x4x256_S1x4x8192x256_S1x4x256x8192_1_3_3_2_02_01 none
      (shapeCast _ (broadcastInDim S1x256x1024 ![1, 2] bcast_S256x1024_S1x256x1024_1_2 (extractStridedSlice S256x1024 ![0, 1024] w slices_S256x2048_S256x1024_0_1024)) shapeCasts_S1x256x1024_S1x256x4x256) p)
    transposes_S1x4x256x8192_S1x8192x4x256_0_3_1_2) shapeCasts_S1x8192x4x256_S1x8192x1024) bitsLt_bf16_f32

theorem steps (m : (ℓ : Loc nD τ sig) → Buf (Elt Ideal) ℓ) (c : Dev nD) :
    Value.res_main_v26 (F := Ideal) m c = mixed (weights (lifted (scores (queries (m ((c.tc : Thread nD τ).loc main_arg0))) (keys (m ((c.tc : Thread nD τ).loc main_arg1))))
      (tops (scores (queries (m ((c.tc : Thread nD τ).loc main_arg0))) (keys (m ((c.tc : Thread nD τ).loc main_arg1))))))) (m ((c.tc : Thread nD τ).loc main_arg1)) := by
  unfold Value.res_main_v26 mixed weights lifted tops scores queries keys
  rfl

theorem queries_at (x : FVec Ideal S8704x23040 .f32) (r : Fin 8192) (h : Fin 4) (e : Fin 256) :
    (queries x (ix4 0 r h e) : EReal) = x (ix2 ⟨r.val, by omega⟩ ⟨9216 + (h.val * 256 + e.val), by omega⟩) := by
  pointwise [queries]
theorem keys_at (w : FVec Ideal S256x2048 .f32) (j : Fin 256) (h : Fin 4) (e : Fin 256) :
    (keys w (ix4 0 j h e) : EReal) = w (ix2 j ⟨h.val * 256 + e.val, by omega⟩) := by
  pointwise [keys]
theorem scores_at (q : FVec Ideal S1x8192x4x256 .f32) (k : FVec Ideal S1x256x4x256 .f32) (h : Fin 4) (r : Fin 8192) (j : Fin 256) :
    (scores q k (ix4 0 h r j) : EReal) = score (fun e => q (ix4 0 r h e)) (fun j e => k (ix4 0 j h e)) j := by
  show _ = (∑ e : Fin 256, (q (ix4 0 r h e) * k (ix4 0 j h e) : EReal)) * Ideal.ofBits .f32 0x3D800000#32
  pointwise [scores]

theorem tops_at (s : FVec Ideal S1x4x8192x256 .f32) (h : Fin 4) (r : Fin 8192) :
    (tops s (ix3 0 h r) : EReal) = top fun y => s (ix4 0 h r y) := by
  unfold top
  pointwise [tops]

theorem lifted_at (s : FVec Ideal S1x4x8192x256 .f32) (t : FVec Ideal S1x4x8192 .f32) (h : Fin 4) (r : Fin 8192) (j : Fin 256) :
    (lifted s t (ix4 0 h r j) : EReal)
      = Ideal.exp (s (ix4 0 h r j) - max (Ideal.ofBits .f32 0xFF800000#32) (t (ix3 0 h r))) := by
  pointwise [lifted]

theorem weights_at (u : FVec Ideal S1x4x8192x256 .f32) (h : Fin 4) (r : Fin 8192) (j : Fin 256) :
    (weights u (ix4 0 h r j) : EReal) = Ideal.div (u (ix4 0 h r j)) (∑ y : Fin 256, u (ix4 0 h r y)) := by
  pointwise [weights]

theorem mixed_at (p : FVec Ideal S1x4x8192x256 .f32) (w : FVec Ideal S256x2048 .f32) (r : Fin 8192) (e : Fin 1024) :
    (mixed p w (ix3 0 r e) : EReal) = ∑ j : Fin 256, w (ix2 j ⟨1024 + e.val, by omega⟩) * p (ix4 0 ⟨e.val / 256, by omega⟩ r j) := by
  pointwise [mixed]

/-- The weights of scores `s` whose row is `t`. -/
theorem weights_soft (s : FVec Ideal S1x4x8192x256 .f32) (t : Fin 256 → EReal) (h : Fin 4) (r : Fin 8192) (ht : ∀ j, (s (ix4 0 h r j) : EReal) = t j) (j : Fin 256) :
    (weights (lifted s (tops s)) (ix4 0 h r j) : EReal) = Ideal.div (Ideal.exp (t j - max (Ideal.ofBits .f32 0xFF800000#32) (top t)))
      (∑ y, Ideal.exp (t y - max (Ideal.ofBits .f32 0xFF800000#32) (top t))) := by
  obtain rfl : (fun j => (s (ix4 0 h r j) : EReal)) = t := funext ht
  have e : ∀ y : Fin 256, (lifted s (tops s) (ix4 0 h r y) : EReal)
      = Ideal.exp (s (ix4 0 h r y) - max (Ideal.ofBits .f32 0xFF800000#32) (top fun y => s (ix4 0 h r y))) := fun y => by
    rw [lifted_at, tops_at]
  exact (weights_at _ h r j).trans (congrArg₂ Ideal.div (e j) (Finset.sum_congr rfl fun y _ => e y))

/-- The reference's row of scores, of the arguments. -/
theorem scores_row (x : FVec Ideal S8704x23040 .f32) (w : FVec Ideal S256x2048 .f32) (h : Fin 4) (r : Fin 8192) (j : Fin 256) :
    (scores (queries x) (keys w) (ix4 0 h r j) : EReal)
      = score (fun e => x (ix2 ⟨r.val, by omega⟩ ⟨9216 + (h.val * 256 + e.val), by omega⟩)) (fun j e => w (ix2 j ⟨h.val * 256 + e.val, by omega⟩)) j :=
  (scores_at _ _ h r j).trans (congrArg (· * Ideal.ofBits .f32 0x3D800000#32)
    (Finset.sum_congr rfl fun e _ => congrArg₂ (· * ·) (queries_at x r h e) (keys_at w j h e)))

theorem attention_at (x : FVec Ideal S8704x23040 .f32) (w : FVec Ideal S256x2048 .f32) (r : Fin 8192) (e : Fin 1024) :
    (attention x w (ix3 0 r e) : EReal)
      = soft (score (fun k => x (ix2 ⟨r.val, by omega⟩ ⟨9216 + (e.val / 256 * 256 + k.val), by omega⟩)) (fun j k => w (ix2 j ⟨e.val / 256 * 256 + k.val, by omega⟩)))
          (fun j => w (ix2 j ⟨1024 + e.val, by omega⟩)) := by
  unfold attention
  rfl

/-- The reference's array is the attention too. -/
theorem plain (x : FVec Ideal S8704x23040 .f32) (w : FVec Ideal S256x2048 .f32) :
    mixed (weights (lifted (scores (queries x) (keys w)) (tops (scores (queries x) (keys w))))) w = attention x w := by
  funext i
  obtain ⟨r, e, rfl⟩ : ∃ (r : Fin 8192) (e : Fin 1024), i = ix3 0 r e := ⟨i 1, i 2, unit_index i⟩
  refine (mixed_at _ w r e).trans (Eq.trans ?_ ((attention_at x w r e).trans (soft_plain _ _)).symm)
  exact Finset.sum_congr rfl fun j _ => congrArg (HMul.hMul (α := EReal) (β := EReal) _) (weights_soft _ _ ⟨e.val / 256, by omega⟩ r (scores_row x w ⟨e.val / 256, by omega⟩ r) j)

end Cert.RefMemAttnIdeal.Heads
end
end
-- ==== Proof.lean ====
module

public import proofs.«01_k».proof.Defs
public import proofs.«01_k».proof.Proof.Gen.HgrnP
public import proofs.«01_k».proof.Proof.Gen.HgrnP.Skeleton
public import proofs.«01_k».proof.Proof.Gen.HgrnP.Launch
public import proofs.«01_k».proof.Proof.Gen.HgrnP.Points
public import proofs.«01_k».proof.Proof.Gen.HgrnP.Frame
public import proofs.«01_k».proof.Proof.Gen.HgrnPIdeal.Value
public import proofs.«01_k».proof.Proof.RefLoop
public import proofs.«01_k».proof.Proof.Equal
public import proofs.«01_k».proof.Proof.Gen.Pre_decay_bounded
public import proofs.«01_k».proof.Proof.Gen.RefPIdeal.Run
public import proofs.«01_k».proof.Proof.Gen.HgrnPIdeal
public import proofs.«01_k».proof.Proof.Gen.HgrnPIdeal.Skeleton
public import proofs.«01_k».proof.Proof.Gen.HgrnPIdeal.Launch
public import proofs.«01_k».proof.Proof.Gen.HgrnPIdeal.Points
public import proofs.«01_k».proof.Proof.Gen.HgrnPIdeal.Frame
public import proofs.«01_k».proof.Proof.Gen.RefPIdeal
public import Idealize.ShloMosaic.Adequacy
public import Idealize.ShloMosaic.Init
public import proofs.«01_k».proof.Proof.Gen.MemKv.Frame
public import proofs.«01_k».proof.Proof.MemKvValue
public import proofs.«01_k».proof.Proof.Gen.ProjIn.Frame
public import proofs.«01_k».proof.Proof.ProjInValue
public import proofs.«01_k».proof.Proof.Gen.PeerQuery.Frame
public import proofs.«01_k».proof.Proof.PeerQueryValue
public import proofs.«01_k».proof.Proof.Gen.Merge.Frame
public import proofs.«01_k».proof.Proof.MergeValue
public import proofs.«01_k».proof.Proof.Gen.Resid.Frame
public import proofs.«01_k».proof.Proof.ResidValue
public import proofs.«01_k».proof.Proof.Gen.Norm.Frame
public import proofs.«01_k».proof.Proof.NormValue
public import proofs.«01_k».proof.Proof.Gen.MemAttn.Frame
public import proofs.«01_k».proof.Proof.MemAttnValue
public import proofs.«01_k».proof.Proof.MemAttnPlain
@[expose] public section

noncomputable section

namespace Cert.Proof

open Idealize.ShloMosaic Idealize.SL.Sem Cert.HgrnP

/-- The prompt's recurrence: both programs end with the same two arrays. -/
theorem hgrn : @algebraic_HgrnPIdeal_RefPIdeal_pre_decay_bounded Cert.HgrnPIdeal.Gen.facts Cert.RefPIdeal.Gen.facts Cert.Pre_decay_bounded.Gen.facts := by
  intro m g m' g' hpre hargs
  refine ⟨fun c => Cert.HgrnPIdeal.Value.G7 m c, fun c => Cert.HgrnPIdeal.Value.G8 m c, Cert.HgrnPIdeal.Value.run m g, ?_⟩
  refine θ_run_mono (Cert.RefPIdeal.Loop.run m' g') ?_
  intro r hr c
  obtain ⟨e0, e1, e2⟩ := hargs c
  obtain ⟨h0, h1, ha⟩ := hr c
  letI := Cert.Pre_decay_bounded.Gen.facts
  refine ⟨h0.trans (Cert.Hgrn.equal7 m m' c e0 e1 e2 (Cert.Hgrn.bounded_of _ _ _ (hpre c))), h1.trans (Cert.Hgrn.equal8 m m' c e0 e1), ha⟩

/-- The reference's frame: its run ends with the arguments unchanged, and it declares no semaphore. -/
theorem reference_frame (m : (ℓ : Loc Cert.RefPIdeal.nD Cert.RefPIdeal.τ Cert.RefPIdeal.sig) → Buf (Elt Ideal) ℓ) (ρ : Dev Cert.RefPIdeal.nD → PrngReg) :
    θ_run (Cert.RefPIdeal.defs (F := Ideal)) (onTc (τ := Cert.RefPIdeal.τ) (Cert.RefPIdeal.main (F := Ideal))) ⟨m, fun _ => 0, ρ⟩ (fun r => (∀ c : Dev Cert.RefPIdeal.nD,
      r.2.mem ((c.tc : Thread Cert.RefPIdeal.nD Cert.RefPIdeal.τ).loc Cert.RefPIdeal.main_arg0) = m ((c.tc : Thread Cert.RefPIdeal.nD Cert.RefPIdeal.τ).loc Cert.RefPIdeal.main_arg0)
      ∧ r.2.mem ((c.tc : Thread Cert.RefPIdeal.nD Cert.RefPIdeal.τ).loc Cert.RefPIdeal.main_arg1) = m ((c.tc : Thread Cert.RefPIdeal.nD Cert.RefPIdeal.τ).loc Cert.RefPIdeal.main_arg1)
      ∧ r.2.mem ((c.tc : Thread Cert.RefPIdeal.nD Cert.RefPIdeal.τ).loc Cert.RefPIdeal.main_arg2) = m ((c.tc : Thread Cert.RefPIdeal.nD Cert.RefPIdeal.τ).loc Cert.RefPIdeal.main_arg2))
      ∧ r.2.sem = fun _ => 0) :=
  θ_run_mono (Cert.RefPIdeal.Loop.run m ρ) fun r h => ⟨fun c => (h c).2.2, sem_eq_zero_of_no_sems (by decide) r.2⟩

/-- Kernel and reference of the memory keys and values end with the same results. -/
theorem memkv : @algebraic_MemKvIdeal_RefMemKvIdeal Cert.MemKvIdeal.Gen.facts Cert.RefMemKvIdeal.Gen.facts := by
  intro m g m' g' _ hargs
  refine ⟨fun c => Cert.MemKvIdeal.Product.product (Cert.MemKvIdeal.Product.memory m c) (Cert.MemKvIdeal.Product.weight m c),
    θ_run_mono (Cert.MemKvIdeal.Value.run_blocks m g) fun r h c => ⟨(h c).1.trans (Cert.MemKvIdeal.Product.final m c), (h c).2⟩, θ_run_mono (Cert.RefMemKvIdeal.Value.run m' g') fun r h c => ?_⟩
  obtain ⟨e0, e1⟩ := hargs c
  exact ⟨(h c).1.trans ((Cert.MemKvIdeal.Product.plain _ _).trans (congrArg₂ (Cert.MemKvIdeal.Product.product) e0 e1)),
    (h c).2⟩

theorem memkv_reference (m : (ℓ : Loc Cert.RefMemKvIdeal.nD Cert.RefMemKvIdeal.τ Cert.RefMemKvIdeal.sig) → Buf (Elt Ideal) ℓ) (ρ : Dev Cert.RefMemKvIdeal.nD → PrngReg) :
    θ_run (Cert.RefMemKvIdeal.defs (F := Ideal)) (onTc (τ := Cert.RefMemKvIdeal.τ) (Cert.RefMemKvIdeal.main (F := Ideal))) ⟨m, fun _ => 0, ρ⟩ (fun r => (∀ c : Dev Cert.RefMemKvIdeal.nD,
      r.2.mem ((c.tc : Thread Cert.RefMemKvIdeal.nD Cert.RefMemKvIdeal.τ).loc Cert.RefMemKvIdeal.main_arg0) = m ((c.tc : Thread Cert.RefMemKvIdeal.nD Cert.RefMemKvIdeal.τ).loc Cert.RefMemKvIdeal.main_arg0)
      ∧ r.2.mem ((c.tc : Thread Cert.RefMemKvIdeal.nD Cert.RefMemKvIdeal.τ).loc Cert.RefMemKvIdeal.main_arg1) = m ((c.tc : Thread Cert.RefMemKvIdeal.nD Cert.RefMemKvIdeal.τ).loc Cert.RefMemKvIdeal.main_arg1))
      ∧ r.2.sem = fun _ => 0) :=
  θ_run_mono (Cert.RefMemKvIdeal.Value.run m ρ) fun r h => ⟨fun c => (h c).2, sem_eq_zero_of_no_sems (by decide) r.2⟩

/-- Kernel and reference of the input projection and the two cast tables end with the same results. -/
theorem projin : @algebraic_ProjInIdeal_RefProjInIdeal Cert.ProjInIdeal.Gen.facts Cert.RefProjInIdeal.Gen.facts := by
  intro m g m' g' _ hargs
  refine ⟨fun c => Cert.ProjInIdeal.Product.product (Cert.ProjInIdeal.Product.prompt m c) (Cert.ProjInIdeal.Product.sample m c) (Cert.ProjInIdeal.Product.weight m c), fun c => Cert.ProjInIdeal.Product.table (Cert.ProjInIdeal.Product.tableU m c), fun c => Cert.ProjInIdeal.Product.table (Cert.ProjInIdeal.Product.tableV m c),
    θ_run_mono (Cert.ProjInIdeal.Value.run_blocks m g) fun r h c => ⟨(h c).1.trans (Cert.ProjInIdeal.Product.final4 m c), (h c).2.1.trans (Cert.ProjInIdeal.Product.final5 m c), (h c).2.2.1.trans (Cert.ProjInIdeal.Product.final6 m c), (h c).2.2.2⟩, θ_run_mono (Cert.RefProjInIdeal.Value.run m' g') fun r h c => ?_⟩
  obtain ⟨e0, e1, e2, e3, e4⟩ := hargs c
  exact ⟨(h c).1.trans ((Cert.ProjInIdeal.Product.plain _ _ _).trans (by
      unfold Cert.ProjInIdeal.Product.prompt Cert.ProjInIdeal.Product.sample Cert.ProjInIdeal.Product.weight
      beta_reduce
      rw [← e0, ← e1, ← e2] <;> rfl)),
    (h c).2.1.trans ((Cert.ProjInIdeal.Product.plain_table _).trans (congrArg Cert.ProjInIdeal.Product.table e3)),
    (h c).2.2.1.trans ((Cert.ProjInIdeal.Product.plain_table _).trans (congrArg Cert.ProjInIdeal.Product.table e4)),
    (h c).2.2.2⟩

theorem projin_reference (m : (ℓ : Loc Cert.RefProjInIdeal.nD Cert.RefProjInIdeal.τ Cert.RefProjInIdeal.sig) → Buf (Elt Ideal) ℓ) (ρ : Dev Cert.RefProjInIdeal.nD → PrngReg) :
    θ_run (Cert.RefProjInIdeal.defs (F := Ideal)) (onTc (τ := Cert.RefProjInIdeal.τ) (Cert.RefProjInIdeal.main (F := Ideal))) ⟨m, fun _ => 0, ρ⟩ (fun r => (∀ c : Dev Cert.RefProjInIdeal.nD,
      r.2.mem ((c.tc : Thread Cert.RefProjInIdeal.nD Cert.RefProjInIdeal.τ).loc Cert.RefProjInIdeal.main_arg0) = m ((c.tc : Thread Cert.RefProjInIdeal.nD Cert.RefProjInIdeal.τ).loc Cert.RefProjInIdeal.main_arg0)
      ∧ r.2.mem ((c.tc : Thread Cert.RefProjInIdeal.nD Cert.RefProjInIdeal.τ).loc Cert.RefProjInIdeal.main_arg1) = m ((c.tc : Thread Cert.RefProjInIdeal.nD Cert.RefProjInIdeal.τ).loc Cert.RefProjInIdeal.main_arg1)
      ∧ r.2.mem ((c.tc : Thread Cert.RefProjInIdeal.nD Cert.RefProjInIdeal.τ).loc Cert.RefProjInIdeal.main_arg2) = m ((c.tc : Thread Cert.RefProjInIdeal.nD Cert.RefProjInIdeal.τ).loc Cert.RefProjInIdeal.main_arg2)
      ∧ r.2.mem ((c.tc : Thread Cert.RefProjInIdeal.nD Cert.RefProjInIdeal.τ).loc Cert.RefProjInIdeal.main_arg3) = m ((c.tc : Thread Cert.RefProjInIdeal.nD Cert.RefProjInIdeal.τ).loc Cert.RefProjInIdeal.main_arg3)
      ∧ r.2.mem ((c.tc : Thread Cert.RefProjInIdeal.nD Cert.RefProjInIdeal.τ).loc Cert.RefProjInIdeal.main_arg4) = m ((c.tc : Thread Cert.RefProjInIdeal.nD Cert.RefProjInIdeal.τ).loc Cert.RefProjInIdeal.main_arg4))
      ∧ r.2.sem = fun _ => 0) :=
  θ_run_mono (Cert.RefProjInIdeal.Value.run m ρ) fun r h => ⟨fun c => (h c).2.2.2, sem_eq_zero_of_no_sems (by decide) r.2⟩

/-- Kernel and reference of the retrieval queries end with the same results. -/
theorem peerquery : @algebraic_PeerQueryIdeal_RefPeerQueryIdeal Cert.PeerQueryIdeal.Gen.facts Cert.RefPeerQueryIdeal.Gen.facts := by
  intro m g m' g' _ hargs
  refine ⟨fun c => Cert.PeerQueryIdeal.Product.product (Cert.PeerQueryIdeal.Product.hidden m c) (Cert.PeerQueryIdeal.Product.weight m c),
    θ_run_mono (Cert.PeerQueryIdeal.Value.run_blocks m g) fun r h c => ⟨(h c).1.trans (Cert.PeerQueryIdeal.Product.final m c), (h c).2⟩, θ_run_mono (Cert.RefPeerQueryIdeal.Value.run m' g') fun r h c => ?_⟩
  obtain ⟨e0, e1⟩ := hargs c
  exact ⟨(h c).1.trans ((Cert.PeerQueryIdeal.Product.plain _ _).trans (congrArg₂ (Cert.PeerQueryIdeal.Product.product) e0 e1)),
    (h c).2⟩

theorem peerquery_reference (m : (ℓ : Loc Cert.RefPeerQueryIdeal.nD Cert.RefPeerQueryIdeal.τ Cert.RefPeerQueryIdeal.sig) → Buf (Elt Ideal) ℓ) (ρ : Dev Cert.RefPeerQueryIdeal.nD → PrngReg) :
    θ_run (Cert.RefPeerQueryIdeal.defs (F := Ideal)) (onTc (τ := Cert.RefPeerQueryIdeal.τ) (Cert.RefPeerQueryIdeal.main (F := Ideal))) ⟨m, fun _ => 0, ρ⟩ (fun r => (∀ c : Dev Cert.RefPeerQueryIdeal.nD,
      r.2.mem ((c.tc : Thread Cert.RefPeerQueryIdeal.nD Cert.RefPeerQueryIdeal.τ).loc Cert.RefPeerQueryIdeal.main_arg0) = m ((c.tc : Thread Cert.RefPeerQueryIdeal.nD Cert.RefPeerQueryIdeal.τ).loc Cert.RefPeerQueryIdeal.main_arg0)
      ∧ r.2.mem ((c.tc : Thread Cert.RefPeerQueryIdeal.nD Cert.RefPeerQueryIdeal.τ).loc Cert.RefPeerQueryIdeal.main_arg1) = m ((c.tc : Thread Cert.RefPeerQueryIdeal.nD Cert.RefPeerQueryIdeal.τ).loc Cert.RefPeerQueryIdeal.main_arg1))
      ∧ r.2.sem = fun _ => 0) :=
  θ_run_mono (Cert.RefPeerQueryIdeal.Value.run m ρ) fun r h => ⟨fun c => (h c).2, sem_eq_zero_of_no_sems (by decide) r.2⟩

/-- Kernel and reference of the gated merge end with the same results. -/
theorem merge : @algebraic_MergeIdeal_RefMergeIdeal Cert.MergeIdeal.Gen.facts Cert.RefMergeIdeal.Gen.facts := by
  intro m g m' g' _ hargs
  refine ⟨fun c => Cert.MergeIdeal.Product.merged (Cert.MergeIdeal.Product.actA m c) (Cert.MergeIdeal.Product.actB m c) (Cert.MergeIdeal.Product.actM m c) (Cert.MergeIdeal.Product.weightA m c) (Cert.MergeIdeal.Product.weightB m c) (Cert.MergeIdeal.Product.weightM m c) (Cert.MergeIdeal.Product.z m c),
    θ_run_mono (Cert.MergeIdeal.Value.run_blocks m g) fun r h c => ⟨(h c).1.trans (Cert.MergeIdeal.Product.final m c), (h c).2⟩, θ_run_mono (Cert.RefMergeIdeal.Value.run m' g') fun r h c => ?_⟩
  obtain ⟨e0, e1, e2, e3, e4, e5, e6⟩ := hargs c
  exact ⟨(h c).1.trans ((Cert.MergeIdeal.Product.plain _ _ _ _ _ _ _).trans (by
      unfold Cert.MergeIdeal.Product.actA Cert.MergeIdeal.Product.actB Cert.MergeIdeal.Product.actM Cert.MergeIdeal.Product.weightA Cert.MergeIdeal.Product.weightB Cert.MergeIdeal.Product.weightM Cert.MergeIdeal.Product.z
      beta_reduce
      rw [← e0, ← e1, ← e2, ← e3, ← e4, ← e5, ← e6] <;> rfl)),
    (h c).2⟩

theorem merge_reference (m : (ℓ : Loc Cert.RefMergeIdeal.nD Cert.RefMergeIdeal.τ Cert.RefMergeIdeal.sig) → Buf (Elt Ideal) ℓ) (ρ : Dev Cert.RefMergeIdeal.nD → PrngReg) :
    θ_run (Cert.RefMergeIdeal.defs (F := Ideal)) (onTc (τ := Cert.RefMergeIdeal.τ) (Cert.RefMergeIdeal.main (F := Ideal))) ⟨m, fun _ => 0, ρ⟩ (fun r => (∀ c : Dev Cert.RefMergeIdeal.nD,
      r.2.mem ((c.tc : Thread Cert.RefMergeIdeal.nD Cert.RefMergeIdeal.τ).loc Cert.RefMergeIdeal.main_arg0) = m ((c.tc : Thread Cert.RefMergeIdeal.nD Cert.RefMergeIdeal.τ).loc Cert.RefMergeIdeal.main_arg0)
      ∧ r.2.mem ((c.tc : Thread Cert.RefMergeIdeal.nD Cert.RefMergeIdeal.τ).loc Cert.RefMergeIdeal.main_arg1) = m ((c.tc : Thread Cert.RefMergeIdeal.nD Cert.RefMergeIdeal.τ).loc Cert.RefMergeIdeal.main_arg1)
      ∧ r.2.mem ((c.tc : Thread Cert.RefMergeIdeal.nD Cert.RefMergeIdeal.τ).loc Cert.RefMergeIdeal.main_arg2) = m ((c.tc : Thread Cert.RefMergeIdeal.nD Cert.RefMergeIdeal.τ).loc Cert.RefMergeIdeal.main_arg2)
      ∧ r.2.mem ((c.tc : Thread Cert.RefMergeIdeal.nD Cert.RefMergeIdeal.τ).loc Cert.RefMergeIdeal.main_arg3) = m ((c.tc : Thread Cert.RefMergeIdeal.nD Cert.RefMergeIdeal.τ).loc Cert.RefMergeIdeal.main_arg3)
      ∧ r.2.mem ((c.tc : Thread Cert.RefMergeIdeal.nD Cert.RefMergeIdeal.τ).loc Cert.RefMergeIdeal.main_arg4) = m ((c.tc : Thread Cert.RefMergeIdeal.nD Cert.RefMergeIdeal.τ).loc Cert.RefMergeIdeal.main_arg4)
      ∧ r.2.mem ((c.tc : Thread Cert.RefMergeIdeal.nD Cert.RefMergeIdeal.τ).loc Cert.RefMergeIdeal.main_arg5) = m ((c.tc : Thread Cert.RefMergeIdeal.nD Cert.RefMergeIdeal.τ).loc Cert.RefMergeIdeal.main_arg5)
      ∧ r.2.mem ((c.tc : Thread Cert.RefMergeIdeal.nD Cert.RefMergeIdeal.τ).loc Cert.RefMergeIdeal.main_arg6) = m ((c.tc : Thread Cert.RefMergeIdeal.nD Cert.RefMergeIdeal.τ).loc Cert.RefMergeIdeal.main_arg6))
      ∧ r.2.sem = fun _ => 0) :=
  θ_run_mono (Cert.RefMergeIdeal.Value.run m ρ) fun r h => ⟨fun c => (h c).2, sem_eq_zero_of_no_sems (by decide) r.2⟩

/-- Kernel and reference of the output projection and its residual end with the same results. -/
theorem resid : @algebraic_ResidIdeal_RefResidIdeal Cert.ResidIdeal.Gen.facts Cert.RefResidIdeal.Gen.facts := by
  intro m g m' g' _ hargs
  refine ⟨fun c => Cert.ResidIdeal.Product.total (Cert.ResidIdeal.Product.merged m c) (Cert.ResidIdeal.Product.weight m c) (Cert.ResidIdeal.Product.prompt m c) (Cert.ResidIdeal.Product.sample m c),
    θ_run_mono (Cert.ResidIdeal.Value.run_blocks m g) fun r h c => ⟨(h c).1.trans (Cert.ResidIdeal.Product.final m c), (h c).2⟩, θ_run_mono (Cert.RefResidIdeal.Value.run m' g') fun r h c => ?_⟩
  obtain ⟨e0, e1, e2, e3⟩ := hargs c
  exact ⟨(h c).1.trans ((Cert.ResidIdeal.Product.plain _ _ _ _).trans (by
      unfold Cert.ResidIdeal.Product.merged Cert.ResidIdeal.Product.weight Cert.ResidIdeal.Product.prompt Cert.ResidIdeal.Product.sample
      beta_reduce
      rw [← e0, ← e1, ← e2, ← e3] <;> rfl)),
    (h c).2⟩

theorem resid_reference (m : (ℓ : Loc Cert.RefResidIdeal.nD Cert.RefResidIdeal.τ Cert.RefResidIdeal.sig) → Buf (Elt Ideal) ℓ) (ρ : Dev Cert.RefResidIdeal.nD → PrngReg) :
    θ_run (Cert.RefResidIdeal.defs (F := Ideal)) (onTc (τ := Cert.RefResidIdeal.τ) (Cert.RefResidIdeal.main (F := Ideal))) ⟨m, fun _ => 0, ρ⟩ (fun r => (∀ c : Dev Cert.RefResidIdeal.nD,
      r.2.mem ((c.tc : Thread Cert.RefResidIdeal.nD Cert.RefResidIdeal.τ).loc Cert.RefResidIdeal.main_arg0) = m ((c.tc : Thread Cert.RefResidIdeal.nD Cert.RefResidIdeal.τ).loc Cert.RefResidIdeal.main_arg0)
      ∧ r.2.mem ((c.tc : Thread Cert.RefResidIdeal.nD Cert.RefResidIdeal.τ).loc Cert.RefResidIdeal.main_arg1) = m ((c.tc : Thread Cert.RefResidIdeal.nD Cert.RefResidIdeal.τ).loc Cert.RefResidIdeal.main_arg1)
      ∧ r.2.mem ((c.tc : Thread Cert.RefResidIdeal.nD Cert.RefResidIdeal.τ).loc Cert.RefResidIdeal.main_arg2) = m ((c.tc : Thread Cert.RefResidIdeal.nD Cert.RefResidIdeal.τ).loc Cert.RefResidIdeal.main_arg2)
      ∧ r.2.mem ((c.tc : Thread Cert.RefResidIdeal.nD Cert.RefResidIdeal.τ).loc Cert.RefResidIdeal.main_arg3) = m ((c.tc : Thread Cert.RefResidIdeal.nD Cert.RefResidIdeal.τ).loc Cert.RefResidIdeal.main_arg3))
      ∧ r.2.sem = fun _ => 0) :=
  θ_run_mono (Cert.RefResidIdeal.Value.run m ρ) fun r h => ⟨fun c => (h c).2, sem_eq_zero_of_no_sems (by decide) r.2⟩

/-- Kernel and reference of the first layer norm end with the same results. -/
theorem norm : @algebraic_NormIdeal_RefNormIdeal Cert.NormIdeal.Gen.facts Cert.RefNormIdeal.Gen.facts := by
  intro m g m' g' _ hargs
  refine ⟨fun c => Cert.NormIdeal.Rows.normed .f32 (Cert.NormIdeal.Rows.hidden m c) (Cert.NormIdeal.Rows.scale m c) (Cert.NormIdeal.Rows.shift m c), fun c => Cert.NormIdeal.Rows.normed .bf16 (Cert.NormIdeal.Rows.hidden m c) (Cert.NormIdeal.Rows.scale m c) (Cert.NormIdeal.Rows.shift m c),
    θ_run_mono (Cert.NormIdeal.Value.run_blocks m g) fun r h c => ⟨(h c).1.trans (Cert.NormIdeal.Rows.final3 m c), (h c).2.1.trans (Cert.NormIdeal.Rows.final4 m c), (h c).2.2⟩, θ_run_mono (Cert.RefNormIdeal.Value.run m' g') fun r h c => ?_⟩
  obtain ⟨e0, e1, e2⟩ := hargs c
  exact ⟨(h c).1.trans ((Cert.NormIdeal.Rows.plain _ _ _).trans (by
      unfold Cert.NormIdeal.Rows.hidden Cert.NormIdeal.Rows.scale Cert.NormIdeal.Rows.shift
      beta_reduce
      rw [← e0, ← e1, ← e2] <;> rfl)),
    (h c).2.1.trans ((Cert.NormIdeal.Rows.plain _ _ _).trans (by
      unfold Cert.NormIdeal.Rows.hidden Cert.NormIdeal.Rows.scale Cert.NormIdeal.Rows.shift
      beta_reduce
      rw [← e0, ← e1, ← e2] <;> rfl)),
    (h c).2.2⟩

theorem norm_reference (m : (ℓ : Loc Cert.RefNormIdeal.nD Cert.RefNormIdeal.τ Cert.RefNormIdeal.sig) → Buf (Elt Ideal) ℓ) (ρ : Dev Cert.RefNormIdeal.nD → PrngReg) :
    θ_run (Cert.RefNormIdeal.defs (F := Ideal)) (onTc (τ := Cert.RefNormIdeal.τ) (Cert.RefNormIdeal.main (F := Ideal))) ⟨m, fun _ => 0, ρ⟩ (fun r => (∀ c : Dev Cert.RefNormIdeal.nD,
      r.2.mem ((c.tc : Thread Cert.RefNormIdeal.nD Cert.RefNormIdeal.τ).loc Cert.RefNormIdeal.main_arg0) = m ((c.tc : Thread Cert.RefNormIdeal.nD Cert.RefNormIdeal.τ).loc Cert.RefNormIdeal.main_arg0)
      ∧ r.2.mem ((c.tc : Thread Cert.RefNormIdeal.nD Cert.RefNormIdeal.τ).loc Cert.RefNormIdeal.main_arg1) = m ((c.tc : Thread Cert.RefNormIdeal.nD Cert.RefNormIdeal.τ).loc Cert.RefNormIdeal.main_arg1)
      ∧ r.2.mem ((c.tc : Thread Cert.RefNormIdeal.nD Cert.RefNormIdeal.τ).loc Cert.RefNormIdeal.main_arg2) = m ((c.tc : Thread Cert.RefNormIdeal.nD Cert.RefNormIdeal.τ).loc Cert.RefNormIdeal.main_arg2))
      ∧ r.2.sem = fun _ => 0) :=
  θ_run_mono (Cert.RefNormIdeal.Value.run m ρ) fun r h => ⟨fun c => (h c).2.2, sem_eq_zero_of_no_sems (by decide) r.2⟩

/-- Kernel and reference of the memory attention of the prompt end with the same results. -/
theorem memattn : @algebraic_MemAttnIdeal_RefMemAttnIdeal Cert.MemAttnIdeal.Gen.facts Cert.RefMemAttnIdeal.Gen.facts := by
  intro m g m' g' _ hargs
  refine ⟨fun c => Cert.MemAttnIdeal.Heads.attention (Cert.MemAttnIdeal.Heads.z m c) (Cert.MemAttnIdeal.Heads.memory m c),
    θ_run_mono (Cert.MemAttnIdeal.Value.run_blocks m g) fun r h c => ⟨(h c).1.trans (Cert.MemAttnIdeal.Heads.final m c), (h c).2⟩, θ_run_mono (Cert.RefMemAttnIdeal.Value.run m' g') fun r h c => ?_⟩
  obtain ⟨e0, e1⟩ := hargs c
  exact ⟨(h c).1.trans ((Cert.RefMemAttnIdeal.Heads.steps m' c).trans ((Cert.RefMemAttnIdeal.Heads.plain _ _).trans (congrArg₂ (Cert.MemAttnIdeal.Heads.attention) e0 e1))),
    (h c).2⟩

theorem memattn_reference (m : (ℓ : Loc Cert.RefMemAttnIdeal.nD Cert.RefMemAttnIdeal.τ Cert.RefMemAttnIdeal.sig) → Buf (Elt Ideal) ℓ) (ρ : Dev Cert.RefMemAttnIdeal.nD → PrngReg) :
    θ_run (Cert.RefMemAttnIdeal.defs (F := Ideal)) (onTc (τ := Cert.RefMemAttnIdeal.τ) (Cert.RefMemAttnIdeal.main (F := Ideal))) ⟨m, fun _ => 0, ρ⟩ (fun r => (∀ c : Dev Cert.RefMemAttnIdeal.nD,
      r.2.mem ((c.tc : Thread Cert.RefMemAttnIdeal.nD Cert.RefMemAttnIdeal.τ).loc Cert.RefMemAttnIdeal.main_arg0) = m ((c.tc : Thread Cert.RefMemAttnIdeal.nD Cert.RefMemAttnIdeal.τ).loc Cert.RefMemAttnIdeal.main_arg0)
      ∧ r.2.mem ((c.tc : Thread Cert.RefMemAttnIdeal.nD Cert.RefMemAttnIdeal.τ).loc Cert.RefMemAttnIdeal.main_arg1) = m ((c.tc : Thread Cert.RefMemAttnIdeal.nD Cert.RefMemAttnIdeal.τ).loc Cert.RefMemAttnIdeal.main_arg1))
      ∧ r.2.sem = fun _ => 0) :=
  θ_run_mono (Cert.RefMemAttnIdeal.Value.run m ρ) fun r h => ⟨fun c => (h c).2, sem_eq_zero_of_no_sems (by decide) r.2⟩

theorem claim : Cert.Claim := ⟨Cert.HgrnP.Gen.facts, Cert.HgrnPIdeal.Gen.facts, Cert.RefPIdeal.Gen.facts, Cert.MemKv.Gen.facts, Cert.MemKvIdeal.Gen.facts, Cert.RefMemKvIdeal.Gen.facts, Cert.ProjIn.Gen.facts, Cert.ProjInIdeal.Gen.facts, Cert.RefProjInIdeal.Gen.facts, Cert.PeerQuery.Gen.facts, Cert.PeerQueryIdeal.Gen.facts, Cert.RefPeerQueryIdeal.Gen.facts, Cert.Merge.Gen.facts, Cert.MergeIdeal.Gen.facts, Cert.RefMergeIdeal.Gen.facts, Cert.Resid.Gen.facts, Cert.ResidIdeal.Gen.facts, Cert.RefResidIdeal.Gen.facts, Cert.Norm.Gen.facts, Cert.NormIdeal.Gen.facts, Cert.RefNormIdeal.Gen.facts, Cert.MemAttn.Gen.facts, Cert.MemAttnIdeal.Gen.facts, Cert.RefMemAttnIdeal.Gen.facts, Cert.Pre_decay_bounded.Gen.facts,
  fun m ρ _ => Cert.HgrnP.Gen.frame m ρ, fun m ρ _ => Cert.HgrnPIdeal.Gen.frame m ρ, fun m ρ _ => Cert.HgrnPIdeal.Gen.frame m ρ,
  fun m ρ _ => reference_frame m ρ, fun m ρ _ => reference_frame m ρ,
  fun m ρ _ => Cert.MemKv.Gen.frame m ρ, fun m ρ _ => Cert.MemKvIdeal.Gen.frame m ρ, fun m ρ _ => memkv_reference m ρ,
  fun m ρ _ => Cert.ProjIn.Gen.frame m ρ, fun m ρ _ => Cert.ProjInIdeal.Gen.frame m ρ, fun m ρ _ => projin_reference m ρ,
  fun m ρ _ => Cert.PeerQuery.Gen.frame m ρ, fun m ρ _ => Cert.PeerQueryIdeal.Gen.frame m ρ, fun m ρ _ => peerquery_reference m ρ,
  fun m ρ _ => Cert.Merge.Gen.frame m ρ, fun m ρ _ => Cert.MergeIdeal.Gen.frame m ρ, fun m ρ _ => merge_reference m ρ,
  fun m ρ _ => Cert.Resid.Gen.frame m ρ, fun m ρ _ => Cert.ResidIdeal.Gen.frame m ρ, fun m ρ _ => resid_reference m ρ,
  fun m ρ _ => Cert.Norm.Gen.frame m ρ, fun m ρ _ => Cert.NormIdeal.Gen.frame m ρ, fun m ρ _ => norm_reference m ρ,
  fun m ρ _ => Cert.MemAttn.Gen.frame m ρ, fun m ρ _ => Cert.MemAttnIdeal.Gen.frame m ρ, fun m ρ _ => memattn_reference m ρ,
  trivial, hgrn, trivial, memkv, trivial, projin, trivial, peerquery, trivial, merge, trivial, resid, trivial, norm, trivial, memattn⟩

end Cert.Proof

end
